-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "qscale" .f32 0x3E0293EE#32 ((((Real.sqrt 128) * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "bscale" .f32 0x3DD53B95#32 ((((Real.sqrt 192) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S8x4096x8x192 : Shape := ⟨4, ![8, 4096, 8, 192]⟩
abbrev S8x4096x8x128 : Shape := ⟨4, ![8, 4096, 8, 128]⟩
abbrev S_ : Shape := ⟨0, ![]⟩

class Facts : Prop where
  bcast_S_S8x4096x8x192 : S_.BroadcastsInDim S8x4096x8x192 (![] : Fin 0 → Fin S8x4096x8x192.rank)
  reducesTo_S8x4096x8x192_S_d0_1_2_3 : S8x4096x8x192.ReducesTo [0, 1, 2, 3] S_
  h_S_ : 0 < S_.numel

variable [Facts]

def fn {F : FTy → Type} [FloatOps F] (main_arg0 : FVec F S8x4096x8x192 .f32) (main_arg1 : FVec F S8x4096x8x192 .f32) (main_arg2 : FVec F S8x4096x8x128 .f32) : IVec S_ 1 :=
  let main_v0 : FVec F S8x4096x8x192 .f32 := Host.absf main_arg0
  let main_cst : FVec F S_ .f32 := constant S_ .f32 0x7F800000#32
  let main_v1 : FVec F S8x4096x8x192 .f32 := broadcastInDim S8x4096x8x192 ![] bcast_S_S8x4096x8x192 main_cst
  let main_v2 : IVec S8x4096x8x192 1 := cmpf .olt main_v0 main_v1
  let main_c : IVec S_ 1 := constantI S_ 1 1#1
  let main_v3 : IVec S_ 1 := (fun x v => Host.reduce IntOp.andi x v reducesTo_S8x4096x8x192_S_d0_1_2_3 h_S_) main_v2 main_c
  let main_v4 : FVec F S8x4096x8x192 .f32 := Host.absf main_arg1
  let main_cst_0 : FVec F S_ .f32 := constant S_ .f32 0x7F800000#32
  let main_v5 : FVec F S8x4096x8x192 .f32 := broadcastInDim S8x4096x8x192 ![] bcast_S_S8x4096x8x192 main_cst_0
  let main_v6 : IVec S8x4096x8x192 1 := cmpf .olt main_v4 main_v5
  let main_c_1 : IVec S_ 1 := constantI S_ 1 1#1
  let main_v7 : IVec S_ 1 := (fun x v => Host.reduce IntOp.andi x v reducesTo_S8x4096x8x192_S_d0_1_2_3 h_S_) main_v6 main_c_1
  let main_v8 : IVec S_ 1 := andi main_v3 main_v7
  main_v8
-- ==== Kernel.lean ====
abbrev S8x4096x8x192 : Shape := ⟨4, ![8, 4096, 8, 192]⟩
abbrev S8x4096x8x128 : Shape := ⟨4, ![8, 4096, 8, 128]⟩
abbrev S10 : Shape := ⟨1, ![10]⟩
abbrev S_ : Shape := ⟨0, ![]⟩
abbrev S8x4096x8x64 : Shape := ⟨4, ![8, 4096, 8, 64]⟩
abbrev S8x4096x8x256 : Shape := ⟨4, ![8, 4096, 8, 256]⟩
abbrev S32768x4x512 : Shape := ⟨3, ![32768, 4, 512]⟩
abbrev S4x32768x512 : Shape := ⟨3, ![4, 32768, 512]⟩
abbrev S32768x4x256 : Shape := ⟨3, ![32768, 4, 256]⟩
abbrev S4x32768x256 : Shape := ⟨3, ![4, 32768, 256]⟩
abbrev S32768x1024 : Shape := ⟨2, ![32768, 1024]⟩
abbrev S1x1024x512 : Shape := ⟨3, ![1, 1024, 512]⟩
abbrev S1 : Shape := ⟨1, ![1]⟩
abbrev S1x1024x256 : Shape := ⟨3, ![1, 1024, 256]⟩
abbrev S1024x256 : Shape := ⟨2, ![1024, 256]⟩
abbrev S1024x512 : Shape := ⟨2, ![1024, 512]⟩
abbrev S2x1024x1 : Shape := ⟨3, ![2, 1024, 1]⟩
abbrev S2x1024x128 : Shape := ⟨3, ![2, 1024, 128]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩
abbrev S1x1024x128 : Shape := ⟨3, ![1, 1024, 128]⟩
abbrev S1024x128 : Shape := ⟨2, ![1024, 128]⟩

abbrev nBuf : Space → Nat
  | .hbm => 28
  | .vmem => 14
  | .smem => 2
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x192, .f32⟩
  | .hbm, ⟨11, _⟩ => ⟨S8x4096x8x192, .f32⟩
  | .hbm, ⟨12, _⟩ => ⟨S_, .f32⟩
  | .hbm, ⟨13, _⟩ => ⟨S8x4096x8x64, .f32⟩
  | .hbm, ⟨14, _⟩ => ⟨S8x4096x8x256, .f32⟩
  | .hbm, ⟨15, _⟩ => ⟨S32768x4x512, .f32⟩
  | .hbm, ⟨16, _⟩ => ⟨S4x32768x512, .f32⟩
  | .hbm, ⟨17, _⟩ => ⟨S4x32768x512, .bf16⟩
  | .hbm, ⟨18, _⟩ => ⟨S_, .f32⟩
  | .hbm, ⟨19, _⟩ => ⟨S8x4096x8x64, .f32⟩
  | .hbm, ⟨20, _⟩ => ⟨S8x4096x8x256, .f32⟩
  | .hbm, ⟨21, _⟩ => ⟨S32768x4x512, .f32⟩
  | .hbm, ⟨22, _⟩ => ⟨S4x32768x512, .f32⟩
  | .hbm, ⟨23, _⟩ => ⟨S4x32768x512, .bf16⟩
  | .hbm, ⟨24, _⟩ => ⟨S32768x4x256, .f32⟩
  | .hbm, ⟨25, _⟩ => ⟨S4x32768x256, .f32⟩
  | .hbm, ⟨26, _⟩ => ⟨S4x32768x256, .bf16⟩
  | .hbm, ⟨27, _⟩ => ⟨S32768x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S2x1024x1, .f32⟩
  | .local _ .vmem, ⟨12, _⟩ => ⟨S2x1024x1, .f32⟩
  | .local _ .vmem, ⟨13, _⟩ => ⟨S2x1024x128, .f32⟩
  | .local _ .smem, ⟨0, _⟩ => ⟨S10, .i32⟩
  | .local _ .smem, ⟨1, _⟩ => ⟨S10, .i32⟩
  | _, _ => ⟨S8x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![arg1.toNat, v3.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let c0_i32_0 : BitVec 32 := 0#32
  ![arg1.toNat, v3.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let c0_i32_0 : BitVec 32 := 0#32
  ![arg1.toNat, v3.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x8x192 : Shape := ⟨4, ![8, 4096, 8, 192]⟩
abbrev S8x4096x8x128 : Shape := ⟨4, ![8, 4096, 8, 128]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096x4096 : Shape := ⟨4, ![8, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S8x8x4096x4096, .f32⟩
  | .hbm, ⟨28, _⟩ => ⟨S_, .f32⟩
  | .hbm, ⟨29, _⟩ => ⟨S_, .f32⟩
  | .hbm, ⟨30, _⟩ => ⟨S8x8x4096x4096, .f32⟩
  | .hbm, ⟨31, _⟩ => ⟨S8x8x4096x4096, .f32⟩
  | .hbm, ⟨32, _⟩ => ⟨S1x1x4096x4096, .i1⟩
  | .hbm, ⟨33, _⟩ => ⟨S_, .f32⟩
  | .hbm, ⟨34, _⟩ => ⟨S_, .f32⟩
  | .hbm, ⟨35, _⟩ => ⟨S8x8x4096x4096, .i1⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S8x8x4096, .f32⟩
  | .hbm, ⟨40, _⟩ => ⟨S_, .f32⟩
  | .hbm, ⟨41, _⟩ => ⟨S8x8x4096, .f32⟩
  | .hbm, ⟨42, _⟩ => ⟨S8x8x4096, .f32⟩
  | .hbm, ⟨43, _⟩ => ⟨S8x8x4096x1, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096, .f32⟩
  | .hbm, ⟨49, _⟩ => ⟨S8x8x4096x1, .f32⟩
  | .hbm, ⟨50, _⟩ => ⟨S8x8x4096x4096, .f32⟩
  | .hbm, ⟨51, _⟩ => ⟨S8x8x4096x4096, .f32⟩
  | .hbm, ⟨52, _⟩ => ⟨S8x8x128x4096, .f32⟩
  | .hbm, ⟨53, _⟩ => ⟨S8x4096x8x128, .f32⟩
  | .hbm, ⟨54, _⟩ => ⟨S32768x1024, .f32⟩
  | .hbm, ⟨55, _⟩ => ⟨S32768x1024, .bf16⟩
  | _, _ => ⟨S8x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩

abbrev nD : Nat := 1
abbrev τ : Topo := Topo.v7x

variable {F : FTy → Type} [FloatOps F]
-- ==== Kernel2.lean ====
abbrev S8x4096x2048 : Shape := ⟨3, ![8, 4096, 2048]⟩
abbrev S8x12288 : Shape := ⟨2, ![8, 12288]⟩
abbrev S2048x8256 : Shape := ⟨2, ![2048, 8256]⟩
abbrev S8256 : Shape := ⟨1, ![8256]⟩
abbrev S512 : Shape := ⟨1, ![512]⟩
abbrev S2048x1024 : Shape := ⟨2, ![2048, 1024]⟩
abbrev S2048x512 : Shape := ⟨2, ![2048, 512]⟩
abbrev S2048x64 : Shape := ⟨2, ![2048, 64]⟩
abbrev S2048x2048 : Shape := ⟨2, ![2048, 2048]⟩
abbrev S_ : Shape := ⟨0, ![]⟩
abbrev S2048x256 : Shape := ⟨2, ![2048, 256]⟩
abbrev S2048x32 : Shape := ⟨2, ![2048, 32]⟩
abbrev S2048x8704 : Shape := ⟨2, ![2048, 8704]⟩
abbrev S2048x17x512 : Shape := ⟨3, ![2048, 17, 512]⟩
abbrev S17x2048x512 : Shape := ⟨3, ![17, 2048, 512]⟩
abbrev S1024 : Shape := ⟨1, ![1024]⟩
abbrev S64 : Shape := ⟨1, ![64]⟩
abbrev S2048 : Shape := ⟨1, ![2048]⟩
abbrev S256 : Shape := ⟨1, ![256]⟩
abbrev S32 : Shape := ⟨1, ![32]⟩
abbrev S8704 : Shape := ⟨1, ![8704]⟩
abbrev S1x8704 : Shape := ⟨2, ![1, 8704]⟩
abbrev S32768x2048 : Shape := ⟨2, ![32768, 2048]⟩
abbrev S8x6x1x2048 : Shape := ⟨4, ![8, 6, 1, 2048]⟩
abbrev S1x512 : Shape := ⟨2, ![1, 512]⟩
abbrev S32768x8704 : Shape := ⟨2, ![32768, 8704]⟩
abbrev S1024x2048 : Shape := ⟨2, ![1024, 2048]⟩
abbrev S1x1x1x2048 : Shape := ⟨4, ![1, 1, 1, 2048]⟩
abbrev S1x2048x512 : Shape := ⟨3, ![1, 2048, 512]⟩
abbrev S1024x512 : Shape := ⟨2, ![1024, 512]⟩
abbrev S1x2048 : Shape := ⟨2, ![1, 2048]⟩
abbrev S1024x1 : Shape := ⟨2, ![1024, 1]⟩

abbrev nBuf : Space → Nat
  | .hbm => 47
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x8256, .f32⟩
  | .hbm, ⟨3, _⟩ => ⟨S8256, .f32⟩
  | .hbm, ⟨4, _⟩ => ⟨S512, .f32⟩
  | .hbm, ⟨5, _⟩ => ⟨S512, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x512, .f32⟩
  | .hbm, ⟨10, _⟩ => ⟨S2048x512, .f32⟩
  | .hbm, ⟨11, _⟩ => ⟨S2048x64, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x64, .f32⟩
  | .hbm, ⟨16, _⟩ => ⟨S_, .f32⟩
  | .hbm, ⟨17, _⟩ => ⟨S2048x256, .f32⟩
  | .hbm, ⟨18, _⟩ => ⟨S2048x32, .f32⟩
  | .hbm, ⟨19, _⟩ => ⟨S2048x32, .f32⟩
  | .hbm, ⟨20, _⟩ => ⟨S2048x64, .f32⟩
  | .hbm, ⟨21, _⟩ => ⟨S2048x8704, .f32⟩
  | .hbm, ⟨22, _⟩ => ⟨S2048x8704, .bf16⟩
  | .hbm, ⟨23, _⟩ => ⟨S2048x17x512, .bf16⟩
  | .hbm, ⟨24, _⟩ => ⟨S17x2048x512, .bf16⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S512, .f32⟩
  | .hbm, ⟨29, _⟩ => ⟨S512, .f32⟩
  | .hbm, ⟨30, _⟩ => ⟨S64, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S256, .f32⟩
  | .hbm, ⟨37, _⟩ => ⟨S32, .f32⟩
  | .hbm, ⟨38, _⟩ => ⟨S32, .f32⟩
  | .hbm, ⟨39, _⟩ => ⟨S64, .f32⟩
  | .hbm, ⟨40, _⟩ => ⟨S8704, .f32⟩
  | .hbm, ⟨41, _⟩ => ⟨S1x8704, .f32⟩
  | .hbm, ⟨42, _⟩ => ⟨S32768x2048, .f32⟩
  | .hbm, ⟨43, _⟩ => ⟨S8x6x1x2048, .f32⟩
  | .hbm, ⟨44, _⟩ => ⟨S1x512, .f32⟩
  | .hbm, ⟨45, _⟩ => ⟨S1x512, .f32⟩
  | .hbm, ⟨46, _⟩ => ⟨S32768x8704, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 17], ![false, false]⟩

def k0_cond2 (i : grid0.Coords) : BitVec 1 :=
  let arg1 : BitVec 32 := BitVec.ofNat 32 (i 1).val
  let c8_i32 : BitVec 32 := 8#32
  let v11 : BitVec 1 := Scalar.cmpi .slt arg1 c8_i32
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c8_i32_8 : BitVec 32 := 8#32
  let v14 : BitVec 1 := Scalar.cmpi .sge arg1 c8_i32_8
  let c10_i32 : BitVec 32 := 10#32
  let v15 : BitVec 1 := Scalar.cmpi .slt arg1 c10_i32
  let v16 : BitVec 1 := Scalar.andi v14 v15
  let v17 : BitVec 32 := Scalar.extui v16
  let c0_i32_9 : BitVec 32 := 0#32
  let v18 : BitVec 1 := Scalar.cmpi .ne v17 c0_i32_9
  v18

def k0_cond4 (i : grid0.Coords) : BitVec 1 :=
  let arg1 : BitVec 32 := BitVec.ofNat 32 (i 1).val
  let c10_i32_10 : BitVec 32 := 10#32
  let v19 : BitVec 1 := Scalar.cmpi .sge arg1 c10_i32_10
  let c14_i32 : BitVec 32 := 14#32
  let v20 : BitVec 1 := Scalar.cmpi .slt arg1 c14_i32
  let v21 : BitVec 1 := Scalar.andi v19 v20
  let c16_i32 : BitVec 32 := 16#32
  let v22 : BitVec 1 := Scalar.cmpi .eq arg1 c16_i32
  let v23 : BitVec 1 := Scalar.ori v21 v22
  let v24 : BitVec 32 := Scalar.extui v23
  let c0_i32_11 : BitVec 32 := 0#32
  let v25 : BitVec 1 := Scalar.cmpi .ne v24 c0_i32_11
  v25

def k0_cond5 (i : grid0.Coords) : BitVec 1 :=
  let arg1 : BitVec 32 := BitVec.ofNat 32 (i 1).val
  let c14_i32_12 : BitVec 32 := 14#32
  let v26 : BitVec 1 := Scalar.cmpi .eq arg1 c14_i32_12
  let v27 : BitVec 32 := Scalar.extui v26
  let c0_i32_13 : BitVec 32 := 0#32
  let v28 : BitVec 1 := Scalar.cmpi .ne v27 c0_i32_13
  v28

def k0_cond6 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "qscale" => some ((((Real.sqrt 128) * (Real.log 2))⁻¹ : ℝ) : EReal)
  | _ => none
-- ==== Reference2Ideal.lean ====
abbrev S8x4096x2048 : Shape := ⟨3, ![8, 4096, 2048]⟩
abbrev S8x12288 : Shape := ⟨2, ![8, 12288]⟩
abbrev S2048x8256 : Shape := ⟨2, ![2048, 8256]⟩
abbrev S8256 : Shape := ⟨1, ![8256]⟩
abbrev S512 : Shape := ⟨1, ![512]⟩
abbrev S8x6x2048 : Shape := ⟨3, ![8, 6, 2048]⟩
abbrev S8x1x2048 : Shape := ⟨3, ![8, 1, 2048]⟩
abbrev S8x2048 : Shape := ⟨2, ![8, 2048]⟩
abbrev S_ : Shape := ⟨0, ![]⟩
abbrev S8x4096x8256 : Shape := ⟨3, ![8, 4096, 8256]⟩
abbrev S1x1x8256 : Shape := ⟨3, ![1, 1, 8256]⟩
abbrev S8x4096x1024 : Shape := ⟨3, ![8, 4096, 1024]⟩
abbrev S8x4096x512 : Shape := ⟨3, ![8, 4096, 512]⟩
abbrev S8x4096x64 : Shape := ⟨3, ![8, 4096, 64]⟩
abbrev S8x4096x32 : Shape := ⟨3, ![8, 4096, 32]⟩
abbrev S8x4096 : Shape := ⟨2, ![8, 4096]⟩
abbrev S8x4096x1 : Shape := ⟨3, ![8, 4096, 1]⟩
abbrev S1x1x512 : Shape := ⟨3, ![1, 1, 512]⟩
abbrev S8x4096x256 : Shape := ⟨3, ![8, 4096, 256]⟩
abbrev S8x4096x8704 : Shape := ⟨3, ![8, 4096, 8704]⟩
abbrev S32768x8704 : Shape := ⟨2, ![32768, 8704]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x12288, .f32⟩
  | .hbm, ⟨2, _⟩ => ⟨S2048x8256, .f32⟩
  | .hbm, ⟨3, _⟩ => ⟨S8256, .f32⟩
  | .hbm, ⟨4, _⟩ => ⟨S512, .f32⟩
  | .hbm, ⟨5, _⟩ => ⟨S512, .f32⟩
  | .hbm, ⟨6, _⟩ => ⟨S8x6x2048, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x1x2048, .f32⟩
  | .hbm, ⟨11, _⟩ => ⟨S8x2048, .f32⟩
  | .hbm, ⟨12, _⟩ => ⟨S8x1x2048, .f32⟩
  | .hbm, ⟨13, _⟩ => ⟨S_, .f32⟩
  | .hbm, ⟨14, _⟩ => ⟨S8x1x2048, .f32⟩
  | .hbm, ⟨15, _⟩ => ⟨S8x1x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x8256, .f32⟩
  | .hbm, ⟨21, _⟩ => ⟨S1x1x8256, .f32⟩
  | .hbm, ⟨22, _⟩ => ⟨S8x4096x8256, .f32⟩
  | .hbm, ⟨23, _⟩ => ⟨S8x4096x8256, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x512, .f32⟩
  | .hbm, ⟨28, _⟩ => ⟨S8x4096x512, .f32⟩
  | .hbm, ⟨29, _⟩ => ⟨S8x4096x64, .f32⟩
  | .hbm, ⟨30, _⟩ => ⟨S8x4096x2048, .f32⟩
  | .hbm, ⟨31, _⟩ => ⟨S8x4096x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x32, .f32⟩
  | .hbm, ⟨40, _⟩ => ⟨S8x4096x32, .f32⟩
  | .hbm, ⟨41, _⟩ => ⟨S8x4096x64, .f32⟩
  | .hbm, ⟨42, _⟩ => ⟨S8x4096x2048, .f32⟩
  | .hbm, ⟨43, _⟩ => ⟨S8x4096x2048, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S8x4096x2048, .f32⟩
  | .hbm, ⟨52, _⟩ => ⟨S_, .f32⟩
  | .hbm, ⟨53, _⟩ => ⟨S8x4096x2048, .f32⟩
  | .hbm, ⟨54, _⟩ => ⟨S8x4096x2048, .f32⟩
  | .hbm, ⟨55, _⟩ => ⟨S_, .f32⟩
  | .hbm, ⟨56, _⟩ => ⟨S8x4096x2048, .f32⟩
  | .hbm, ⟨57, _⟩ => ⟨S8x4096x2048, .f32⟩
  | .hbm, ⟨58, _⟩ => ⟨S8x4096x512, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x512, .f32⟩
  | .hbm, ⟨70, _⟩ => ⟨S8x4096x512, .f32⟩
  | .hbm, ⟨71, _⟩ => ⟨S1x1x512, .f32⟩
  | .hbm, ⟨72, _⟩ => ⟨S8x4096x512, .f32⟩
  | .hbm, ⟨73, _⟩ => ⟨S8x4096x512, .f32⟩
  | .hbm, ⟨74, _⟩ => ⟨S8x4096x512, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x512, .f32⟩
  | .hbm, ⟨86, _⟩ => ⟨S8x4096x512, .f32⟩
  | .hbm, ⟨87, _⟩ => ⟨S1x1x512, .f32⟩
  | .hbm, ⟨88, _⟩ => ⟨S8x4096x512, .f32⟩
  | .hbm, ⟨89, _⟩ => ⟨S8x4096x512, .f32⟩
  | .hbm, ⟨90, _⟩ => ⟨S_, .f32⟩
  | .hbm, ⟨91, _⟩ => ⟨S8x4096x64, .f32⟩
  | .hbm, ⟨92, _⟩ => ⟨S_, .f32⟩
  | .hbm, ⟨93, _⟩ => ⟨S8x4096x64, .f32⟩
  | .hbm, ⟨94, _⟩ => ⟨S_, .f32⟩
  | .hbm, ⟨95, _⟩ => ⟨S8x4096x256, .f32⟩
  | .hbm, ⟨96, _⟩ => ⟨S8x4096x8704, .f32⟩
  | .hbm, ⟨97, _⟩ => ⟨S32768x8704, .f32⟩
  | .hbm, ⟨98, _⟩ => ⟨S32768x8704, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel3.lean ====
abbrev S32768x1024 : Shape := ⟨2, ![32768, 1024]⟩
abbrev S32768x8704 : Shape := ⟨2, ![32768, 8704]⟩
abbrev S8x4096x2048 : Shape := ⟨3, ![8, 4096, 2048]⟩
abbrev S8x12288 : Shape := ⟨2, ![8, 12288]⟩
abbrev S1024x2048 : Shape := ⟨2, ![1024, 2048]⟩
abbrev S2048x2048 : Shape := ⟨2, ![2048, 2048]⟩
abbrev S2048 : Shape := ⟨1, ![2048]⟩
abbrev S32768x2048 : Shape := ⟨2, ![32768, 2048]⟩
abbrev S8x6x1x2048 : Shape := ⟨4, ![8, 6, 1, 2048]⟩
abbrev S1x2048 : Shape := ⟨2, ![1, 2048]⟩
abbrev S512x1024 : Shape := ⟨2, ![512, 1024]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 22
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x8704, .f32⟩
  | .hbm, ⟨3, _⟩ => ⟨S8x4096x2048, .f32⟩
  | .hbm, ⟨4, _⟩ => ⟨S8x12288, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S32768x1024, .bf16⟩
  | .hbm, ⟨11, _⟩ => ⟨S32768x1024, .bf16⟩
  | .hbm, ⟨12, _⟩ => ⟨S32768x8704, .bf16⟩
  | .hbm, ⟨13, _⟩ => ⟨S32768x2048, .f32⟩
  | .hbm, ⟨14, _⟩ => ⟨S8x6x1x2048, .f32⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S1x2048, .f32⟩
  | .hbm, ⟨20, _⟩ => ⟨S32768x2048, .f32⟩
  | .hbm, ⟨21, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S32768x8704 : Shape := ⟨2, ![32768, 8704]⟩
abbrev S8x4096x2048 : Shape := ⟨3, ![8, 4096, 2048]⟩
abbrev S8x12288 : Shape := ⟨2, ![8, 12288]⟩
abbrev S1024x2048 : Shape := ⟨2, ![1024, 2048]⟩
abbrev S2048x2048 : Shape := ⟨2, ![2048, 2048]⟩
abbrev S2048 : Shape := ⟨1, ![2048]⟩
abbrev S8x6x2048 : Shape := ⟨3, ![8, 6, 2048]⟩
abbrev S8x1x2048 : Shape := ⟨3, ![8, 1, 2048]⟩
abbrev S8x2048 : Shape := ⟨2, ![8, 2048]⟩
abbrev S8x4096x8704 : Shape := ⟨3, ![8, 4096, 8704]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x8704, .f32⟩
  | .hbm, ⟨3, _⟩ => ⟨S8x4096x2048, .f32⟩
  | .hbm, ⟨4, _⟩ => ⟨S8x12288, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S8x6x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | .hbm, ⟨19, _⟩ => ⟨S8x1x2048, .f32⟩
  | .hbm, ⟨20, _⟩ => ⟨S8x4096x8704, .f32⟩
  | .hbm, ⟨21, _⟩ => ⟨S8x4096x2048, .f32⟩
  | .hbm, ⟨22, _⟩ => ⟨S8x4096x2048, .f32⟩
  | .hbm, ⟨23, _⟩ => ⟨S8x4096x1024, .f32⟩
  | .hbm, ⟨24, _⟩ => ⟨S8x4096x2048, .f32⟩
  | .hbm, ⟨25, _⟩ => ⟨S8x4096x1024, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x2048, .f32⟩
  | .hbm, ⟨44, _⟩ => ⟨S8x4096x2048, .f32⟩
  | .hbm, ⟨45, _⟩ => ⟨S8x4096x2048, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x2048, .f32⟩
  | .hbm, ⟨53, _⟩ => ⟨S8x4096x2048, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x2048, .f32⟩
  | .hbm, ⟨59, _⟩ => ⟨S8x4096x2048, .f32⟩
  | .hbm, ⟨60, _⟩ => ⟨S1x1x2048, .f32⟩
  | .hbm, ⟨61, _⟩ => ⟨S8x4096x2048, .f32⟩
  | .hbm, ⟨62, _⟩ => ⟨S8x4096x2048, .f32⟩
  | .hbm, ⟨63, _⟩ => ⟨S1x1x2048, .f32⟩
  | .hbm, ⟨64, _⟩ => ⟨S8x4096x2048, .f32⟩
  | .hbm, ⟨65, _⟩ => ⟨S8x4096x2048, .f32⟩
  | .hbm, ⟨66, _⟩ => ⟨S_, .f32⟩
  | .hbm, ⟨67, _⟩ => ⟨S8x1x2048, .f32⟩
  | .hbm, ⟨68, _⟩ => ⟨S8x1x2048, .f32⟩
  | .hbm, ⟨69, _⟩ => ⟨S8x4096x2048, .f32⟩
  | .hbm, ⟨70, _⟩ => ⟨S8x4096x2048, .f32⟩
  | .hbm, ⟨71, _⟩ => ⟨S8x4096x2048, .f32⟩
  | .hbm, ⟨72, _⟩ => ⟨S8x4096x2048, .f32⟩
  | .hbm, ⟨73, _⟩ => ⟨S32768x2048, .f32⟩
  | .hbm, ⟨74, _⟩ => ⟨S32768x2048, .f32⟩
  | .hbm, ⟨75, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S32768x512 : Shape := ⟨2, ![32768, 512]⟩
abbrev S32768x64 : Shape := ⟨2, ![32768, 64]⟩
abbrev S32768x32 : Shape := ⟨2, ![32768, 32]⟩
abbrev S512x1536 : Shape := ⟨2, ![512, 1536]⟩
abbrev S512x2048 : Shape := ⟨2, ![512, 2048]⟩
abbrev S_ : Shape := ⟨0, ![]⟩
abbrev S32768x7168 : Shape := ⟨2, ![32768, 7168]⟩
abbrev S32768x256 : Shape := ⟨2, ![32768, 256]⟩
abbrev S32768x8704 : Shape := ⟨2, ![32768, 8704]⟩
abbrev S32768x128 : Shape := ⟨2, ![32768, 128]⟩
abbrev S512x8x192 : Shape := ⟨3, ![512, 8, 192]⟩
abbrev S512x8x128 : Shape := ⟨3, ![512, 8, 128]⟩
abbrev S512x8x64 : Shape := ⟨3, ![512, 8, 64]⟩
abbrev S512x8x256 : Shape := ⟨3, ![512, 8, 256]⟩
abbrev S512x8x32 : Shape := ⟨3, ![512, 8, 32]⟩
abbrev S512x1024 : Shape := ⟨2, ![512, 1024]⟩
abbrev S4x32768x512 : Shape := ⟨3, ![4, 32768, 512]⟩
abbrev S4x32768x256 : Shape := ⟨3, ![4, 32768, 256]⟩
abbrev S512x512 : Shape := ⟨2, ![512, 512]⟩
abbrev S512x128 : Shape := ⟨2, ![512, 128]⟩
abbrev S4x512x512 : Shape := ⟨3, ![4, 512, 512]⟩
abbrev S4x512x256 : Shape := ⟨3, ![4, 512, 256]⟩
abbrev S1x512x128 : Shape := ⟨3, ![1, 512, 128]⟩

abbrev nBuf : Space → Nat
  | .hbm => 49
  | .vmem => 22
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x64, .f32⟩
  | .hbm, ⟨3, _⟩ => ⟨S32768x32, .f32⟩
  | .hbm, ⟨4, _⟩ => ⟨S32768x32, .f32⟩
  | .hbm, ⟨5, _⟩ => ⟨S512x1536, .f32⟩
  | .hbm, ⟨6, _⟩ => ⟨S512x2048, .f32⟩
  | .hbm, ⟨7, _⟩ => ⟨S_, .f32⟩
  | .hbm, ⟨8, _⟩ => ⟨S32768x7168, .f32⟩
  | .hbm, ⟨9, _⟩ => ⟨S_, .f32⟩
  | .hbm, ⟨10, _⟩ => ⟨S32768x64, .f32⟩
  | .hbm, ⟨11, _⟩ => ⟨S32768x32, .f32⟩
  | .hbm, ⟨12, _⟩ => ⟨S32768x32, .f32⟩
  | .hbm, ⟨13, _⟩ => ⟨S32768x64, .f32⟩
  | .hbm, ⟨14, _⟩ => ⟨S_, .f32⟩
  | .hbm, ⟨15, _⟩ => ⟨S32768x64, .f32⟩
  | .hbm, ⟨16, _⟩ => ⟨S_, .f32⟩
  | .hbm, ⟨17, _⟩ => ⟨S32768x256, .f32⟩
  | .hbm, ⟨18, _⟩ => ⟨S32768x8704, .f32⟩
  | .hbm, ⟨19, _⟩ => ⟨S_, .f32⟩
  | .hbm, ⟨20, _⟩ => ⟨S32768x64, .f32⟩
  | .hbm, ⟨21, _⟩ => ⟨S32768x128, .f32⟩
  | .hbm, ⟨22, _⟩ => ⟨S32768x32, .f32⟩
  | .hbm, ⟨23, _⟩ => ⟨S32768x128, .f32⟩
  | .hbm, ⟨24, _⟩ => ⟨S512x8x192, .f32⟩
  | .hbm, ⟨25, _⟩ => ⟨S512x8x128, .f32⟩
  | .hbm, ⟨26, _⟩ => ⟨S512x8x64, .f32⟩
  | .hbm, ⟨27, _⟩ => ⟨S_, .f32⟩
  | .hbm, ⟨28, _⟩ => ⟨S512x8x64, .f32⟩
  | .hbm, ⟨29, _⟩ => ⟨S512x8x256, .f32⟩
  | .hbm, ⟨30, _⟩ => ⟨S512x2048, .f32⟩
  | .hbm, ⟨31, _⟩ => ⟨S512x8x32, .f32⟩
  | .hbm, ⟨32, _⟩ => ⟨S512x8x32, .f32⟩
  | .hbm, ⟨33, _⟩ => ⟨S512x8x64, .f32⟩
  | .hbm, ⟨34, _⟩ => ⟨S512x8x128, .f32⟩
  | .hbm, ⟨35, _⟩ => ⟨S512x1024, .f32⟩
  | .hbm, ⟨36, _⟩ => ⟨S512x8x256, .f32⟩
  | .hbm, ⟨37, _⟩ => ⟨S512x8x128, .f32⟩
  | .hbm, ⟨38, _⟩ => ⟨S512x1024, .f32⟩
  | .hbm, ⟨39, _⟩ => ⟨S512x8x128, .f32⟩
  | .hbm, ⟨40, _⟩ => ⟨S512x1024, .f32⟩
  | .hbm, ⟨41, _⟩ => ⟨S512x2048, .bf16⟩
  | .hbm, ⟨42, _⟩ => ⟨S512x1024, .bf16⟩
  | .hbm, ⟨43, _⟩ => ⟨S512x1024, .bf16⟩
  | .hbm, ⟨44, _⟩ => ⟨S512x1024, .bf16⟩
  | .hbm, ⟨45, _⟩ => ⟨S32768x8704, .bf16⟩
  | .hbm, ⟨46, _⟩ => ⟨S4x32768x512, .bf16⟩
  | .hbm, ⟨47, _⟩ => ⟨S4x32768x512, .bf16⟩
  | .hbm, ⟨48, _⟩ => ⟨S4x32768x256, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x512x512, .bf16⟩
  | .local _ .vmem, ⟨17, _⟩ => ⟨S4x512x512, .bf16⟩
  | .local _ .vmem, ⟨18, _⟩ => ⟨S4x512x512, .bf16⟩
  | .local _ .vmem, ⟨19, _⟩ => ⟨S4x512x512, .bf16⟩
  | .local _ .vmem, ⟨20, _⟩ => ⟨S4x512x256, .bf16⟩
  | .local _ .vmem, ⟨21, _⟩ => ⟨S4x512x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_3 (i : grid0.Coords) : Fin 2 → Nat :=
  let arg0 : BitVec 32 := BitVec.ofNat 32 (i 0).val
  let c65_i32 : BitVec 32 := 65#32
  let c0_i32 : BitVec 32 := 0#32
  ![arg0.toNat, c65_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F] [Named F]
def κ : String → Option EReal := fun
  | "bscale" => some ((((Real.sqrt 192) * (Real.log 2))⁻¹ : ℝ) : EReal)
  | _ => none
-- ==== Reference4Ideal.lean ====
abbrev S32768x512 : Shape := ⟨2, ![32768, 512]⟩
abbrev S32768x64 : Shape := ⟨2, ![32768, 64]⟩
abbrev S32768x32 : Shape := ⟨2, ![32768, 32]⟩
abbrev S512x1536 : Shape := ⟨2, ![512, 1536]⟩
abbrev S512x2048 : Shape := ⟨2, ![512, 2048]⟩
abbrev S32768x1x32 : Shape := ⟨3, ![32768, 1, 32]⟩
abbrev S32768x1536 : Shape := ⟨2, ![32768, 1536]⟩
abbrev S32768x8x192 : Shape := ⟨3, ![32768, 8, 192]⟩
abbrev S32768x8x128 : Shape := ⟨3, ![32768, 8, 128]⟩
abbrev S32768x8x64 : Shape := ⟨3, ![32768, 8, 64]⟩
abbrev S32768x8x32 : Shape := ⟨3, ![32768, 8, 32]⟩
abbrev S32768x2048 : Shape := ⟨2, ![32768, 2048]⟩
abbrev S32768x8x256 : Shape := ⟨3, ![32768, 8, 256]⟩
abbrev S32768x1x64 : Shape := ⟨3, ![32768, 1, 64]⟩
abbrev S_ : Shape := ⟨0, ![]⟩
abbrev S32768x4x512 : Shape := ⟨3, ![32768, 4, 512]⟩
abbrev S4x32768x512 : Shape := ⟨3, ![4, 32768, 512]⟩
abbrev S32768x4x256 : Shape := ⟨3, ![32768, 4, 256]⟩
abbrev S4x32768x256 : Shape := ⟨3, ![4, 32768, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x64, .f32⟩
  | .hbm, ⟨3, _⟩ => ⟨S32768x32, .f32⟩
  | .hbm, ⟨4, _⟩ => ⟨S32768x32, .f32⟩
  | .hbm, ⟨5, _⟩ => ⟨S512x1536, .f32⟩
  | .hbm, ⟨6, _⟩ => ⟨S512x2048, .f32⟩
  | .hbm, ⟨7, _⟩ => ⟨S32768x1x32, .f32⟩
  | .hbm, ⟨8, _⟩ => ⟨S32768x1x32, .f32⟩
  | .hbm, ⟨9, _⟩ => ⟨S32768x1536, .f32⟩
  | .hbm, ⟨10, _⟩ => ⟨S32768x8x192, .f32⟩
  | .hbm, ⟨11, _⟩ => ⟨S32768x8x128, .f32⟩
  | .hbm, ⟨12, _⟩ => ⟨S32768x8x64, .f32⟩
  | .hbm, ⟨13, _⟩ => ⟨S32768x8x32, .f32⟩
  | .hbm, ⟨14, _⟩ => ⟨S32768x8x32, .f32⟩
  | .hbm, ⟨15, _⟩ => ⟨S32768x8x32, .f32⟩
  | .hbm, ⟨16, _⟩ => ⟨S32768x8x32, .f32⟩
  | .hbm, ⟨17, _⟩ => ⟨S32768x8x32, .f32⟩
  | .hbm, ⟨18, _⟩ => ⟨S32768x8x32, .f32⟩
  | .hbm, ⟨19, _⟩ => ⟨S32768x8x32, .f32⟩
  | .hbm, ⟨20, _⟩ => ⟨S32768x8x32, .f32⟩
  | .hbm, ⟨21, _⟩ => ⟨S32768x8x32, .f32⟩
  | .hbm, ⟨22, _⟩ => ⟨S32768x8x32, .f32⟩
  | .hbm, ⟨23, _⟩ => ⟨S32768x8x32, .f32⟩
  | .hbm, ⟨24, _⟩ => ⟨S32768x8x32, .f32⟩
  | .hbm, ⟨25, _⟩ => ⟨S32768x8x64, .f32⟩
  | .hbm, ⟨26, _⟩ => ⟨S32768x2048, .f32⟩
  | .hbm, ⟨27, _⟩ => ⟨S32768x8x256, .f32⟩
  | .hbm, ⟨28, _⟩ => ⟨S32768x8x128, .f32⟩
  | .hbm, ⟨29, _⟩ => ⟨S32768x8x128, .f32⟩
  | .hbm, ⟨30, _⟩ => ⟨S32768x1x64, .f32⟩
  | .hbm, ⟨31, _⟩ => ⟨S32768x1x32, .f32⟩
  | .hbm, ⟨32, _⟩ => ⟨S32768x1x32, .f32⟩
  | .hbm, ⟨33, _⟩ => ⟨S32768x1x32, .f32⟩
  | .hbm, ⟨34, _⟩ => ⟨S32768x1x32, .f32⟩
  | .hbm, ⟨35, _⟩ => ⟨S32768x1x32, .f32⟩
  | .hbm, ⟨36, _⟩ => ⟨S32768x1x32, .f32⟩
  | .hbm, ⟨37, _⟩ => ⟨S32768x1x32, .f32⟩
  | .hbm, ⟨38, _⟩ => ⟨S32768x1x32, .f32⟩
  | .hbm, ⟨39, _⟩ => ⟨S32768x1x64, .f32⟩
  | .hbm, ⟨40, _⟩ => ⟨S32768x8x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32768x8x128, .f32⟩
  | .hbm, ⟨48, _⟩ => ⟨S32768x8x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32768x8x64, .f32⟩
  | .hbm, ⟨56, _⟩ => ⟨S32768x8x64, .f32⟩
  | .hbm, ⟨57, _⟩ => ⟨S_, .f32⟩
  | .hbm, ⟨58, _⟩ => ⟨S32768x8x64, .f32⟩
  | .hbm, ⟨59, _⟩ => ⟨S32768x8x256, .f32⟩
  | .hbm, ⟨60, _⟩ => ⟨S32768x4x512, .f32⟩
  | .hbm, ⟨61, _⟩ => ⟨S4x32768x512, .f32⟩
  | .hbm, ⟨62, _⟩ => ⟨S32768x8x256, .f32⟩
  | .hbm, ⟨63, _⟩ => ⟨S32768x4x512, .f32⟩
  | .hbm, ⟨64, _⟩ => ⟨S4x32768x512, .f32⟩
  | .hbm, ⟨65, _⟩ => ⟨S32768x4x256, .f32⟩
  | .hbm, ⟨66, _⟩ => ⟨S4x32768x256, .f32⟩
  | .hbm, ⟨67, _⟩ => ⟨S4x32768x512, .bf16⟩
  | .hbm, ⟨68, _⟩ => ⟨S4x32768x512, .bf16⟩
  | .hbm, ⟨69, _⟩ => ⟨S4x32768x256, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Proof.FlashKit.lean ====
/- The launch set-up of the attention call: what the region finds in memory, the two prefetched tables as the
   literal tables of the host program, the windows' blocks, and the buffers the body is handed. -/
module

public import proofs.«01_k».proof.Proof.Gen.KernelIdeal.Launch
public import proofs.«01_k».proof.Proof.Gen.KernelIdeal.Skeleton
public import Idealize.ShloMosaic.PureOps.Ideal
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_flash (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The literal tables, as the contents of the two prefetched buffers. -/
def tbl : pre0.Contents (Elt F) := fun | 0 => fun i => lit0 (S10.rowMajor i) | 1 => fun i => lit1 (S10.rowMajor i)

theorem V_c (c : Dev nD) : V m c main_c = fun i => lit0 (S10.rowMajor i) := by
  unfold V
  after_results
  rfl

theorem V_c0 (c : Dev nD) : V m c main_c_0 = fun i => lit1 (S10.rowMajor i) := by
  unfold V
  after_results
  rfl

/-- On every device the prefetched buffers hold the literal tables when the region is entered. -/
theorem V_pre (c : Dev nD) (j : Fin 2) : V m c (pre0.ref j) = tbl j := by
  match j with
  | 0 => exact V_c m c
  | 1 => exact V_c0 m c

/-- Every block lies inside its array and its transfers are word-exact: no float is read, so it is decided once. -/
theorem ok_ideal : ok0 (F := Ideal) tbl := by
  decide +kernel
theorem ok_tbl : ok0 (F := F) tbl := ok_ideal

variable (F) in
/-- The literal tables as admissible contents, and the pipeline at them. -/
abbrev adm : (pcfg0 (F := F)).Adm := ⟨tbl, ok_tbl⟩
variable (F) in
abbrev cfgM : Pipeline.Cfg sig Λ₀ := cfg0 (adm F)

/-- Each table as the body is handed it: its whole buffer as a memref, and that memref's wholeness. -/
abbrev tbM0_0 : Memref sig .tc .smem S10 .i32 := Memref.whole main_c
abbrev htbM0_0 : tbM0_0.IsWhole := Memref.isWhole_whole _
abbrev tbM0_1 : Memref sig .tc .smem S10 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl (F := F)) c : sProp 𝕄) = iprop(tbPt0 c tbM0_0 (tbl (F := F) 0) ∗ tbPt0 c tbM0_1 (tbl (F := F) 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (c : Dev nD) (w : Fin (cfgM F).W) (t : Fin (cfgM F).N) : (((cfgM F).win w).xblock ((cfgM F).grid.coords t)).Idx → Elt F ((cfgM F).win w).elt :=
  (((cfgM F).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfgM F) c) (hA : dat.A 0 = V m c (Pipeline.arrRef spec0 0))
    (hafter : ∀ t, dat.after 0 t = iblk m c 0 t) (t : Fin (cfgM F).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfgM F) c) (hA : dat.A 1 = V m c (Pipeline.arrRef spec0 1))
    (hafter : ∀ t, dat.after 1 t = iblk m c 1 t) (t : Fin (cfgM F).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfgM F) c) (hA : dat.A 2 = V m c (Pipeline.arrRef spec0 2))
    (hafter : ∀ t, dat.after 2 t = iblk m c 2 t) (t : Fin (cfgM F).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post at any `F`. -/
theorem frame_of (dats : (p : Fin 1) → (c : Dev nD) → Dat τ (Elt F) Unit ℕ (UR sig nD τ) ℕ ((Pipeline.pin pcfgs fun _ => adm F) p) c)
    (hA : ∀ c w, (dats 0 c).A w = V m c (Pipeline.arrRef spec0 w))
    (h : θ_run defs (onTc (τ := τ) (main (F := F))) (s₀ m ρ) (Pipeline.FramePost (Pipeline.pin pcfgs fun _ => adm F) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The words the body loads, and its three conditions -/

/-- The word the body loads from the table of query blocks at a point, out of contents `xt` of that table. -/
abbrev wq {c : Dev nD} (i : grid0.Coords) (xt : TbBuf0 (F := F) c tbM0_0) : BitVec 32 :=
  tbM0_0.view.readAt (Elt F) (Rect.unit (s := S10) (k0_off1 i) S1.size (k0_off1_inb i)).toLoadRect xt (Shape.Idx.first (numel1_S1.symm ▸ Nat.one_pos))
/-- The word it loads from the table of key blocks. -/
abbrev wk {c : Dev nD} (i : grid0.Coords) (xt : TbBuf0 (F := F) c tbM0_1) : BitVec 32 :=
  tbM0_1.view.readAt (Elt F) (Rect.unit (s := S10) (k0_off1 i) S1.size (k0_off1_inb i)).toLoadRect xt (Shape.Idx.first (numel1_S1.symm ▸ Nat.one_pos))

/-- At the literal tables these are the query block and the key block of the point's last coordinate. -/
theorem wq_ideal : ∀ i : grid0.Coords, wq (F := Ideal) (c := 0) i (tbl 0) = lit0 (i 2) := by decide +kernel
theorem wk_ideal : ∀ i : grid0.Coords, wk (F := Ideal) (c := 0) i (tbl 1) = lit1 (i 2) := by decide +kernel
theorem wq_tbl (c : Dev nD) (i : grid0.Coords) : wq (F := F) (c := c) i (tbl 0) = lit0 (i 2) := wq_ideal i
theorem wk_tbl (c : Dev nD) (i : grid0.Coords) : wk (F := F) (c := c) i (tbl 1) = lit1 (i 2) := wk_ideal i

/-- The first key block of a query block: the running maximum, sum and product are reset. -/
abbrev condI (v3 : BitVec 32) : Prop := (Scalar.cmpi .ne (Scalar.extui (Scalar.cmpi .eq v3 0#32)) 0#32) = 1#1
/-- A key block below the query block. -/
abbrev condL (v1 v3 : BitVec 32) : Prop := (Scalar.cmpi .ne (Scalar.extui (Scalar.cmpi .slt v3 v1)) 0#32) = 1#1
/-- The key block of the query block itself, the last one: the output is stored. -/
abbrev condD (v1 v3 : BitVec 32) : Prop := k0_cond3 v1 v3 = 1#1

/-- A point is one of these two cases. -/
theorem condLD : ∀ j : Fin 10, condL (lit0 j) (lit1 j) ∧ ¬ condD (lit0 j) (lit1 j) ∨ ¬ condL (lit0 j) (lit1 j) ∧ condD (lit0 j) (lit1 j) := by
  decide +kernel
theorem condI_zero : ∀ t : Fin grid0.N, t.val = 0 → condI (lit1 (grid0.coords t 2)) := by decide +kernel

/-- Where the output's window is idle: exactly where the body does not store it. -/
theorem idle3_ideal : ∀ i : grid0.Coords, (cfgM Ideal).idle 3 i = !decide (condD (lit0 (i 2)) (lit1 (i 2))) := by decide +kernel
theorem idle3 (i : grid0.Coords) : (cfgM F).idle 3 i = !decide (condD (lit0 (i 2)) (lit1 (i 2))) := idle3_ideal i
/-- and it is written back only at points where the body stores it. -/
theorem flush3_ideal : ∀ t : Fin (cfgM Ideal).N, ¬ condD (lit0 (grid0.coords t 2)) (lit1 (grid0.coords t 2)) → ((cfgM Ideal).win 3).flush t = false := by
  decide +kernel
theorem flush3 (t : Fin (cfgM F).N) (h : ¬ condD (lit0 (grid0.coords t 2)) (lit1 (grid0.coords t 2))) : ((cfgM F).win 3).flush t = false :=
  flush3_ideal t h

/-! ## The buffers the body is handed -/

abbrev VO0_3 : View sig .tc .vmem S1024x256 .bf16 := (Memref.whole cc0_stg3_0 : Memref sig .tc .vmem S1024x256 .bf16).view
/-- Each window's current staging memref at point `t`, spelled as the pipeline passes it (`bodyAt0`), and its wholeness. -/
abbrev ms0_0 (t : Fin (cfgM F).N) : Memref sig .tc .vmem S1x1024x512 .bf16 := spec0_0.stage ((cfgM F).slots t 0)
abbrev hs0_0 (t : Fin (cfgM F).N) : (ms0_0 t).IsWhole := hstage0_0 (((cfgM F).slots t 0).cast nbuf0_0)
abbrev ms0_1 (t : Fin (cfgM F).N) : Memref sig .tc .vmem S1x1024x512 .bf16 := spec0_1.stage ((cfgM F).slots t 1)
abbrev hs0_1 (t : Fin (cfgM F).N) : (ms0_1 t).IsWhole := hstage0_1 (((cfgM F).slots t 1).cast nbuf0_1)
abbrev ms0_2 (t : Fin (cfgM F).N) : Memref sig .tc .vmem S1x1024x256 .bf16 := spec0_2.stage ((cfgM F).slots t 2)
abbrev hs0_2 (t : Fin (cfgM F).N) : (ms0_2 t).IsWhole := hstage0_2 (((cfgM F).slots t 2).cast nbuf0_2)
abbrev ms0_3 (t : Fin (cfgM F).N) : Memref sig .tc .vmem S1024x256 .bf16 := spec0_3.stage ((cfgM F).slots t 3)
abbrev hs0_3 (t : Fin (cfgM F).N) : (ms0_3 t).IsWhole := hstage0_3 (((cfgM F).slots t 3).cast nbuf0_3)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S1024x256 .bf16 := Memref.whole cc0_scratch2
abbrev scM0_3 : Memref sig .tc .vmem S2x1024x1 .f32 := Memref.whole cc0_scratch3
abbrev scM0_4 : Memref sig .tc .vmem S2x1024x1 .f32 := Memref.whole cc0_scratch4
abbrev scM0_5 : Memref sig .tc .vmem S2x1024x128 .f32 := Memref.whole cc0_scratch5
/-- The scratch `arg12` the kernel carries between points, as a view: what it holds is stated through it. -/
abbrev VS0_3 : View sig .tc .vmem S2x1024x1 .f32 := scM0_3.view
/-- The scratch `arg13` the kernel carries between points, as a view: what it holds is stated through it. -/
abbrev VS0_4 : View sig .tc .vmem S2x1024x1 .f32 := scM0_4.view
/-- The scratch `arg14` the kernel carries between points, as a view: what it holds is stated through it. -/
abbrev VS0_5 : View sig .tc .vmem S2x1024x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.FlashRunA.lean ====
/- First key block, below the query block. The body's run in this case. -/
module

public import proofs.«01_k».proof.Proof.FlashKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg5 : Memref sig .tc .vmem S1x1024x512 .bf16) (harg5 : arg5.IsWhole) (arg6 : Memref sig .tc .vmem S1x1024x512 .bf16) (harg6 : arg6.IsWhole)
  (arg7 : Memref sig .tc .vmem S1x1024x256 .bf16) (harg7 : arg7.IsWhole) (arg8 : Memref sig .tc .vmem S1024x256 .bf16) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x256 .bf16) (harg11 : arg11.IsWhole) (arg12 : Memref sig .tc .vmem S2x1024x1 .f32) (harg12 : arg12.IsWhole)
  (arg13 : Memref sig .tc .vmem S2x1024x1 .f32) (harg13 : arg13.IsWhole) (arg14 : Memref sig .tc .vmem S2x1024x128 .f32) (harg14 : arg14.IsWhole)
  (x0 : Vec F S1x1024x512 .bf16) (x1 : Vec F S1x1024x512 .bf16) (x2 : Vec F S1x1024x256 .bf16)
  (xs3 : Vec F S2x1024x1 .f32) (xs4 : Vec F S2x1024x1 .f32) (xs5 : Vec F S2x1024x128 .f32)
  (xt0 : TbBuf0 (F := F) c tbM0_0) (xt1 : TbBuf0 (F := F) c tbM0_1)

-- the run's proof term is large: closing the definition walks it past the default budget
set_option maxHeartbeats 1200000 in
/-- First key block, below the query block. What the body's stores leave in each buffer it writes, as pieces (last first), with the proof that the body
    runs to the continuation holding them. -/
def runA (hc0 : condI (wk i xt1)) (hc1 : condL (wq i xt0) (wk i xt1)) (hc2 : ¬condD (wq i xt0) (wk i xt1)) :
    Σ' (LS3 : List (View.Piece (Elt F) S2x1024x1 .f32)), Σ' (LS4 : List (View.Piece (Elt F) S2x1024x1 .f32)), Σ' (LS5 : List (View.Piece (Elt F) S2x1024x128 .f32)), Σ' (LT0 : List (View.Piece (Elt F) S1024x512 .bf16)), Σ' (LT1 : List (View.Piece (Elt F) S1024x512 .bf16)), { LT2 : List (View.Piece (Elt F) S1024x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ tbPt0 c tbM0_0 xt0 ∗ tbPt0 c tbM0_1 xt1) -∗ K ⟨⟩))
          ⊢ wp frame (wpE (defs₀ (F := F)) Variants.none c none) E (cc0_mla_flash i tbM0_0 htbM0_0 tbM0_1 htbM0_1 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_mla_flash_eq_skeleton]; unfold cc0_mla_flash_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, HT1, Hk⟩
    obtain rfl := harg5.eq_unread hf0; obtain rfl := harg6.eq_unread hf1; obtain rfl := harg7.eq_unread hf2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HT0]; · iexact HT0
    iexact HT1

end Cert.KernelIdeal.Hand

end
-- ==== Proof.FlashRunB.lean ====
/- First key block, the query block itself. The body's run in this case. -/
module

public import proofs.«01_k».proof.Proof.FlashRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg5 : Memref sig .tc .vmem S1x1024x512 .bf16) (harg5 : arg5.IsWhole) (arg6 : Memref sig .tc .vmem S1x1024x512 .bf16) (harg6 : arg6.IsWhole)
  (arg7 : Memref sig .tc .vmem S1x1024x256 .bf16) (harg7 : arg7.IsWhole) (arg8 : Memref sig .tc .vmem S1024x256 .bf16) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x256 .bf16) (harg11 : arg11.IsWhole) (arg12 : Memref sig .tc .vmem S2x1024x1 .f32) (harg12 : arg12.IsWhole)
  (arg13 : Memref sig .tc .vmem S2x1024x1 .f32) (harg13 : arg13.IsWhole) (arg14 : Memref sig .tc .vmem S2x1024x128 .f32) (harg14 : arg14.IsWhole)
  (x0 : Vec F S1x1024x512 .bf16) (x1 : Vec F S1x1024x512 .bf16) (x2 : Vec F S1x1024x256 .bf16)
  (xs3 : Vec F S2x1024x1 .f32) (xs4 : Vec F S2x1024x1 .f32) (xs5 : Vec F S2x1024x128 .f32)
  (xt0 : TbBuf0 (F := F) c tbM0_0) (xt1 : TbBuf0 (F := F) c tbM0_1)

-- the run's proof term is large: closing the definition walks it past the default budget
set_option maxHeartbeats 1200000 in
/-- First key block, the query block itself. What the body's stores leave in each buffer it writes, as pieces (last first), with the proof that the body
    runs to the continuation holding them. -/
def runB (hc0 : condI (wk i xt1)) (hc1 : ¬condL (wq i xt0) (wk i xt1)) (hc2 : condD (wq i xt0) (wk i xt1)) :
    Σ' (L3 : List (View.Piece (Elt F) S1024x256 .bf16)), Σ' (LS3 : List (View.Piece (Elt F) S2x1024x1 .f32)), Σ' (LS4 : List (View.Piece (Elt F) S2x1024x1 .f32)), Σ' (LS5 : List (View.Piece (Elt F) S2x1024x128 .f32)), Σ' (LT0 : List (View.Piece (Elt F) S1024x512 .bf16)), Σ' (LT1 : List (View.Piece (Elt F) S1024x512 .bf16)), { LT2 : List (View.Piece (Elt F) S1024x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ tbPt0 c tbM0_0 xt0 ∗ tbPt0 c tbM0_1 xt1) -∗ K ⟨⟩))
          ⊢ wp frame (wpE (defs₀ (F := F)) Variants.none c none) E (cc0_mla_flash i tbM0_0 htbM0_0 tbM0_1 htbM0_1 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0_mla_flash_eq_skeleton]; unfold cc0_mla_flash_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, HT1, Hk⟩
    obtain rfl := harg5.eq_unread hf0; obtain rfl := harg6.eq_unread hf1; obtain rfl := harg7.eq_unread hf2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HT0]; · iexact HT0
    iexact HT1

end Cert.KernelIdeal.Hand

end
-- ==== Proof.FlashRunC.lean ====
/- A later key block, below the query block. The body's run in this case. -/
module

public import proofs.«01_k».proof.Proof.FlashRunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg5 : Memref sig .tc .vmem S1x1024x512 .bf16) (harg5 : arg5.IsWhole) (arg6 : Memref sig .tc .vmem S1x1024x512 .bf16) (harg6 : arg6.IsWhole)
  (arg7 : Memref sig .tc .vmem S1x1024x256 .bf16) (harg7 : arg7.IsWhole) (arg8 : Memref sig .tc .vmem S1024x256 .bf16) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x256 .bf16) (harg11 : arg11.IsWhole) (arg12 : Memref sig .tc .vmem S2x1024x1 .f32) (harg12 : arg12.IsWhole)
  (arg13 : Memref sig .tc .vmem S2x1024x1 .f32) (harg13 : arg13.IsWhole) (arg14 : Memref sig .tc .vmem S2x1024x128 .f32) (harg14 : arg14.IsWhole)
  (x0 : Vec F S1x1024x512 .bf16) (x1 : Vec F S1x1024x512 .bf16) (x2 : Vec F S1x1024x256 .bf16)
  (xs3 : Vec F S2x1024x1 .f32) (xs4 : Vec F S2x1024x1 .f32) (xs5 : Vec F S2x1024x128 .f32)
  (xt0 : TbBuf0 (F := F) c tbM0_0) (xt1 : TbBuf0 (F := F) c tbM0_1)

-- the run's proof term is large: closing the definition walks it past the default budget
set_option maxHeartbeats 1200000 in
/-- A later key block, below the query block. What the body's stores leave in each buffer it writes, as pieces (last first), with the proof that the body
    runs to the continuation holding them. -/
def runC (hc0 : ¬condI (wk i xt1)) (hc1 : condL (wq i xt0) (wk i xt1)) (hc2 : ¬condD (wq i xt0) (wk i xt1)) :
    Σ' (LS3 : List (View.Piece (Elt F) S2x1024x1 .f32)), Σ' (LS4 : List (View.Piece (Elt F) S2x1024x1 .f32)), Σ' (LS5 : List (View.Piece (Elt F) S2x1024x128 .f32)), Σ' (LT0 : List (View.Piece (Elt F) S1024x512 .bf16)), Σ' (LT1 : List (View.Piece (Elt F) S1024x512 .bf16)), { LT2 : List (View.Piece (Elt F) S1024x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4 ∗ owns (c : Thread nD τ) arg14 fullShare xs5 ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ tbPt0 c tbM0_0 xt0 ∗ tbPt0 c tbM0_1 xt1) -∗ K ⟨⟩))
          ⊢ wp frame (wpE (defs₀ (F := F)) Variants.none c none) E (cc0_mla_flash i tbM0_0 htbM0_0 tbM0_1 htbM0_1 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_mla_flash_eq_skeleton]; unfold cc0_mla_flash_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, HT0, HT1, Hk⟩
    obtain rfl := harg5.eq_unread hf0; obtain rfl := harg6.eq_unread hf1; obtain rfl := harg7.eq_unread hf2; obtain rfl := harg12.eq_unread hfs3; obtain rfl := harg13.eq_unread hfs4; obtain rfl := harg14.eq_unread hfs5
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HT0]; · iexact HT0
    iexact HT1

end Cert.KernelIdeal.Hand

end
-- ==== Proof.FlashRunD.lean ====
/- A later key block, the query block itself. The body's run in this case. -/
module

public import proofs.«01_k».proof.Proof.FlashRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg5 : Memref sig .tc .vmem S1x1024x512 .bf16) (harg5 : arg5.IsWhole) (arg6 : Memref sig .tc .vmem S1x1024x512 .bf16) (harg6 : arg6.IsWhole)
  (arg7 : Memref sig .tc .vmem S1x1024x256 .bf16) (harg7 : arg7.IsWhole) (arg8 : Memref sig .tc .vmem S1024x256 .bf16) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x256 .bf16) (harg11 : arg11.IsWhole) (arg12 : Memref sig .tc .vmem S2x1024x1 .f32) (harg12 : arg12.IsWhole)
  (arg13 : Memref sig .tc .vmem S2x1024x1 .f32) (harg13 : arg13.IsWhole) (arg14 : Memref sig .tc .vmem S2x1024x128 .f32) (harg14 : arg14.IsWhole)
  (x0 : Vec F S1x1024x512 .bf16) (x1 : Vec F S1x1024x512 .bf16) (x2 : Vec F S1x1024x256 .bf16)
  (xs3 : Vec F S2x1024x1 .f32) (xs4 : Vec F S2x1024x1 .f32) (xs5 : Vec F S2x1024x128 .f32)
  (xt0 : TbBuf0 (F := F) c tbM0_0) (xt1 : TbBuf0 (F := F) c tbM0_1)

-- the run's proof term is large: closing the definition walks it past the default budget
set_option maxHeartbeats 1200000 in
/-- A later key block, the query block itself. What the body's stores leave in each buffer it writes, as pieces (last first), with the proof that the body
    runs to the continuation holding them. -/
def runD (hc0 : ¬condI (wk i xt1)) (hc1 : ¬condL (wq i xt0) (wk i xt1)) (hc2 : condD (wq i xt0) (wk i xt1)) :
    Σ' (L3 : List (View.Piece (Elt F) S1024x256 .bf16)), Σ' (LS3 : List (View.Piece (Elt F) S2x1024x1 .f32)), Σ' (LS4 : List (View.Piece (Elt F) S2x1024x1 .f32)), Σ' (LS5 : List (View.Piece (Elt F) S2x1024x128 .f32)), Σ' (LT0 : List (View.Piece (Elt F) S1024x512 .bf16)), Σ' (LT1 : List (View.Piece (Elt F) S1024x512 .bf16)), { LT2 : List (View.Piece (Elt F) S1024x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4 ∗ owns (c : Thread nD τ) arg14 fullShare xs5 ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ tbPt0 c tbM0_0 xt0 ∗ tbPt0 c tbM0_1 xt1) -∗ K ⟨⟩))
          ⊢ wp frame (wpE (defs₀ (F := F)) Variants.none c none) E (cc0_mla_flash i tbM0_0 htbM0_0 tbM0_1 htbM0_1 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0_mla_flash_eq_skeleton]; unfold cc0_mla_flash_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, HT0, HT1, Hk⟩
    obtain rfl := harg5.eq_unread hf0; obtain rfl := harg6.eq_unread hf1; obtain rfl := harg7.eq_unread hf2; obtain rfl := harg12.eq_unread hfs3; obtain rfl := harg13.eq_unread hfs4; obtain rfl := harg14.eq_unread hfs5
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HT0]; · iexact HT0
    iexact HT1

end Cert.KernelIdeal.Hand

end
-- ==== Proof.FlashDat.lean ====
/- What the attention call carries from point to point (the running maximum, sum and product of a query block), the
   body's obligation at every point, the run of the whole program and its frame. -/
module

public import proofs.«01_k».proof.Proof.FlashRunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The cases of a point -/

theorem notL_of_D (c : Dev nD) (t : Fin (cfgM F).N) (h2 : condD (wq (c := c) (grid0.coords t) (tbl (F := F) 0)) (wk (c := c) (grid0.coords t) (tbl (F := F) 1))) : ¬condL (wq (c := c) (grid0.coords t) (tbl (F := F) 0)) (wk (c := c) (grid0.coords t) (tbl (F := F) 1)) := by
  rw [wq_tbl, wk_tbl] at h2 ⊢
  rcases condLD (grid0.coords t 2) with h | h
  · exact absurd h2 h.2
  · exact h.1
theorem L_of_notD (c : Dev nD) (t : Fin (cfgM F).N) (h2 : ¬condD (wq (c := c) (grid0.coords t) (tbl (F := F) 0)) (wk (c := c) (grid0.coords t) (tbl (F := F) 1))) : condL (wq (c := c) (grid0.coords t) (tbl (F := F) 0)) (wk (c := c) (grid0.coords t) (tbl (F := F) 1)) := by
  rw [wq_tbl, wk_tbl] at h2 ⊢
  rcases condLD (grid0.coords t 2) with h | h
  · exact h.1
  · exact absurd h.2 h2

/-- The run of case A at a point, at the point's blocks and the scratch buffers. -/
abbrev atA (c : Dev nD) (t : Fin (cfgM F).N) (h0 : condI (wk (c := c) (grid0.coords t) (tbl (F := F) 1))) (h2 : ¬condD (wq (c := c) (grid0.coords t) (tbl (F := F) 0)) (wk (c := c) (grid0.coords t) (tbl (F := F) 1))) :=
  runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (tbl 0) (tbl 1) h0 (L_of_notD c t h2) h2

theorem scoverA_3 (c : Dev nD) (t : Fin (cfgM F).N) (h0 : condI (wk (c := c) (grid0.coords t) (tbl (F := F) 1))) (h2 : ¬condD (wq (c := c) (grid0.coords t) (tbl (F := F) 0)) (wk (c := c) (grid0.coords t) (tbl (F := F) 1))) (y : S2x1024x1.Idx) :
    ∃ pc ∈ (atA m c t h0 h2).1, y ∈ pc.1.set :=
  View.cover_of_tiledL (atA m c t h0 h2).1 S1x1024x1.size (by sl_kernel_rfl) y
theorem scoverA_4 (c : Dev nD) (t : Fin (cfgM F).N) (h0 : condI (wk (c := c) (grid0.coords t) (tbl (F := F) 1))) (h2 : ¬condD (wq (c := c) (grid0.coords t) (tbl (F := F) 0)) (wk (c := c) (grid0.coords t) (tbl (F := F) 1))) (y : S2x1024x1.Idx) :
    ∃ pc ∈ (atA m c t h0 h2).2.1, y ∈ pc.1.set :=
  View.cover_of_tiledL (atA m c t h0 h2).2.1 S1x1024x1.size (by sl_kernel_rfl) y
theorem scoverA_5 (c : Dev nD) (t : Fin (cfgM F).N) (h0 : condI (wk (c := c) (grid0.coords t) (tbl (F := F) 1))) (h2 : ¬condD (wq (c := c) (grid0.coords t) (tbl (F := F) 0)) (wk (c := c) (grid0.coords t) (tbl (F := F) 1))) (y : S2x1024x128.Idx) :
    ∃ pc ∈ (atA m c t h0 h2).2.2.1, y ∈ pc.1.set :=
  View.cover_of_tiledL (atA m c t h0 h2).2.2.1 S1x1024x128.size (by sl_kernel_rfl) y

/-- The run of case B at a point, at the point's blocks and the scratch buffers. -/
abbrev atB (c : Dev nD) (t : Fin (cfgM F).N) (h0 : condI (wk (c := c) (grid0.coords t) (tbl (F := F) 1))) (h2 : condD (wq (c := c) (grid0.coords t) (tbl (F := F) 0)) (wk (c := c) (grid0.coords t) (tbl (F := F) 1))) :=
  runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (tbl 0) (tbl 1) h0 (notL_of_D c t h2) h2

theorem scoverB_3 (c : Dev nD) (t : Fin (cfgM F).N) (h0 : condI (wk (c := c) (grid0.coords t) (tbl (F := F) 1))) (h2 : condD (wq (c := c) (grid0.coords t) (tbl (F := F) 0)) (wk (c := c) (grid0.coords t) (tbl (F := F) 1))) (y : S2x1024x1.Idx) :
    ∃ pc ∈ (atB m c t h0 h2).2.1, y ∈ pc.1.set :=
  View.cover_of_tiledL (atB m c t h0 h2).2.1 S1x1024x1.size (by sl_kernel_rfl) y
theorem scoverB_4 (c : Dev nD) (t : Fin (cfgM F).N) (h0 : condI (wk (c := c) (grid0.coords t) (tbl (F := F) 1))) (h2 : condD (wq (c := c) (grid0.coords t) (tbl (F := F) 0)) (wk (c := c) (grid0.coords t) (tbl (F := F) 1))) (y : S2x1024x1.Idx) :
    ∃ pc ∈ (atB m c t h0 h2).2.2.1, y ∈ pc.1.set :=
  View.cover_of_tiledL (atB m c t h0 h2).2.2.1 S1x1024x1.size (by sl_kernel_rfl) y
theorem scoverB_5 (c : Dev nD) (t : Fin (cfgM F).N) (h0 : condI (wk (c := c) (grid0.coords t) (tbl (F := F) 1))) (h2 : condD (wq (c := c) (grid0.coords t) (tbl (F := F) 0)) (wk (c := c) (grid0.coords t) (tbl (F := F) 1))) (y : S2x1024x128.Idx) :
    ∃ pc ∈ (atB m c t h0 h2).2.2.2.1, y ∈ pc.1.set :=
  View.cover_of_tiledL (atB m c t h0 h2).2.2.2.1 S1x1024x128.size (by sl_kernel_rfl) y
theorem coverB (c : Dev nD) (t : Fin (cfgM F).N) (h0 : condI (wk (c := c) (grid0.coords t) (tbl (F := F) 1))) (h2 : condD (wq (c := c) (grid0.coords t) (tbl (F := F) 0)) (wk (c := c) (grid0.coords t) (tbl (F := F) 1))) (y : S1024x256.Idx) :
    ∃ pc ∈ (atB m c t h0 h2).1, y ∈ pc.1.set :=
  View.cover_of_tiledL (atB m c t h0 h2).1 S1024x128.size (by sl_kernel_rfl) y

/-- The run of case C at a point, at the point's blocks and the scratch buffers. -/
abbrev atC (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : ¬condD (wq (c := c) (grid0.coords t) (tbl (F := F) 0)) (wk (c := c) (grid0.coords t) (tbl (F := F) 1))) :=
  runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) xs3 xs4 xs5 (tbl 0) (tbl 1) h0 (L_of_notD c t h2) h2

theorem scoverC_3 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : ¬condD (wq (c := c) (grid0.coords t) (tbl (F := F) 0)) (wk (c := c) (grid0.coords t) (tbl (F := F) 1))) (y : S2x1024x1.Idx) :
    ∃ pc ∈ (atC m c t xs3 xs4 xs5 h0 h2).1, y ∈ pc.1.set :=
  View.cover_of_tiledL (atC m c t xs3 xs4 xs5 h0 h2).1 S1x1024x1.size (by sl_kernel_rfl) y
theorem scoverC_4 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : ¬condD (wq (c := c) (grid0.coords t) (tbl (F := F) 0)) (wk (c := c) (grid0.coords t) (tbl (F := F) 1))) (y : S2x1024x1.Idx) :
    ∃ pc ∈ (atC m c t xs3 xs4 xs5 h0 h2).2.1, y ∈ pc.1.set :=
  View.cover_of_tiledL (atC m c t xs3 xs4 xs5 h0 h2).2.1 S1x1024x1.size (by sl_kernel_rfl) y
theorem scoverC_5 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : ¬condD (wq (c := c) (grid0.coords t) (tbl (F := F) 0)) (wk (c := c) (grid0.coords t) (tbl (F := F) 1))) (y : S2x1024x128.Idx) :
    ∃ pc ∈ (atC m c t xs3 xs4 xs5 h0 h2).2.2.1, y ∈ pc.1.set :=
  View.cover_of_tiledL (atC m c t xs3 xs4 xs5 h0 h2).2.2.1 S1x1024x128.size (by sl_kernel_rfl) y

/-- The run of case D at a point, at the point's blocks and the scratch buffers. -/
abbrev atD (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : condD (wq (c := c) (grid0.coords t) (tbl (F := F) 0)) (wk (c := c) (grid0.coords t) (tbl (F := F) 1))) :=
  runD c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) xs3 xs4 xs5 (tbl 0) (tbl 1) h0 (notL_of_D c t h2) h2

theorem scoverD_3 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : condD (wq (c := c) (grid0.coords t) (tbl (F := F) 0)) (wk (c := c) (grid0.coords t) (tbl (F := F) 1))) (y : S2x1024x1.Idx) :
    ∃ pc ∈ (atD m c t xs3 xs4 xs5 h0 h2).2.1, y ∈ pc.1.set :=
  View.cover_of_tiledL (atD m c t xs3 xs4 xs5 h0 h2).2.1 S1x1024x1.size (by sl_kernel_rfl) y
theorem scoverD_4 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : condD (wq (c := c) (grid0.coords t) (tbl (F := F) 0)) (wk (c := c) (grid0.coords t) (tbl (F := F) 1))) (y : S2x1024x1.Idx) :
    ∃ pc ∈ (atD m c t xs3 xs4 xs5 h0 h2).2.2.1, y ∈ pc.1.set :=
  View.cover_of_tiledL (atD m c t xs3 xs4 xs5 h0 h2).2.2.1 S1x1024x1.size (by sl_kernel_rfl) y
theorem scoverD_5 (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : condD (wq (c := c) (grid0.coords t) (tbl (F := F) 0)) (wk (c := c) (grid0.coords t) (tbl (F := F) 1))) (y : S2x1024x128.Idx) :
    ∃ pc ∈ (atD m c t xs3 xs4 xs5 h0 h2).2.2.2.1, y ∈ pc.1.set :=
  View.cover_of_tiledL (atD m c t xs3 xs4 xs5 h0 h2).2.2.2.1 S1x1024x128.size (by sl_kernel_rfl) y
theorem coverD (c : Dev nD) (t : Fin (cfgM F).N) (xs3 : Vec F S2x1024x1 .f32) (xs4 : Vec F S2x1024x1 .f32) (xs5 : Vec F S2x1024x128 .f32) (h0 : ¬condI (wk (c := c) (grid0.coords t) (tbl (F := F) 1))) (h2 : condD (wq (c := c) (grid0.coords t) (tbl (F := F) 0)) (wk (c := c) (grid0.coords t) (tbl (F := F) 1))) (y : S1024x256.Idx) :
    ∃ pc ∈ (atD m c t xs3 xs4 xs5 h0 h2).1, y ∈ pc.1.set :=
  View.cover_of_tiledL (atD m c t xs3 xs4 xs5 h0 h2).1 S1024x128.size (by sl_kernel_rfl) y

/-! ## What is carried -/

variable (F) in
/-- The output block last stored, and the running maximum, sum and product. -/
abbrev St : Type := Vec F S1024x256 .bf16 × Vec F S2x1024x1 .f32 × Vec F S2x1024x1 .f32 × Vec F S2x1024x128 .f32

/-- The contents a buffer has after a list of pieces that covers it. -/
def rdO (L : List (View.Piece (Elt F) S1024x256 .bf16)) : Vec F S1024x256 .bf16 := VO0_3.read (Elt F) (VO0_3.writes (Elt F) VO0_3.junk L)
def rd3 (L : List (View.Piece (Elt F) S2x1024x1 .f32)) : Vec F S2x1024x1 .f32 := VS0_3.read (Elt F) (VS0_3.writes (Elt F) VS0_3.junk L)
def rd4 (L : List (View.Piece (Elt F) S2x1024x1 .f32)) : Vec F S2x1024x1 .f32 := VS0_4.read (Elt F) (VS0_4.writes (Elt F) VS0_4.junk L)
def rd5 (L : List (View.Piece (Elt F) S2x1024x128 .f32)) : Vec F S2x1024x128 .f32 := VS0_5.read (Elt F) (VS0_5.writes (Elt F) VS0_5.junk L)

/-- One point: from what the point before left. -/
def step (c : Dev nD) (t : Fin (cfgM F).N) (s : St F) : St F :=
  if h0 : condI (wk (c := c) (grid0.coords t) (tbl (F := F) 1)) then
    if h2 : condD (wq (c := c) (grid0.coords t) (tbl (F := F) 0)) (wk (c := c) (grid0.coords t) (tbl (F := F) 1)) then (rdO (atB m c t h0 h2).1, rd3 (atB m c t h0 h2).2.1, rd4 (atB m c t h0 h2).2.2.1, rd5 (atB m c t h0 h2).2.2.2.1)
    else (s.1, rd3 (atA m c t h0 h2).1, rd4 (atA m c t h0 h2).2.1, rd5 (atA m c t h0 h2).2.2.1)
  else
    if h2 : condD (wq (c := c) (grid0.coords t) (tbl (F := F) 0)) (wk (c := c) (grid0.coords t) (tbl (F := F) 1)) then (rdO (atD m c t s.2.1 s.2.2.1 s.2.2.2 h0 h2).1, rd3 (atD m c t s.2.1 s.2.2.1 s.2.2.2 h0 h2).2.1, rd4 (atD m c t s.2.1 s.2.2.1 s.2.2.2 h0 h2).2.2.1, rd5 (atD m c t s.2.1 s.2.2.1 s.2.2.2 h0 h2).2.2.2.1)
    else (s.1, rd3 (atC m c t s.2.1 s.2.2.1 s.2.2.2 h0 h2).1, rd4 (atC m c t s.2.1 s.2.2.1 s.2.2.2 h0 h2).2.1, rd5 (atC m c t s.2.1 s.2.2.1 s.2.2.2 h0 h2).2.2.1)

theorem step_A (c : Dev nD) (t : Fin (cfgM F).N) (s : St F) (h0 : condI (wk (c := c) (grid0.coords t) (tbl (F := F) 1))) (h2 : ¬condD (wq (c := c) (grid0.coords t) (tbl (F := F) 0)) (wk (c := c) (grid0.coords t) (tbl (F := F) 1))) :
    step m c t s = (s.1, rd3 (atA m c t h0 h2).1, rd4 (atA m c t h0 h2).2.1, rd5 (atA m c t h0 h2).2.2.1) := (dif_pos h0).trans (dif_neg h2)
theorem step_B (c : Dev nD) (t : Fin (cfgM F).N) (s : St F) (h0 : condI (wk (c := c) (grid0.coords t) (tbl (F := F) 1))) (h2 : condD (wq (c := c) (grid0.coords t) (tbl (F := F) 0)) (wk (c := c) (grid0.coords t) (tbl (F := F) 1))) :
    step m c t s = (rdO (atB m c t h0 h2).1, rd3 (atB m c t h0 h2).2.1, rd4 (atB m c t h0 h2).2.2.1, rd5 (atB m c t h0 h2).2.2.2.1) := (dif_pos h0).trans (dif_pos h2)
theorem step_C (c : Dev nD) (t : Fin (cfgM F).N) (s : St F) (h0 : ¬condI (wk (c := c) (grid0.coords t) (tbl (F := F) 1))) (h2 : ¬condD (wq (c := c) (grid0.coords t) (tbl (F := F) 0)) (wk (c := c) (grid0.coords t) (tbl (F := F) 1))) :
    step m c t s = (s.1, rd3 (atC m c t s.2.1 s.2.2.1 s.2.2.2 h0 h2).1, rd4 (atC m c t s.2.1 s.2.2.1 s.2.2.2 h0 h2).2.1, rd5 (atC m c t s.2.1 s.2.2.1 s.2.2.2 h0 h2).2.2.1) := (dif_neg h0).trans (dif_neg h2)
theorem step_D (c : Dev nD) (t : Fin (cfgM F).N) (s : St F) (h0 : ¬condI (wk (c := c) (grid0.coords t) (tbl (F := F) 1))) (h2 : condD (wq (c := c) (grid0.coords t) (tbl (F := F) 0)) (wk (c := c) (grid0.coords t) (tbl (F := F) 1))) :
    step m c t s = (rdO (atD m c t s.2.1 s.2.2.1 s.2.2.2 h0 h2).1, rd3 (atD m c t s.2.1 s.2.2.1 s.2.2.2 h0 h2).2.1, rd4 (atD m c t s.2.1 s.2.2.1 s.2.2.2 h0 h2).2.2.1, rd5 (atD m c t s.2.1 s.2.2.1 s.2.2.2 h0 h2).2.2.2.1) := (dif_neg h0).trans (dif_pos h2)

/-- Before the first point: anything. -/
def st0 : St F := (rdO [], rd3 [], rd4 [], rd5 [])

/-- After the body at point `n`. -/
def outsAt (c : Dev nD) : (n : ℕ) → n < (cfgM F).N → St F
  | 0, hn => step m c ⟨0, hn⟩ st0
  | n + 1, hn => step m c ⟨n + 1, hn⟩ (outsAt c n (Nat.lt_of_succ_lt hn))

/-- What the point before left. -/
def prev (c : Dev nD) (t : Fin (cfgM F).N) : St F :=
  if h : t.val = 0 then st0 else outsAt m c (t.val - 1) (by have := t.isLt; omega)

theorem prev_pos (c : Dev nD) (t : Fin (cfgM F).N) (h : t.val ≠ 0) : prev m c t = outsAt m c (t.val - 1) (by have := t.isLt; omega) := dif_neg h

theorem outsAt_eq (c : Dev nD) (t : Fin (cfgM F).N) : outsAt m c t.val t.isLt = step m c t (prev m c t) := by
  obtain ⟨n, hn⟩ := t
  cases n with
  | zero => rfl
  | succ n => rfl

def PhiS (c : Dev nD) : (n : ℕ) → n ≤ (cfgM F).N → sProp 𝕄
  | 0, _ => iprop(Pipeline.ΦA spec0 c ∗ Pipeline.ΦT pre0 (tbl (F := F)) c)
  | n + 1, hn => iprop(iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c n hn).2.1) ∗ owns (c : Thread nD τ) scM0_4 fullShare ((outsAt m c n hn).2.2.1) ∗ owns (c : Thread nD τ) scM0_5 fullShare ((outsAt m c n hn).2.2.2)) ∗ (∃ r, prngReg c r)) ∗ Pipeline.ΦT pre0 (tbl (F := F)) c)

theorem PhiS_zero (c : Dev nD) (n : ℕ) (h : n ≤ (cfgM F).N) (hz : n = 0) : PhiS m c n h = iprop(Pipeline.ΦA spec0 c ∗ Pipeline.ΦT pre0 (tbl (F := F)) c) := by
  subst hz; rfl

theorem PhiS_succ (c : Dev nD) (n : ℕ) (hn : n < (cfgM F).N) :
    PhiS m c (n + 1) hn = iprop(iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c n hn).2.1) ∗ owns (c : Thread nD τ) scM0_4 fullShare ((outsAt m c n hn).2.2.1) ∗ owns (c : Thread nD τ) scM0_5 fullShare ((outsAt m c n hn).2.2.2)) ∗ (∃ r, prngReg c r)) ∗ Pipeline.ΦT pre0 (tbl (F := F)) c) := rfl

theorem PhiS_pos (c : Dev nD) (n : ℕ) (h : n ≤ (cfgM F).N) (hz : n ≠ 0) :
    PhiS m c n h = iprop(iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt m c (n - 1) (by omega)).2.1) ∗ owns (c : Thread nD τ) scM0_4 fullShare ((outsAt m c (n - 1) (by omega)).2.2.1) ∗ owns (c : Thread nD τ) scM0_5 fullShare ((outsAt m c (n - 1) (by omega)).2.2.2)) ∗ (∃ r, prngReg c r)) ∗ Pipeline.ΦT pre0 (tbl (F := F)) c) := by
  cases n with
  | zero => exact absurd rfl hz
  | succ n => rfl

/-- Whatever the carried buffers hold, they hold something. -/
theorem Phi_any (c : Dev nD) (n : ℕ) (h : n ≤ (cfgM F).N) :
    PhiS m c n h ⊢ iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) ∗ Pipeline.ΦT pre0 (tbl (F := F)) c) := by
  by_cases hz : n = 0
  · rw [PhiS_zero m c n h hz, PhiA0_eq]
    try exact Idealize.SL.BI.Entails.refl _
  · rw [PhiS_pos m c n h hz]
    iintro ⟨⟨⟨HS0, HS1, HS2, HS3, HS4, HS5⟩, Hg⟩, HT⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexists _; iexact HS3
        isplitl [HS4]; · iexists _; iexact HS4
        iexists _; iexact HS5
      iexact Hg
    iexact HT

/-! ## The pipeline's proof data -/

def dats (_ : Fin 1) (c : Dev nD) : Dat τ (Elt F) Unit ℕ (UR sig nD τ) ℕ (cfgM F) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin (cfgM F).W) : (dats m 0 c).A w = V m c (Pipeline.arrRef spec0 w) := by
  dsimp only [dats]

theorem Phi_castSucc (c : Dev nD) (t : Fin (cfgM F).N) :
    (dats m 0 c).Φ t.castSucc = PhiS m c t.val (Nat.le_of_lt t.isLt) := by
  dsimp only [dats]; exact Pipeline.Dat.Φ_castSucc (PhiS m c) t

theorem after0_0 (c : Dev nD) (t : Fin (cfgM F).N) : (dats m 0 c).after 0 t = iblk m c 0 t := by dsimp only [dats]; try rfl
theorem after0_1 (c : Dev nD) (t : Fin (cfgM F).N) : (dats m 0 c).after 1 t = iblk m c 1 t := by dsimp only [dats]; try rfl
theorem after0_2 (c : Dev nD) (t : Fin (cfgM F).N) : (dats m 0 c).after 2 t = iblk m c 2 t := by dsimp only [dats]; try rfl
theorem after0_3 (c : Dev nD) (t : Fin (cfgM F).N) : (dats m 0 c).after 3 t = (outsAt m c t.val t.isLt).1 := by dsimp only [dats]; try rfl

theorem before0_0 (c : Dev nD) (t : Fin (cfgM F).N) (d) : (dats m 0 c).before 0 t d = iblk m c 0 t :=
  before0_0_of m (dats m 0 c) (A_eq m c 0) (after0_0 m c) t d
theorem before0_1 (c : Dev nD) (t : Fin (cfgM F).N) (d) : (dats m 0 c).before 1 t d = iblk m c 1 t :=
  before0_1_of m (dats m 0 c) (A_eq m c 1) (after0_1 m c) t d
theorem before0_2 (c : Dev nD) (t : Fin (cfgM F).N) (d) : (dats m 0 c).before 2 t d = iblk m c 2 t :=
  before0_2_of m (dats m 0 c) (A_eq m c 2) (after0_2 m c) t d

/-! ## The body's obligation -/

def bodyPre (c : Dev nD) (t : Fin (cfgM F).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

set_option maxHeartbeats 3200000 in
/-- The body at a point that stores the output. -/
theorem soundD (c : Dev nD) (t : Fin (cfgM F).N) (h2 : condD (wq (c := c) (grid0.coords t) (tbl (F := F) 0)) (wk (c := c) (grid0.coords t) (tbl (F := F) 1))) :
    bodyPre m c t ⊢ wp frame (wpE (defs₀ (F := F)) Variants.none c none) Set.univ (bodyAt0 (adm F) t) (fun _ => iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))) := by
  unfold bodyPre bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ, PhiT0_eq, Phi_castSucc]
  by_cases h0 : condI (wk (c := c) (grid0.coords t) (tbl (F := F) 1))
  · skip
    refine (sep_mono_left (Phi_any m c t.val (Nat.le_of_lt t.isLt))).trans ?_
    rw [PhiT0_eq, outsAt_eq m c t, step_B m c t _ h0 h2]
    dsimp only
    iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩⟩
    iapply ((atB m c t h0 h2).2.2.2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, ⟨%e3, H3⟩, ⟨%fT0, HS0⟩, ⟨%fT1, HS1⟩, ⟨%fT2, HS2⟩, ⟨%es3, HS3⟩, ⟨%es4, HS4⟩, ⟨%es5, HS5⟩, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scoverB_3 m c t h0 h2)
          isplitl [HS4]
          · unfold owns; iexists _; isplitr
            swap; · iexact HS4
            ipureintro; exact View.read_writes_of_cover _ _ _ _ _ (scoverB_4 m c t h0 h2)
          unfold owns; iexists _; isplitr
          swap; · iexact HS5
          ipureintro; exact View.read_writes_of_cover _ _ _ _ _ (scoverB_5 m c t h0 h2)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB m c t h0 h2)
  · skip
    have hz : t.val ≠ 0 := fun hz => h0 (by rw [wk_tbl]; exact condI_zero t hz)
    rw [PhiS_pos m c t.val (Nat.le_of_lt t.isLt) hz]
    rw [show outsAt m c (t.val - 1) (by have := t.isLt; omega) = prev m c t from (prev_pos m c t hz).symm]
    rw [PhiT0_eq, outsAt_eq m c t, step_D m c t _ h0 h2]
    dsimp only
    iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩⟩
    iapply ((atD m c t (prev m c t).2.1 (prev m c t).2.2.1 (prev m c t).2.2.2 h0 h2).2.2.2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, ⟨%e3, H3⟩, ⟨%fT0, HS0⟩, ⟨%fT1, HS1⟩, ⟨%fT2, HS2⟩, ⟨%es3, HS3⟩, ⟨%es4, HS4⟩, ⟨%es5, HS5⟩, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scoverD_3 m c t (prev m c t).2.1 (prev m c t).2.2.1 (prev m c t).2.2.2 h0 h2)
          isplitl [HS4]
          · unfold owns; iexists _; isplitr
            swap; · iexact HS4
            ipureintro; exact View.read_writes_of_cover _ _ _ _ _ (scoverD_4 m c t (prev m c t).2.1 (prev m c t).2.2.1 (prev m c t).2.2.2 h0 h2)
          unfold owns; iexists _; isplitr
          swap; · iexact HS5
          ipureintro; exact View.read_writes_of_cover _ _ _ _ _ (scoverD_5 m c t (prev m c t).2.1 (prev m c t).2.2.1 (prev m c t).2.2.2 h0 h2)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD m c t (prev m c t).2.1 (prev m c t).2.2.1 (prev m c t).2.2.2 h0 h2)

set_option maxHeartbeats 3200000 in
/-- The body at a point that does not store the output, whose buffer it hands back as it found it. -/
theorem soundL (c : Dev nD) (t : Fin (cfgM F).N) (h2 : ¬condD (wq (c := c) (grid0.coords t) (tbl (F := F) 0)) (wk (c := c) (grid0.coords t) (tbl (F := F) 1))) :
    bodyPre m c t ⊢ wp frame (wpE (defs₀ (F := F)) Variants.none c none) Set.univ (bodyAt0 (adm F) t) (fun _ => iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare ((dats m 0 c).before 3 t d)))) := by
  unfold bodyPre bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_succ, PhiT0_eq, Phi_castSucc]
  by_cases h0 : condI (wk (c := c) (grid0.coords t) (tbl (F := F) 1))
  · skip
    refine (sep_mono_left (Phi_any m c t.val (Nat.le_of_lt t.isLt))).trans ?_
    rw [PhiT0_eq, outsAt_eq m c t, step_A m c t _ h0 h2]
    dsimp only
    iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩⟩
    iapply ((atA m c t h0 h2).2.2.2.2.2.2 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, ⟨%fT0, HS0⟩, ⟨%fT1, HS1⟩, ⟨%fT2, HS2⟩, ⟨%es3, HS3⟩, ⟨%es4, HS4⟩, ⟨%es5, HS5⟩, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scoverA_3 m c t h0 h2)
          isplitl [HS4]
          · unfold owns; iexists _; isplitr
            swap; · iexact HS4
            ipureintro; exact View.read_writes_of_cover _ _ _ _ _ (scoverA_4 m c t h0 h2)
          unfold owns; iexists _; isplitr
          swap; · iexact HS5
          ipureintro; exact View.read_writes_of_cover _ _ _ _ _ (scoverA_5 m c t h0 h2)
        iexact Hg
      isplitl [HT0]; · iexact HT0
      iexact HT1
    isplitl [Ho]; · iexact Ho
    isplitl [H0]; · iexact H0
    isplitl [H1]; · iexact H1
    isplitl [H2]; · iexact H2
    iexists d3; iexact H3
  · skip
    have hz : t.val ≠ 0 := fun hz => h0 (by rw [wk_tbl]; exact condI_zero t hz)
    rw [PhiS_pos m c t.val (Nat.le_of_lt t.isLt) hz]
    rw [show outsAt m c (t.val - 1) (by have := t.isLt; omega) = prev m c t from (prev_pos m c t hz).symm]
    rw [PhiT0_eq, outsAt_eq m c t, step_C m c t _ h0 h2]
    dsimp only
    iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩⟩
    iapply ((atC m c t (prev m c t).2.1 (prev m c t).2.2.1 (prev m c t).2.2.2 h0 h2).2.2.2.2.2.2 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, ⟨%fT0, HS0⟩, ⟨%fT1, HS1⟩, ⟨%fT2, HS2⟩, ⟨%es3, HS3⟩, ⟨%es4, HS4⟩, ⟨%es5, HS5⟩, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scoverC_3 m c t (prev m c t).2.1 (prev m c t).2.2.1 (prev m c t).2.2.2 h0 h2)
          isplitl [HS4]
          · unfold owns; iexists _; isplitr
            swap; · iexact HS4
            ipureintro; exact View.read_writes_of_cover _ _ _ _ _ (scoverC_4 m c t (prev m c t).2.1 (prev m c t).2.2.1 (prev m c t).2.2.2 h0 h2)
          unfold owns; iexists _; isplitr
          swap; · iexact HS5
          ipureintro; exact View.read_writes_of_cover _ _ _ _ _ (scoverC_5 m c t (prev m c t).2.1 (prev m c t).2.2.1 (prev m c t).2.2.2 h0 h2)
        iexact Hg
      isplitl [HT0]; · iexact HT0
      iexact HT1
    isplitl [Ho]; · iexact Ho
    isplitl [H0]; · iexact H0
    isplitl [H1]; · iexact H1
    isplitl [H2]; · iexact H2
    iexists d3; iexact H3

theorem defs₀_row (t : Fin (cfgM F).N) :
    defs₀ (F := F) .tc (cfgM F).body ((cfgM F).bodyArgs t ((cfgM F).slots t)) = bodyAt0 (adm F) t := by
  unfold defs₀; rw [Defs.onTc_tc]

/-- The body's obligation at every point: the output's buffer is handed back untouched where it is not stored. -/
theorem body_obligation (c : Dev nD) : BodyObligationLoose (dats (F := F) m 0 c) (defs₀ (F := F)) Variants.none () Set.univ := fun t => by
  rw [bigSep_W0, bigSep_W0, defs₀_row]
  have i0 : (cfgM F).idle 0 ((cfgM F).grid.coords t) = false := rfl
  have i1 : (cfgM F).idle 1 ((cfgM F).grid.coords t) = false := rfl
  have i2 : (cfgM F).idle 2 ((cfgM F).grid.coords t) = false := rfl
  have hl : ∀ w, (cfgM F).loose w = false := fun _ => rfl
  by_cases h2 : condD (wq (c := c) (grid0.coords t) (tbl (F := F) 0)) (wk (c := c) (grid0.coords t) (tbl (F := F) 1))
  · have hi : (cfgM F).idle 3 ((cfgM F).grid.coords t) = false := by
      rw [wq_tbl, wk_tbl] at h2
      rw [show (cfgM F).idle 3 ((cfgM F).grid.coords t) = _ from idle3 (grid0.coords t)]
      simp only [Bool.not_eq_false', decide_eq_true_eq]; exact h2
    simp only [i0, i1, i2, hl]
    rw [show idle0 (tbl (F := F)) 3 ((pcfg0.gridAt tbl).coords t) = false from hi]
    simp only
    exact triple_restated (soundD m c t h2) rfl .rfl fun _ => .rfl
  · rw [wq_tbl, wk_tbl] at h2
    have hi : (cfgM F).idle 3 ((cfgM F).grid.coords t) = true := by
      rw [show (cfgM F).idle 3 ((cfgM F).grid.coords t) = _ from idle3 (grid0.coords t)]
      simp only [Bool.not_eq_true', decide_eq_false_iff_not]; exact h2
    have hf : ((cfgM F).win 3).flush t = false := flush3 t h2
    simp only [i0, i1, i2, hl]
    rw [show idle0 (tbl (F := F)) 3 ((pcfg0.gridAt tbl).coords t) = true from hi]
    simp only
    split
    · exact triple_restated (soundL m c t (by rw [wq_tbl, wk_tbl]; exact h2)) rfl .rfl fun _ => .rfl
    · rename_i h; exact absurd (hf.symm.trans h) (by decide)

theorem hin (c : Dev nD) : iprop(Pipeline.ΦA spec0 c ∗ Pipeline.ΦT pre0 (tbl (F := F)) c) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last (cfgM F).N) ⊢ Pipeline.ΦA spec0 c := by
  rw [show (dats m 0 c).Φ (Fin.last (cfgM F).N) = PhiS m c (Fin.last (cfgM F).N).val (Nat.le_refl _) from rfl]
  refine (Phi_any m c _ _).trans ?_
  rw [PhiA0_eq]
  iintro ⟨H, -⟩
  iexact H

/-! ## The run and the frame -/

-- the launch theorem's implicit arguments are found by unifying its conclusion with this one
set_option backward.isDefEq.respectTransparency.types false in
theorem run_main_quiescent : θ_run defs (onTc (τ := τ) (main (F := F))) (s₀ m ρ) (fun r => (Pipeline.FramePost (Pipeline.pin pcfgs fun _ => adm F) (dats m) 0 (V m)) r ∧ r.2.sem = fun _ => 0) :=
  Pipeline.θ_run_frameP_track (Q' := _) pcfgs (fun _ => adm F) (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hpf := V_pre m)
    (hin := hin m) (hout := hout m)

theorem run_main : θ_run defs (onTc (τ := τ) (main (F := F))) (s₀ m ρ) (Pipeline.FramePost (Pipeline.pin pcfgs fun _ => adm F) (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.FlashRead.lean ====
/- What the body's loads read and its stores leave, at coordinates: the two heads' slices of the staged blocks and of the
   carried arrays, and an array put together from its two heads. -/
module

public import proofs.«01_k».proof.Proof.FlashDat
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.Tactic
open Idealize.ShloMosaic.ValueIdx
open Idealize.SL.Sem

variable {F : FTy → Type} [FloatOps F]

/-- A head's 256 lanes of a block of two heads' rows. -/
def qs0 (x : Vec F S1x1024x512 .bf16) : Vec F S1024x256 .bf16 := fun j => x (ix3 0 (j 0) ⟨(j 1).val, Nat.lt_of_lt_of_le (j 1).isLt (show 256 ≤ 512 by decide)⟩)
def qs1 (x : Vec F S1x1024x512 .bf16) : Vec F S1024x256 .bf16 := fun j => x (ix3 0 (j 0) ⟨256 + (j 1).val, Nat.add_lt_add_left (j 1).isLt 256⟩)
/-- A head's 128 lanes of a block of two heads' values. -/
def vs0 (x : Vec F S1x1024x256 .bf16) : Vec F S1024x128 .bf16 := fun j => x (ix3 0 (j 0) ⟨(j 1).val, Nat.lt_of_lt_of_le (j 1).isLt (show 128 ≤ 256 by decide)⟩)
def vs1 (x : Vec F S1x1024x256 .bf16) : Vec F S1024x128 .bf16 := fun j => x (ix3 0 (j 0) ⟨128 + (j 1).val, Nat.add_lt_add_left (j 1).isLt 128⟩)
/-- A head's column of the running maxima or sums, and its rows of the running products. -/
def ms (h : Fin 2) (x : Vec F S2x1024x1 .f32) : Vec F S1x1024x1 .f32 := fun j => x (ix3 h (j 1) 0)
def as8 (h : Fin 2) (x : Vec F S2x1024x128 .f32) : Vec F S1x1024x128 .f32 := fun j => x (ix3 h (j 1) (j 2))
/-- The two heads put together. -/
def st1 (a b : Vec F S1x1024x1 .f32) : Vec F S2x1024x1 .f32 := fun i => if (i 0).val = 0 then a (ix3 0 (i 1) 0) else b (ix3 0 (i 1) 0)
def st8 (a b : Vec F S1x1024x128 .f32) : Vec F S2x1024x128 .f32 := fun i => if (i 0).val = 0 then a (ix3 0 (i 1) (i 2)) else b (ix3 0 (i 1) (i 2))
def stO (a b : Vec F S1024x128 .bf16) : Vec F S1024x256 .bf16 := fun i =>
  if h : (i 1).val < 128 then a (ix2 (i 0) ⟨(i 1).val, h⟩) else b (ix2 (i 0) ⟨(i 1).val - 128, by have : (i 1).val < 256 := (i 1).isLt; omega⟩)

/-! ## Loads of a staged block -/

theorem canon_full_apply {s : Shape} {e : EltTy} (hin) (y : (Rect.unit (s := s) (fun _ => 0) s.size hin).shape.Idx → Elt F e) (L : List (View.Piece (Elt F) s e)) (i : s.Idx) :
    View.canon (⟨Rect.unit (fun _ => 0) s.size hin, y⟩ :: L) i = y i := by
  have : i = (Rect.unit (s := s) (fun _ => 0) s.size hin).emb i := funext fun a => Fin.ext (by simp [Rect.emb, Rect.unit])
  conv_lhs => rw [this]
  exact View.canon_cons_emb _ _ _ _

theorem read_q0 (v : View sig .tc .vmem S1024x512 .bf16) (y : Vec F S1024x512 .bf16) (h1) (h2) :
    v.readCov [⟨Rect.unit (s := S1024x512) ![0, 0] S1024x512.size h1, y⟩] (Rect.unit (s := S1024x512) ![0, 0] S1024x256.size h2).toLoadRect
      = fun j : S1024x256.Idx => y (ix2 (j 0) ⟨(j 1).val, Nat.lt_of_lt_of_le (j 1).isLt (show 256 ≤ 512 by decide)⟩) := by
  rw [View.readCov_eq_canon']
  funext j
  refine (congrArg _ ?_).trans (View.canon_cons_emb (Rect.unit (s := S1024x512) ![0, 0] S1024x512.size h1) y [] (ix2 (j 0) ⟨(j 1).val, Nat.lt_of_lt_of_le (j 1).isLt (show 256 ≤ 512 by decide)⟩))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)

theorem read_q1 (v : View sig .tc .vmem S1024x512 .bf16) (y : Vec F S1024x512 .bf16) (h1) (h2) :
    v.readCov [⟨Rect.unit (s := S1024x512) ![0, 0] S1024x512.size h1, y⟩] (Rect.unit (s := S1024x512) ![0, 256] S1024x256.size h2).toLoadRect
      = fun j : S1024x256.Idx => y (ix2 (j 0) ⟨256 + (j 1).val, Nat.add_lt_add_left (j 1).isLt 256⟩) := by
  rw [View.readCov_eq_canon']
  funext j
  refine (congrArg _ ?_).trans (View.canon_cons_emb (Rect.unit (s := S1024x512) ![0, 0] S1024x512.size h1) y [] (ix2 (j 0) ⟨256 + (j 1).val, Nat.add_lt_add_left (j 1).isLt 256⟩))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)

theorem read_v0 (v : View sig .tc .vmem S1024x256 .bf16) (y : Vec F S1024x256 .bf16) (h1) (h2) :
    v.readCov [⟨Rect.unit (s := S1024x256) ![0, 0] S1024x256.size h1, y⟩] (Rect.unit (s := S1024x256) ![0, 0] S1024x128.size h2).toLoadRect
      = fun j : S1024x128.Idx => y (ix2 (j 0) ⟨(j 1).val, Nat.lt_of_lt_of_le (j 1).isLt (show 128 ≤ 256 by decide)⟩) := by
  rw [View.readCov_eq_canon']
  funext j
  refine (congrArg _ ?_).trans (View.canon_cons_emb (Rect.unit (s := S1024x256) ![0, 0] S1024x256.size h1) y [] (ix2 (j 0) ⟨(j 1).val, Nat.lt_of_lt_of_le (j 1).isLt (show 128 ≤ 256 by decide)⟩))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)

theorem read_v1 (v : View sig .tc .vmem S1024x256 .bf16) (y : Vec F S1024x256 .bf16) (h1) (h2) :
    v.readCov [⟨Rect.unit (s := S1024x256) ![0, 0] S1024x256.size h1, y⟩] (Rect.unit (s := S1024x256) ![0, 128] S1024x128.size h2).toLoadRect
      = fun j : S1024x128.Idx => y (ix2 (j 0) ⟨128 + (j 1).val, Nat.add_lt_add_left (j 1).isLt 128⟩) := by
  rw [View.readCov_eq_canon']
  funext j
  refine (congrArg _ ?_).trans (View.canon_cons_emb (Rect.unit (s := S1024x256) ![0, 0] S1024x256.size h1) y [] (ix2 (j 0) ⟨128 + (j 1).val, Nat.add_lt_add_left (j 1).isLt 128⟩))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)

theorem read_m0 (v : View sig .tc .vmem S2x1024x1 .f32) (y : Vec F S2x1024x1 .f32) (h1) (h2) :
    v.readCov [⟨Rect.unit (s := S2x1024x1) ![0, 0, 0] S2x1024x1.size h1, y⟩] (Rect.unit (s := S2x1024x1) ![0, 0, 0] S1x1024x1.size h2).toLoadRect
      = fun j : S1x1024x1.Idx => y (ix3 0 (j 1) 0) := by
  rw [View.readCov_eq_canon']
  funext j
  refine (congrArg _ ?_).trans (View.canon_cons_emb (Rect.unit (s := S2x1024x1) ![0, 0, 0] S2x1024x1.size h1) y [] (ix3 0 (j 1) 0))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)
  | ⟨2, _⟩ => first | rfl | (simp [Rect.emb, Rect.unit, LoadRect.idx]; done)

theorem read_a0 (v : View sig .tc .vmem S2x1024x128 .f32) (y : Vec F S2x1024x128 .f32) (h1) (h2) :
    v.readCov [⟨Rect.unit (s := S2x1024x128) ![0, 0, 0] S2x1024x128.size h1, y⟩] (Rect.unit (s := S2x1024x128) ![0, 0, 0] S1x1024x128.size h2).toLoadRect
      = fun j : S1x1024x128.Idx => y (ix3 0 (j 1) (j 2)) := by
  rw [View.readCov_eq_canon']
  funext j
  refine (congrArg _ ?_).trans (View.canon_cons_emb (Rect.unit (s := S2x1024x128) ![0, 0, 0] S2x1024x128.size h1) y [] (ix3 0 (j 1) (j 2)))
  funext a
  refine Fin.ext ?_
  match a with
  | ⟨0, _⟩ => first | rfl | (simp [Rect.emb, Rect.unit, LoadRect.idx]; done)
  | ⟨1, _⟩ => first | rfl | (simp [Rect.emb, Rect.unit, LoadRect.idx]; done)
  | ⟨2, _⟩ => first | rfl | (simp [Rect.emb, Rect.unit, LoadRect.idx]; done)

/-- A load whose box lies off the last piece and under the last but one. -/
theorem readCov_at' {p : Kind} {sp : Space} {s : Shape} {e : EltTy} (v : View sig p sp s e) (r r' : Rect s) (w w') (L : List (View.Piece (Elt F) s e)) (B : LoadRect s) (j) (x : r'.shape.Idx) (h : B.idx j = r'.emb x) (hn : B.idx j ∉ r.set) :
    v.readCov (⟨r, w⟩ :: ⟨r', w'⟩ :: L) B j = w' x := by
  rw [View.readCov_eq_canon']
  exact (View.canon_cons_of_not_mem _ _ hn).trans ((congrArg _ h).trans (View.canon_cons_emb r' w' L x))

theorem read_m1 (v : View sig .tc .vmem S2x1024x1 .f32) (y : Vec F S2x1024x1 .f32) (a : Vec F S1x1024x1 .f32) (h0) (h1) (h2) :
    v.readCov [⟨Rect.unit (s := S2x1024x1) ![0, 0, 0] S1x1024x1.size h0, a⟩, ⟨Rect.unit (s := S2x1024x1) ![0, 0, 0] S2x1024x1.size h1, y⟩] (Rect.unit (s := S2x1024x1) ![1, 0, 0] S1x1024x1.size h2).toLoadRect
      = fun j : S1x1024x1.Idx => y (ix3 1 (j 1) 0) := by
  funext j
  refine readCov_at' v (Rect.unit (s := S2x1024x1) ![0, 0, 0] S1x1024x1.size h0) (Rect.unit (s := S2x1024x1) ![0, 0, 0] S2x1024x1.size h1) a y [] (Rect.unit (s := S2x1024x1) ![1, 0, 0] S1x1024x1.size h2).toLoadRect j (ix3 1 (j 1) 0) ?_ ?_
  · funext a
    refine Fin.ext ?_
    match a with
    | ⟨0, _⟩ => first | rfl | (simp [Rect.emb, Rect.unit, LoadRect.idx]; done)
    | ⟨1, _⟩ => first | rfl | (simp [Rect.emb, Rect.unit, LoadRect.idx]; done)
    | ⟨2, _⟩ => first | rfl | (simp [Rect.emb, Rect.unit, LoadRect.idx]; done)
  · intro h
    have := (Rect.mem_set_unit.mp h) 0
    have h' : 1 + 1 * (j 0).val < 0 + 1 := this.2
    omega

theorem read_a1 (v : View sig .tc .vmem S2x1024x128 .f32) (y : Vec F S2x1024x128 .f32) (a : Vec F S1x1024x128 .f32) (h0) (h1) (h2) :
    v.readCov [⟨Rect.unit (s := S2x1024x128) ![0, 0, 0] S1x1024x128.size h0, a⟩, ⟨Rect.unit (s := S2x1024x128) ![0, 0, 0] S2x1024x128.size h1, y⟩] (Rect.unit (s := S2x1024x128) ![1, 0, 0] S1x1024x128.size h2).toLoadRect
      = fun j : S1x1024x128.Idx => y (ix3 1 (j 1) (j 2)) := by
  funext j
  refine readCov_at' v (Rect.unit (s := S2x1024x128) ![0, 0, 0] S1x1024x128.size h0) (Rect.unit (s := S2x1024x128) ![0, 0, 0] S2x1024x128.size h1) a y [] (Rect.unit (s := S2x1024x128) ![1, 0, 0] S1x1024x128.size h2).toLoadRect j (ix3 1 (j 1) (j 2)) ?_ ?_
  · funext a
    refine Fin.ext ?_
    match a with
    | ⟨0, _⟩ => first | rfl | (simp [Rect.emb, Rect.unit, LoadRect.idx]; done)
    | ⟨1, _⟩ => first | rfl | (simp [Rect.emb, Rect.unit, LoadRect.idx]; done)
    | ⟨2, _⟩ => first | rfl | (simp [Rect.emb, Rect.unit, LoadRect.idx]; done)
  · intro h
    have := (Rect.mem_set_unit.mp h) 0
    have h' : 1 + 1 * (j 0).val < 0 + 1 := this.2
    omega

theorem full_q (M : Memref sig .tc .vmem S1x1024x512 .bf16) (hM : M.IsWhole) (x : Vec F S1x1024x512 .bf16) (h) :
    View.readAt (Elt F) M.view (Rect.unit (s := S1x1024x512) ![0, 0, 0] S1x1024x512.size h).toLoadRect (hM.unread x) = x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

theorem full_v (M : Memref sig .tc .vmem S1x1024x256 .bf16) (hM : M.IsWhole) (x : Vec F S1x1024x256 .bf16) (h) :
    View.readAt (Elt F) M.view (Rect.unit (s := S1x1024x256) ![0, 0, 0] S1x1024x256.size h).toLoadRect (hM.unread x) = x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

theorem unread_m0 (M : Memref sig .tc .vmem S2x1024x1 .f32) (hM : M.IsWhole) (x : Vec F S2x1024x1 .f32) (h) :
    View.readAt (Elt F) M.view (Rect.unit (s := S2x1024x1) ![0, 0, 0] S1x1024x1.size h).toLoadRect (hM.unread x) = ms 0 x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

theorem unread_m1 (M : Memref sig .tc .vmem S2x1024x1 .f32) (hM : M.IsWhole) (x : Vec F S2x1024x1 .f32) (h) :
    View.readAt (Elt F) M.view (Rect.unit (s := S2x1024x1) ![1, 0, 0] S1x1024x1.size h).toLoadRect (hM.unread x) = ms 1 x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

theorem unread_a0 (M : Memref sig .tc .vmem S2x1024x128 .f32) (hM : M.IsWhole) (x : Vec F S2x1024x128 .f32) (h) :
    View.readAt (Elt F) M.view (Rect.unit (s := S2x1024x128) ![0, 0, 0] S1x1024x128.size h).toLoadRect (hM.unread x) = as8 0 x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

theorem unread_a1 (M : Memref sig .tc .vmem S2x1024x128 .f32) (hM : M.IsWhole) (x : Vec F S2x1024x128 .f32) (h) :
    View.readAt (Elt F) M.view (Rect.unit (s := S2x1024x128) ![1, 0, 0] S1x1024x128.size h).toLoadRect (hM.unread x) = as8 1 x := by
  funext j
  refine (Memref.IsWhole.readAt_unread hM x _ j).trans ?_
  refine congrArg x ?_
  funext a
  refine Fin.ext ?_
  match a with
  | ⟨0, _⟩ => first | rfl | (simp [Rect.unit, LoadRect.idx]; done)
  | ⟨1, _⟩ => first | rfl | (simp [Rect.unit, LoadRect.idx]; done)
  | ⟨2, _⟩ => first | rfl | (simp [Rect.unit, LoadRect.idx]; done)

/-! ## The copies of the blocks -/

theorem pay11_eq (x : Vec F S1x1024x512 .bf16) : k0_pay11 x = fun j : S1024x512.Idx => x (ix3 0 (j 0) (j 1)) := by
  funext j
  pointwise [k0_pay11]
  rfl

theorem pay12_eq (x : Vec F S1x1024x512 .bf16) : k0_pay12 x = fun j : S1024x512.Idx => x (ix3 0 (j 0) (j 1)) := by
  funext j
  pointwise [k0_pay12]
  rfl

theorem pay13_eq (x : Vec F S1x1024x256 .bf16) : k0_pay13 x = fun j : S1024x256.Idx => x (ix3 0 (j 0) (j 1)) := by
  funext j
  pointwise [k0_pay13]
  rfl

theorem pay28_eq (x : Vec F S1x1024x512 .bf16) : k0_pay28 x = fun j : S1024x512.Idx => x (ix3 0 (j 0) (j 1)) := by
  funext j
  pointwise [k0_pay28]
  rfl

theorem pay29_eq (x : Vec F S1x1024x512 .bf16) : k0_pay29 x = fun j : S1024x512.Idx => x (ix3 0 (j 0) (j 1)) := by
  funext j
  pointwise [k0_pay29]
  rfl

theorem pay30_eq (x : Vec F S1x1024x256 .bf16) : k0_pay30 x = fun j : S1024x256.Idx => x (ix3 0 (j 0) (j 1)) := by
  funext j
  pointwise [k0_pay30]
  rfl

/-! ## Stores of the two heads -/

theorem emb_mem {s : Shape} (r : Rect s) (x : r.shape.Idx) : r.emb x ∈ r.set := r.toLoadRect.idx_mem x

/-- An element under the last piece written reads that piece. -/
theorem writes_at {p : Kind} {sp : Space} {s : Shape} {e : EltTy} (v : View sig p sp s e) (f) (r : Rect s) (w) (L : List (View.Piece (Elt F) s e)) (x : r.shape.Idx) (i : s.Idx) (h : i = r.emb x) :
    v.read (Elt F) (v.writes (Elt F) f (⟨r, w⟩ :: L)) i = w x := by
  subst h
  exact (View.read_writes_apply_eq_canon v f _ _ ⟨_, List.mem_cons_self, emb_mem r x⟩).trans (View.canon_cons_emb r w L x)

/-- An element under the last piece but one, and not under the last, reads that piece. -/
theorem writes_at' {p : Kind} {sp : Space} {s : Shape} {e : EltTy} (v : View sig p sp s e) (f) (r r' : Rect s) (w w') (L : List (View.Piece (Elt F) s e)) (x : r'.shape.Idx) (i : s.Idx) (h : i = r'.emb x) (hn : i ∉ r.set) :
    v.read (Elt F) (v.writes (Elt F) f (⟨r, w⟩ :: ⟨r', w'⟩ :: L)) i = w' x := by
  subst h
  refine (View.read_writes_apply_eq_canon v f _ _ ⟨_, List.mem_cons_of_mem _ List.mem_cons_self, emb_mem r' x⟩).trans ?_
  exact (View.canon_cons_of_not_mem _ _ hn).trans (View.canon_cons_emb r' w' L x)

theorem store3 (a b : Vec F S1x1024x1 .f32) (L : List (View.Piece (Elt F) S2x1024x1 .f32)) (h1) (h0) :
    rd3 (⟨Rect.unit (s := S2x1024x1) ![1, 0, 0] S1x1024x1.size h1, b⟩ :: ⟨Rect.unit (s := S2x1024x1) ![0, 0, 0] S1x1024x1.size h0, a⟩ :: L) = st1 a b := by
  funext i
  unfold rd3 st1
  by_cases hi : (i 0).val = 0
  · rw [if_pos hi]
    have e : i = (Rect.unit (s := S2x1024x1) ![0, 0, 0] S1x1024x1.size h0).emb (ix3 0 (i 1) 0) := by
      funext a
      refine Fin.ext ?_
      match a with
      | ⟨0, _⟩ => exact hi.trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    have hn : i ∉ (Rect.unit (s := S2x1024x1) ![1, 0, 0] S1x1024x1.size h1).set := by
      intro h
      have := (Rect.mem_set_unit.mp h) 0
      have h' : 1 ≤ (i 0).val := this.1
      omega
    exact writes_at' VS0_3 VS0_3.junk (Rect.unit (s := S2x1024x1) ![1, 0, 0] S1x1024x1.size h1) (Rect.unit (s := S2x1024x1) ![0, 0, 0] S1x1024x1.size h0) b a L _ i e hn
  · rw [if_neg hi]
    have e : i = (Rect.unit (s := S2x1024x1) ![1, 0, 0] S1x1024x1.size h1).emb (ix3 0 (i 1) 0) := by
      funext a
      refine Fin.ext ?_
      match a with
      | ⟨0, _⟩ => have : (i 0).val < 2 := (i 0).isLt; exact (show (i 0).val = 1 by omega).trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    exact writes_at VS0_3 VS0_3.junk (Rect.unit (s := S2x1024x1) ![1, 0, 0] S1x1024x1.size h1) b (⟨(Rect.unit (s := S2x1024x1) ![0, 0, 0] S1x1024x1.size h0), a⟩ :: L) _ i e

theorem store4 (a b : Vec F S1x1024x1 .f32) (L : List (View.Piece (Elt F) S2x1024x1 .f32)) (h1) (h0) :
    rd4 (⟨Rect.unit (s := S2x1024x1) ![1, 0, 0] S1x1024x1.size h1, b⟩ :: ⟨Rect.unit (s := S2x1024x1) ![0, 0, 0] S1x1024x1.size h0, a⟩ :: L) = st1 a b := by
  funext i
  unfold rd4 st1
  by_cases hi : (i 0).val = 0
  · rw [if_pos hi]
    have e : i = (Rect.unit (s := S2x1024x1) ![0, 0, 0] S1x1024x1.size h0).emb (ix3 0 (i 1) 0) := by
      funext a
      refine Fin.ext ?_
      match a with
      | ⟨0, _⟩ => exact hi.trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    have hn : i ∉ (Rect.unit (s := S2x1024x1) ![1, 0, 0] S1x1024x1.size h1).set := by
      intro h
      have := (Rect.mem_set_unit.mp h) 0
      have h' : 1 ≤ (i 0).val := this.1
      omega
    exact writes_at' VS0_4 VS0_4.junk (Rect.unit (s := S2x1024x1) ![1, 0, 0] S1x1024x1.size h1) (Rect.unit (s := S2x1024x1) ![0, 0, 0] S1x1024x1.size h0) b a L _ i e hn
  · rw [if_neg hi]
    have e : i = (Rect.unit (s := S2x1024x1) ![1, 0, 0] S1x1024x1.size h1).emb (ix3 0 (i 1) 0) := by
      funext a
      refine Fin.ext ?_
      match a with
      | ⟨0, _⟩ => have : (i 0).val < 2 := (i 0).isLt; exact (show (i 0).val = 1 by omega).trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    exact writes_at VS0_4 VS0_4.junk (Rect.unit (s := S2x1024x1) ![1, 0, 0] S1x1024x1.size h1) b (⟨(Rect.unit (s := S2x1024x1) ![0, 0, 0] S1x1024x1.size h0), a⟩ :: L) _ i e

theorem store5 (a b : Vec F S1x1024x128 .f32) (L : List (View.Piece (Elt F) S2x1024x128 .f32)) (h1) (h0) :
    rd5 (⟨Rect.unit (s := S2x1024x128) ![1, 0, 0] S1x1024x128.size h1, b⟩ :: ⟨Rect.unit (s := S2x1024x128) ![0, 0, 0] S1x1024x128.size h0, a⟩ :: L) = st8 a b := by
  funext i
  unfold rd5 st8
  by_cases hi : (i 0).val = 0
  · rw [if_pos hi]
    have e : i = (Rect.unit (s := S2x1024x128) ![0, 0, 0] S1x1024x128.size h0).emb (ix3 0 (i 1) (i 2)) := by
      funext a
      refine Fin.ext ?_
      match a with
      | ⟨0, _⟩ => exact hi.trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    have hn : i ∉ (Rect.unit (s := S2x1024x128) ![1, 0, 0] S1x1024x128.size h1).set := by
      intro h
      have := (Rect.mem_set_unit.mp h) 0
      have h' : 1 ≤ (i 0).val := this.1
      omega
    exact writes_at' VS0_5 VS0_5.junk (Rect.unit (s := S2x1024x128) ![1, 0, 0] S1x1024x128.size h1) (Rect.unit (s := S2x1024x128) ![0, 0, 0] S1x1024x128.size h0) b a L _ i e hn
  · rw [if_neg hi]
    have e : i = (Rect.unit (s := S2x1024x128) ![1, 0, 0] S1x1024x128.size h1).emb (ix3 0 (i 1) (i 2)) := by
      funext a
      refine Fin.ext ?_
      match a with
      | ⟨0, _⟩ => have : (i 0).val < 2 := (i 0).isLt; exact (show (i 0).val = 1 by omega).trans (by first | rfl | (simp [Rect.emb, Rect.unit, LoadRect.idx]; done))
      | ⟨1, _⟩ => first | rfl | (simp [Rect.emb, Rect.unit, LoadRect.idx]; done)
      | ⟨2, _⟩ => first | rfl | (simp [Rect.emb, Rect.unit, LoadRect.idx]; done) | (have : (i 2).val < 1 := (i 2).isLt; simp [Rect.emb, Rect.unit, LoadRect.idx]; omega)
    exact writes_at VS0_5 VS0_5.junk (Rect.unit (s := S2x1024x128) ![1, 0, 0] S1x1024x128.size h1) b (⟨(Rect.unit (s := S2x1024x128) ![0, 0, 0] S1x1024x128.size h0), a⟩ :: L) _ i e

theorem storeO (a b : Vec F S1024x128 .bf16) (h1) (h0) :
    rdO [⟨Rect.unit (s := S1024x256) ![0, 128] S1024x128.size h1, b⟩, ⟨Rect.unit (s := S1024x256) ![0, 0] S1024x128.size h0, a⟩] = stO a b := by
  funext i
  unfold rdO stO
  have hlt : (i 1).val < 256 := (i 1).isLt
  by_cases hi : (i 1).val < 128
  · rw [dif_pos hi]
    have e : i = (Rect.unit (s := S1024x256) ![0, 0] S1024x128.size h0).emb (ix2 (i 0) ⟨(i 1).val, hi⟩) := by
      funext a
      refine Fin.ext ?_
      match a with
      | ⟨0, _⟩ => first | rfl | (simp [Rect.emb, Rect.unit, LoadRect.idx]; done)
      | ⟨1, _⟩ => first | rfl | (simp [Rect.emb, Rect.unit, LoadRect.idx]; done)
    have hn : i ∉ (Rect.unit (s := S1024x256) ![0, 128] S1024x128.size h1).set := by
      intro h
      have := (Rect.mem_set_unit.mp h) 1
      have h' : 128 ≤ (i 1).val := this.1
      omega
    exact writes_at' VO0_3 VO0_3.junk (Rect.unit (s := S1024x256) ![0, 128] S1024x128.size h1) (Rect.unit (s := S1024x256) ![0, 0] S1024x128.size h0) b a [] _ i e hn
  · rw [dif_neg hi]
    have e : i = (Rect.unit (s := S1024x256) ![0, 128] S1024x128.size h1).emb (ix2 (i 0) ⟨(i 1).val - 128, by omega⟩) := by
      funext a
      refine Fin.ext ?_
      match a with
      | ⟨0, _⟩ => first | rfl | (simp [Rect.emb, Rect.unit, LoadRect.idx]; done)
      | ⟨1, _⟩ => exact (show (i 1).val = 128 + 1 * ((i 1).val - 128) by omega)
    exact writes_at VO0_3 VO0_3.junk (Rect.unit (s := S1024x256) ![0, 128] S1024x128.size h1) b (⟨(Rect.unit (s := S1024x256) ![0, 0] S1024x128.size h0), a⟩ :: []) _ i e

end Cert.KernelIdeal.Hand

end
-- ==== Proof.FlashBody.lean ====
/- What each case of the body leaves, head by head, from the point's blocks and the carried maxima, sums and products. -/
module

public import proofs.«01_k».proof.Proof.FlashRead

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.Tactic
open Idealize.ShloMosaic.ValueIdx
open Idealize.SL.Sem

variable {F : FTy → Type} [FloatOps F] [Named F]

/-! ## One head's step -/

/-- The new running maximum of the rows. -/
def hM (s : FVec F S1024x1024 .f32) (m : Vec F S1x1024x1 .f32) : FVec F S1024x1 .f32 :=
  maximumf (shapeCast S1024x1 m shapeCasts_S1x1024x1_S1024x1) (shapeCast S1024x1 (multiReduction .maximumf [1] S1024 s 0xFF800000#32 reduces_S1024x1024_S1024 (.inl rfl) rfl) shapeCasts_S1024_S1024x1)
/-- What the old sums and products are scaled by. -/
def hA (s : FVec F S1024x1024 .f32) (m : Vec F S1x1024x1 .f32) : FVec F S1024x1 .f32 :=
  exp2 (subf (shapeCast S1024x1 m shapeCasts_S1x1024x1_S1024x1) (hM s m))
/-- The block's weights. -/
def hP (s : FVec F S1024x1024 .f32) (m : Vec F S1x1024x1 .f32) : FVec F S1024x1024 .f32 :=
  exp2 (subf s (broadcastTo S1024x1024 (hM s m) broadcasts_S1024x1_S1024x1024))
/-- The new sums. -/
def hL (s : FVec F S1024x1024 .f32) (m l : Vec F S1x1024x1 .f32) : FVec F S1024x1 .f32 :=
  addf (mulf (hA s m) (shapeCast S1024x1 l shapeCasts_S1x1024x1_S1024x1)) (shapeCast S1024x1 (multiReduction .add [1] S1024 (hP s m) 0x00000000#32 reduces_S1024x1024_S1024 (.inl rfl) rfl) shapeCasts_S1024_S1024x1)
/-- The new products. -/
def hC (s : FVec F S1024x1024 .f32) (m : Vec F S1x1024x1 .f32) (a : Vec F S1x1024x128 .f32) (v : Vec F S1024x128 .bf16) : FVec F S1024x128 .f32 :=
  addf (mulf (broadcastTo S1024x128 (hA s m) broadcasts_S1024x1_S1024x128) (shapeCast S1024x128 a shapeCasts_S1x1024x128_S1024x128)) (matmul dot_S1024x1024_S1024x128_S1024x128_1_0_0_1_n_n none (truncf .bf16 (hP s m) bitsLt_bf16_f32) v (constant S1024x128 .f32 0x00000000#32))
/-- The stored quotient. -/
def hO (s : FVec F S1024x1024 .f32) (m l : Vec F S1x1024x1 .f32) (a : Vec F S1x1024x128 .f32) (v : Vec F S1024x128 .bf16) : FVec F S1024x128 .bf16 :=
  truncf .bf16 (divf (hC s m a v) (broadcastTo S1024x128 (hL s m l) broadcasts_S1024x1_S1024x128)) bitsLt_bf16_f32
def c1 (x : FVec F S1024x1 .f32) : FVec F S1x1024x1 .f32 := shapeCast S1x1024x1 x shapeCasts_S1024x1_S1x1024x1
def c8 (x : FVec F S1024x128 .f32) : FVec F S1x1024x128 .f32 := shapeCast S1x1024x128 x shapeCasts_S1024x128_S1x1024x128
/-- The scores of an earlier key block, and of the query block itself. -/
def sO (q k : Vec F S1024x256 .bf16) : FVec F S1024x1024 .f32 := k0_pay14 q k
def sD (q k : Vec F S1024x256 .bf16) : FVec F S1024x1024 .f32 := k0_pay31 q k

section Payloads
variable (q k : Vec F S1024x256 .bf16) (m l : Vec F S1x1024x1 .f32) (a : Vec F S1x1024x128 .f32) (v : Vec F S1024x128 .bf16)

theorem pO0m : k0_pay20 (k0_pay16 q k m) = c1 (hM (sO q k) m) := rfl
theorem pO0l : k0_pay21 (k0_pay17 q k m) (k0_pay18 q k m) (k0_pay19 l) = c1 (hL (sO q k) m l) := rfl
theorem pO0a : k0_pay22 (k0_pay17 q k m) (k0_pay18 q k m) a v = c8 (hC (sO q k) m a v) := rfl
theorem pO1m : k0_pay5 (k0_pay25 q k m) = c1 (hM (sO q k) m) := rfl
theorem pO1l : k0_pay6 (k0_pay23 q k) (k0_pay26 q k m) (k0_pay27 q k m) l = c1 (hL (sO q k) m l) := rfl
theorem pO1a : k0_pay7 (k0_pay23 q k) (k0_pay26 q k m) (k0_pay27 q k m) a v = c8 (hC (sO q k) m a v) := rfl
theorem pD0m : k0_pay39 (k0_pay33 q k m) = c1 (hM (sD q k) m) := rfl
theorem pD0l : k0_pay40 (k0_pay31 q k) (k0_pay33 q k m) (k0_pay34 q k m) l = c1 (hL (sD q k) m l) := rfl
theorem pD0a : k0_pay41 (k0_pay31 q k) (k0_pay33 q k m) (k0_pay34 q k m) a v = c8 (hC (sD q k) m a v) := rfl
theorem pD0o : k0_pay42 (k0_pay31 q k) (k0_pay33 q k m) (k0_pay34 q k m) l a v = hO (sD q k) m l a v := rfl
theorem pD1m : k0_pay50 q k m = c1 (hM (sD q k) m) := rfl
theorem pD1l : k0_pay8 (k0_pay48 q k m l) = c1 (hL (sD q k) m l) := rfl
theorem pD1a : k0_pay9 (k0_pay49 q k m a v) = c8 (hC (sD q k) m a v) := rfl
theorem pD1o : k0_pay10 (k0_pay48 q k m l) (k0_pay49 q k m a v) = hO (sD q k) m l a v := rfl
end Payloads

/-! ## The loads, with their boxes' sizes written out -/

section Loads
theorem l_fq (M : Memref sig .tc .vmem S1x1024x512 .bf16) (hM : M.IsWhole) (x : Vec F S1x1024x512 .bf16) (h) :
    View.readAt (Elt F) M.view (Rect.unit (s := S1x1024x512) ![0, 0, 0] ![1, 1024, 512] h).toLoadRect (hM.unread x) = x := full_q M hM x h
theorem l_fv (M : Memref sig .tc .vmem S1x1024x256 .bf16) (hM : M.IsWhole) (x : Vec F S1x1024x256 .bf16) (h) :
    View.readAt (Elt F) M.view (Rect.unit (s := S1x1024x256) ![0, 0, 0] ![1, 1024, 256] h).toLoadRect (hM.unread x) = x := full_v M hM x h
theorem l_um0 (M : Memref sig .tc .vmem S2x1024x1 .f32) (hM : M.IsWhole) (x : Vec F S2x1024x1 .f32) (h) :
    View.readAt (Elt F) M.view (Rect.unit (s := S2x1024x1) ![0, 0, 0] ![1, 1024, 1] h).toLoadRect (hM.unread x) = ms 0 x := unread_m0 M hM x h
theorem l_um1 (M : Memref sig .tc .vmem S2x1024x1 .f32) (hM : M.IsWhole) (x : Vec F S2x1024x1 .f32) (h) :
    View.readAt (Elt F) M.view (Rect.unit (s := S2x1024x1) ![1, 0, 0] ![1, 1024, 1] h).toLoadRect (hM.unread x) = ms 1 x := unread_m1 M hM x h
theorem l_ua0 (M : Memref sig .tc .vmem S2x1024x128 .f32) (hM : M.IsWhole) (x : Vec F S2x1024x128 .f32) (h) :
    View.readAt (Elt F) M.view (Rect.unit (s := S2x1024x128) ![0, 0, 0] ![1, 1024, 128] h).toLoadRect (hM.unread x) = as8 0 x := unread_a0 M hM x h
theorem l_ua1 (M : Memref sig .tc .vmem S2x1024x128 .f32) (hM : M.IsWhole) (x : Vec F S2x1024x128 .f32) (h) :
    View.readAt (Elt F) M.view (Rect.unit (s := S2x1024x128) ![1, 0, 0] ![1, 1024, 128] h).toLoadRect (hM.unread x) = as8 1 x := unread_a1 M hM x h
theorem l_q0 (v : View sig .tc .vmem S1024x512 .bf16) (x : Vec F S1x1024x512 .bf16) (h1) (h2) :
    v.readCov [⟨Rect.unit (s := S1024x512) ![0, 0] ![1024, 512] h1, fun j : S1024x512.Idx => x (ix3 0 (j 0) (j 1))⟩] (Rect.unit (s := S1024x512) ![0, 0] ![1024, 256] h2).toLoadRect = qs0 x := by
  refine (read_q0 v (fun j : S1024x512.Idx => x (ix3 0 (j 0) (j 1))) h1 h2).trans ?_
  rfl
theorem l_q1 (v : View sig .tc .vmem S1024x512 .bf16) (x : Vec F S1x1024x512 .bf16) (h1) (h2) :
    v.readCov [⟨Rect.unit (s := S1024x512) ![0, 0] ![1024, 512] h1, fun j : S1024x512.Idx => x (ix3 0 (j 0) (j 1))⟩] (Rect.unit (s := S1024x512) ![0, 256] ![1024, 256] h2).toLoadRect = qs1 x := by
  refine (read_q1 v (fun j : S1024x512.Idx => x (ix3 0 (j 0) (j 1))) h1 h2).trans ?_
  rfl
theorem l_v0 (v : View sig .tc .vmem S1024x256 .bf16) (x : Vec F S1x1024x256 .bf16) (h1) (h2) :
    v.readCov [⟨Rect.unit (s := S1024x256) ![0, 0] ![1024, 256] h1, fun j : S1024x256.Idx => x (ix3 0 (j 0) (j 1))⟩] (Rect.unit (s := S1024x256) ![0, 0] ![1024, 128] h2).toLoadRect = vs0 x := by
  refine (read_v0 v (fun j : S1024x256.Idx => x (ix3 0 (j 0) (j 1))) h1 h2).trans ?_
  rfl
theorem l_v1 (v : View sig .tc .vmem S1024x256 .bf16) (x : Vec F S1x1024x256 .bf16) (h1) (h2) :
    v.readCov [⟨Rect.unit (s := S1024x256) ![0, 0] ![1024, 256] h1, fun j : S1024x256.Idx => x (ix3 0 (j 0) (j 1))⟩] (Rect.unit (s := S1024x256) ![0, 128] ![1024, 128] h2).toLoadRect = vs1 x := by
  refine (read_v1 v (fun j : S1024x256.Idx => x (ix3 0 (j 0) (j 1))) h1 h2).trans ?_
  rfl
theorem l_m0 (v : View sig .tc .vmem S2x1024x1 .f32) (y : Vec F S2x1024x1 .f32) (h1) (h2) :
    v.readCov [⟨Rect.unit (s := S2x1024x1) ![0, 0, 0] ![2, 1024, 1] h1, y⟩] (Rect.unit (s := S2x1024x1) ![0, 0, 0] ![1, 1024, 1] h2).toLoadRect = ms 0 y := read_m0 v y h1 h2
theorem l_a0 (v : View sig .tc .vmem S2x1024x128 .f32) (y : Vec F S2x1024x128 .f32) (h1) (h2) :
    v.readCov [⟨Rect.unit (s := S2x1024x128) ![0, 0, 0] ![2, 1024, 128] h1, y⟩] (Rect.unit (s := S2x1024x128) ![0, 0, 0] ![1, 1024, 128] h2).toLoadRect = as8 0 y := read_a0 v y h1 h2
theorem l_m1 (v : View sig .tc .vmem S2x1024x1 .f32) (y : Vec F S2x1024x1 .f32) (a : Vec F S1x1024x1 .f32) (h0) (h1) (h2) :
    v.readCov [⟨Rect.unit (s := S2x1024x1) ![0, 0, 0] ![1, 1024, 1] h0, a⟩, ⟨Rect.unit (s := S2x1024x1) ![0, 0, 0] ![2, 1024, 1] h1, y⟩] (Rect.unit (s := S2x1024x1) ![1, 0, 0] ![1, 1024, 1] h2).toLoadRect = ms 1 y := read_m1 v y a h0 h1 h2
theorem l_a1 (v : View sig .tc .vmem S2x1024x128 .f32) (y : Vec F S2x1024x128 .f32) (a : Vec F S1x1024x128 .f32) (h0) (h1) (h2) :
    v.readCov [⟨Rect.unit (s := S2x1024x128) ![0, 0, 0] ![1, 1024, 128] h0, a⟩, ⟨Rect.unit (s := S2x1024x128) ![0, 0, 0] ![2, 1024, 128] h1, y⟩] (Rect.unit (s := S2x1024x128) ![1, 0, 0] ![1, 1024, 128] h2).toLoadRect = as8 1 y := read_a1 v y a h0 h1 h2
end Loads

variable (c : Dev nD) (i : grid0.Coords)
  (arg5 : Memref sig .tc .vmem S1x1024x512 .bf16) (harg5 : arg5.IsWhole) (arg6 : Memref sig .tc .vmem S1x1024x512 .bf16) (harg6 : arg6.IsWhole)
  (arg7 : Memref sig .tc .vmem S1x1024x256 .bf16) (harg7 : arg7.IsWhole) (arg8 : Memref sig .tc .vmem S1024x256 .bf16) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x256 .bf16) (harg11 : arg11.IsWhole) (arg12 : Memref sig .tc .vmem S2x1024x1 .f32) (harg12 : arg12.IsWhole)
  (arg13 : Memref sig .tc .vmem S2x1024x1 .f32) (harg13 : arg13.IsWhole) (arg14 : Memref sig .tc .vmem S2x1024x128 .f32) (harg14 : arg14.IsWhole)
  (x0 : Vec F S1x1024x512 .bf16) (x1 : Vec F S1x1024x512 .bf16) (x2 : Vec F S1x1024x256 .bf16)
  (xs3 : Vec F S2x1024x1 .f32) (xs4 : Vec F S2x1024x1 .f32) (xs5 : Vec F S2x1024x128 .f32)
  (xt0 : TbBuf0 (F := F) c tbM0_0) (xt1 : TbBuf0 (F := F) c tbM0_1)

/-! ## Case A -/

set_option maxHeartbeats 1000000 in
theorem runA_3 (hc0 : condI (wk i xt1)) (hc1 : condL (wq i xt0) (wk i xt1)) (hc2 : ¬condD (wq i xt0) (wk i xt1)) :
    rd3 (runA c i arg5 harg5 arg6 harg6 arg7 harg7 arg8 harg8 arg9 harg9 arg10 harg10 arg11 harg11 arg12 harg12 arg13 harg13 arg14 harg14 x0 x1 x2 xt0 xt1 hc0 hc1 hc2).1 = st1 (c1 (hM (sO (qs0 x0) (qs0 x1)) (ms 0 k0_pay1))) (c1 (hM (sO (qs1 x0) (qs1 x1)) (ms 1 k0_pay1))) := by
  unfold runA
  dsimp only
  refine (store3 _ _ _ _ _).trans ?_
  simp only [runA.sl.HS0_1, runA.sl.HS1_1, runA.sl.HS2_1, runA.sl.HS3_1, runA.sl.HS3_2, runA.sl.HS4_1, runA.sl.HS4_2, runA.sl.HS5_1, runA.sl.HS5_2, runA.sl.r, runA.sl.r_1, runA.sl.r_2, runA.sl.r_3, runA.sl.r_4, runA.sl.r_5, runA.sl.r_6, runA.sl.r_7, runA.sl.r_8, runA.sl.r_9, runA.sl.v28, runA.sl.v29, runA.sl.v31, runA.sl.v41, runA.sl.v47, runA.sl.v52, runA.sl.v64, runA.sl.v65, runA.sl.v67, runA.sl.v77, runA.sl.v83, runA.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runA_4 (hc0 : condI (wk i xt1)) (hc1 : condL (wq i xt0) (wk i xt1)) (hc2 : ¬condD (wq i xt0) (wk i xt1)) :
    rd4 (runA c i arg5 harg5 arg6 harg6 arg7 harg7 arg8 harg8 arg9 harg9 arg10 harg10 arg11 harg11 arg12 harg12 arg13 harg13 arg14 harg14 x0 x1 x2 xt0 xt1 hc0 hc1 hc2).2.1 = st1 (c1 (hL (sO (qs0 x0) (qs0 x1)) (ms 0 k0_pay1) (ms 0 k0_pay2))) (c1 (hL (sO (qs1 x0) (qs1 x1)) (ms 1 k0_pay1) (ms 1 k0_pay2))) := by
  unfold runA
  dsimp only
  refine (store4 _ _ _ _ _).trans ?_
  simp only [runA.sl.HS0_1, runA.sl.HS1_1, runA.sl.HS2_1, runA.sl.HS3_1, runA.sl.HS3_2, runA.sl.HS4_1, runA.sl.HS4_2, runA.sl.HS5_1, runA.sl.HS5_2, runA.sl.r, runA.sl.r_1, runA.sl.r_2, runA.sl.r_3, runA.sl.r_4, runA.sl.r_5, runA.sl.r_6, runA.sl.r_7, runA.sl.r_8, runA.sl.r_9, runA.sl.v28, runA.sl.v29, runA.sl.v31, runA.sl.v41, runA.sl.v47, runA.sl.v52, runA.sl.v64, runA.sl.v65, runA.sl.v67, runA.sl.v77, runA.sl.v83, runA.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runA_5 (hc0 : condI (wk i xt1)) (hc1 : condL (wq i xt0) (wk i xt1)) (hc2 : ¬condD (wq i xt0) (wk i xt1)) :
    rd5 (runA c i arg5 harg5 arg6 harg6 arg7 harg7 arg8 harg8 arg9 harg9 arg10 harg10 arg11 harg11 arg12 harg12 arg13 harg13 arg14 harg14 x0 x1 x2 xt0 xt1 hc0 hc1 hc2).2.2.1 = st8 (c8 (hC (sO (qs0 x0) (qs0 x1)) (ms 0 k0_pay1) (as8 0 k0_pay3) (vs0 x2))) (c8 (hC (sO (qs1 x0) (qs1 x1)) (ms 1 k0_pay1) (as8 1 k0_pay3) (vs1 x2))) := by
  unfold runA
  dsimp only
  refine (store5 _ _ _ _ _).trans ?_
  simp only [runA.sl.HS0_1, runA.sl.HS1_1, runA.sl.HS2_1, runA.sl.HS3_1, runA.sl.HS3_2, runA.sl.HS4_1, runA.sl.HS4_2, runA.sl.HS5_1, runA.sl.HS5_2, runA.sl.r, runA.sl.r_1, runA.sl.r_2, runA.sl.r_3, runA.sl.r_4, runA.sl.r_5, runA.sl.r_6, runA.sl.r_7, runA.sl.r_8, runA.sl.r_9, runA.sl.v28, runA.sl.v29, runA.sl.v31, runA.sl.v41, runA.sl.v47, runA.sl.v52, runA.sl.v64, runA.sl.v65, runA.sl.v67, runA.sl.v77, runA.sl.v83, runA.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

/-! ## Case B -/

set_option maxHeartbeats 1000000 in
theorem runB_O (hc0 : condI (wk i xt1)) (hc1 : ¬condL (wq i xt0) (wk i xt1)) (hc2 : condD (wq i xt0) (wk i xt1)) :
    rdO (runB c i arg5 harg5 arg6 harg6 arg7 harg7 arg8 harg8 arg9 harg9 arg10 harg10 arg11 harg11 arg12 harg12 arg13 harg13 arg14 harg14 x0 x1 x2 xt0 xt1 hc0 hc1 hc2).1 = stO (hO (sD (qs0 x0) (qs0 x1)) (ms 0 k0_pay1) (ms 0 k0_pay2) (as8 0 k0_pay3) (vs0 x2)) (hO (sD (qs1 x0) (qs1 x1)) (ms 1 k0_pay1) (ms 1 k0_pay2) (as8 1 k0_pay3) (vs1 x2)) := by
  unfold runB
  dsimp only
  refine (storeO _ _ _ _).trans ?_
  simp only [runB.sl.HS0_1, runB.sl.HS1_1, runB.sl.HS2_1, runB.sl.HS3_1, runB.sl.HS3_2, runB.sl.HS4_1, runB.sl.HS4_2, runB.sl.HS5_1, runB.sl.HS5_2, runB.sl.r, runB.sl.r_1, runB.sl.r_2, runB.sl.r_3, runB.sl.r_4, runB.sl.r_5, runB.sl.r_6, runB.sl.v101, runB.sl.v106, runB.sl.v28, runB.sl.v29, runB.sl.v38, runB.sl.v48, runB.sl.v54, runB.sl.v59, runB.sl.v75, runB.sl.v76, runB.sl.v85, runB.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runB_3 (hc0 : condI (wk i xt1)) (hc1 : ¬condL (wq i xt0) (wk i xt1)) (hc2 : condD (wq i xt0) (wk i xt1)) :
    rd3 (runB c i arg5 harg5 arg6 harg6 arg7 harg7 arg8 harg8 arg9 harg9 arg10 harg10 arg11 harg11 arg12 harg12 arg13 harg13 arg14 harg14 x0 x1 x2 xt0 xt1 hc0 hc1 hc2).2.1 = st1 (c1 (hM (sD (qs0 x0) (qs0 x1)) (ms 0 k0_pay1))) (c1 (hM (sD (qs1 x0) (qs1 x1)) (ms 1 k0_pay1))) := by
  unfold runB
  dsimp only
  refine (store3 _ _ _ _ _).trans ?_
  simp only [runB.sl.HS0_1, runB.sl.HS1_1, runB.sl.HS2_1, runB.sl.HS3_1, runB.sl.HS3_2, runB.sl.HS4_1, runB.sl.HS4_2, runB.sl.HS5_1, runB.sl.HS5_2, runB.sl.r, runB.sl.r_1, runB.sl.r_2, runB.sl.r_3, runB.sl.r_4, runB.sl.r_5, runB.sl.r_6, runB.sl.v101, runB.sl.v106, runB.sl.v28, runB.sl.v29, runB.sl.v38, runB.sl.v48, runB.sl.v54, runB.sl.v59, runB.sl.v75, runB.sl.v76, runB.sl.v85, runB.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runB_4 (hc0 : condI (wk i xt1)) (hc1 : ¬condL (wq i xt0) (wk i xt1)) (hc2 : condD (wq i xt0) (wk i xt1)) :
    rd4 (runB c i arg5 harg5 arg6 harg6 arg7 harg7 arg8 harg8 arg9 harg9 arg10 harg10 arg11 harg11 arg12 harg12 arg13 harg13 arg14 harg14 x0 x1 x2 xt0 xt1 hc0 hc1 hc2).2.2.1 = st1 (c1 (hL (sD (qs0 x0) (qs0 x1)) (ms 0 k0_pay1) (ms 0 k0_pay2))) (c1 (hL (sD (qs1 x0) (qs1 x1)) (ms 1 k0_pay1) (ms 1 k0_pay2))) := by
  unfold runB
  dsimp only
  refine (store4 _ _ _ _ _).trans ?_
  simp only [runB.sl.HS0_1, runB.sl.HS1_1, runB.sl.HS2_1, runB.sl.HS3_1, runB.sl.HS3_2, runB.sl.HS4_1, runB.sl.HS4_2, runB.sl.HS5_1, runB.sl.HS5_2, runB.sl.r, runB.sl.r_1, runB.sl.r_2, runB.sl.r_3, runB.sl.r_4, runB.sl.r_5, runB.sl.r_6, runB.sl.v101, runB.sl.v106, runB.sl.v28, runB.sl.v29, runB.sl.v38, runB.sl.v48, runB.sl.v54, runB.sl.v59, runB.sl.v75, runB.sl.v76, runB.sl.v85, runB.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runB_5 (hc0 : condI (wk i xt1)) (hc1 : ¬condL (wq i xt0) (wk i xt1)) (hc2 : condD (wq i xt0) (wk i xt1)) :
    rd5 (runB c i arg5 harg5 arg6 harg6 arg7 harg7 arg8 harg8 arg9 harg9 arg10 harg10 arg11 harg11 arg12 harg12 arg13 harg13 arg14 harg14 x0 x1 x2 xt0 xt1 hc0 hc1 hc2).2.2.2.1 = st8 (c8 (hC (sD (qs0 x0) (qs0 x1)) (ms 0 k0_pay1) (as8 0 k0_pay3) (vs0 x2))) (c8 (hC (sD (qs1 x0) (qs1 x1)) (ms 1 k0_pay1) (as8 1 k0_pay3) (vs1 x2))) := by
  unfold runB
  dsimp only
  refine (store5 _ _ _ _ _).trans ?_
  simp only [runB.sl.HS0_1, runB.sl.HS1_1, runB.sl.HS2_1, runB.sl.HS3_1, runB.sl.HS3_2, runB.sl.HS4_1, runB.sl.HS4_2, runB.sl.HS5_1, runB.sl.HS5_2, runB.sl.r, runB.sl.r_1, runB.sl.r_2, runB.sl.r_3, runB.sl.r_4, runB.sl.r_5, runB.sl.r_6, runB.sl.v101, runB.sl.v106, runB.sl.v28, runB.sl.v29, runB.sl.v38, runB.sl.v48, runB.sl.v54, runB.sl.v59, runB.sl.v75, runB.sl.v76, runB.sl.v85, runB.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

/-! ## Case C -/

set_option maxHeartbeats 1000000 in
theorem runC_3 (hc0 : ¬condI (wk i xt1)) (hc1 : condL (wq i xt0) (wk i xt1)) (hc2 : ¬condD (wq i xt0) (wk i xt1)) :
    rd3 (runC c i arg5 harg5 arg6 harg6 arg7 harg7 arg8 harg8 arg9 harg9 arg10 harg10 arg11 harg11 arg12 harg12 arg13 harg13 arg14 harg14 x0 x1 x2 xs3 xs4 xs5 xt0 xt1 hc0 hc1 hc2).1 = st1 (c1 (hM (sO (qs0 x0) (qs0 x1)) (ms 0 xs3))) (c1 (hM (sO (qs1 x0) (qs1 x1)) (ms 1 xs3))) := by
  unfold runC
  dsimp only
  refine (store3 _ _ _ _ _).trans ?_
  simp only [runC.sl.HS0_1, runC.sl.HS1_1, runC.sl.HS2_1, runC.sl.r, runC.sl.r_1, runC.sl.r_2, runC.sl.r_3, runC.sl.r_4, runC.sl.r_5, runC.sl.r_6, runC.sl.r_7, runC.sl.r_8, runC.sl.r_9, runC.sl.v28, runC.sl.v29, runC.sl.v52, runC.sl.v64, runC.sl.v65, runC.sl.v67, runC.sl.v77, runC.sl.v83, runC.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runC_4 (hc0 : ¬condI (wk i xt1)) (hc1 : condL (wq i xt0) (wk i xt1)) (hc2 : ¬condD (wq i xt0) (wk i xt1)) :
    rd4 (runC c i arg5 harg5 arg6 harg6 arg7 harg7 arg8 harg8 arg9 harg9 arg10 harg10 arg11 harg11 arg12 harg12 arg13 harg13 arg14 harg14 x0 x1 x2 xs3 xs4 xs5 xt0 xt1 hc0 hc1 hc2).2.1 = st1 (c1 (hL (sO (qs0 x0) (qs0 x1)) (ms 0 xs3) (ms 0 xs4))) (c1 (hL (sO (qs1 x0) (qs1 x1)) (ms 1 xs3) (ms 1 xs4))) := by
  unfold runC
  dsimp only
  refine (store4 _ _ _ _ _).trans ?_
  simp only [runC.sl.HS0_1, runC.sl.HS1_1, runC.sl.HS2_1, runC.sl.r, runC.sl.r_1, runC.sl.r_2, runC.sl.r_3, runC.sl.r_4, runC.sl.r_5, runC.sl.r_6, runC.sl.r_7, runC.sl.r_8, runC.sl.r_9, runC.sl.v28, runC.sl.v29, runC.sl.v52, runC.sl.v64, runC.sl.v65, runC.sl.v67, runC.sl.v77, runC.sl.v83, runC.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runC_5 (hc0 : ¬condI (wk i xt1)) (hc1 : condL (wq i xt0) (wk i xt1)) (hc2 : ¬condD (wq i xt0) (wk i xt1)) :
    rd5 (runC c i arg5 harg5 arg6 harg6 arg7 harg7 arg8 harg8 arg9 harg9 arg10 harg10 arg11 harg11 arg12 harg12 arg13 harg13 arg14 harg14 x0 x1 x2 xs3 xs4 xs5 xt0 xt1 hc0 hc1 hc2).2.2.1 = st8 (c8 (hC (sO (qs0 x0) (qs0 x1)) (ms 0 xs3) (as8 0 xs5) (vs0 x2))) (c8 (hC (sO (qs1 x0) (qs1 x1)) (ms 1 xs3) (as8 1 xs5) (vs1 x2))) := by
  unfold runC
  dsimp only
  refine (store5 _ _ _ _ _).trans ?_
  simp only [runC.sl.HS0_1, runC.sl.HS1_1, runC.sl.HS2_1, runC.sl.r, runC.sl.r_1, runC.sl.r_2, runC.sl.r_3, runC.sl.r_4, runC.sl.r_5, runC.sl.r_6, runC.sl.r_7, runC.sl.r_8, runC.sl.r_9, runC.sl.v28, runC.sl.v29, runC.sl.v52, runC.sl.v64, runC.sl.v65, runC.sl.v67, runC.sl.v77, runC.sl.v83, runC.sl.v88, l_fq, l_fv, l_um0, l_um1, l_ua0, l_ua1, l_q0, l_q1, l_v0, l_v1, l_m0, l_a0, l_m1, l_a1, pay11_eq, pay12_eq, pay13_eq, pay28_eq, pay29_eq, pay30_eq]
  rfl

/-! ## Case D -/

set_option maxHeartbeats 1000000 in
theorem runD_O (hc0 : ¬condI (wk i xt1)) (hc1 : ¬condL (wq i xt0) (wk i xt1)) (hc2 : condD (wq i xt0) (wk i xt1)) :
    rdO (runD c i arg5 harg5 arg6 harg6 arg7 harg7 arg8 harg8 arg9 harg9 arg10 harg10 arg11 harg11 arg12 harg12 arg13 harg13 arg14 harg14 x0 x1 x2 xs3 xs4 xs5 xt0 xt1 hc0 hc1 hc2).1 = stO (hO (sD (qs0 x0) (qs0 x1)) (ms 0 xs3) (ms 0 xs4) (as8 0 xs5) (vs0 x2)) (hO (sD (qs1 x0) (qs1 x1)) (ms 1 xs3) (ms 1 xs4) (as8 1 xs5) (vs1 x2)) := by
  unfold runD
  dsimp only
  refine (storeO _ _ _ _).trans ?_
  simp only [runD.sl.HS0_1, runD.sl.HS1_1, runD.sl.HS2_1, runD.sl.r, runD.sl.r_1, runD.sl.r_2, runD.sl.r_3, runD.sl.r_4, runD.sl.r_5, runD.sl.r_6, runD.sl.v101, runD.sl.v106, runD.sl.v28, runD.sl.v29, runD.sl.v59, runD.sl.v75, runD.sl.v76, runD.sl.v85, runD.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runD_3 (hc0 : ¬condI (wk i xt1)) (hc1 : ¬condL (wq i xt0) (wk i xt1)) (hc2 : condD (wq i xt0) (wk i xt1)) :
    rd3 (runD c i arg5 harg5 arg6 harg6 arg7 harg7 arg8 harg8 arg9 harg9 arg10 harg10 arg11 harg11 arg12 harg12 arg13 harg13 arg14 harg14 x0 x1 x2 xs3 xs4 xs5 xt0 xt1 hc0 hc1 hc2).2.1 = st1 (c1 (hM (sD (qs0 x0) (qs0 x1)) (ms 0 xs3))) (c1 (hM (sD (qs1 x0) (qs1 x1)) (ms 1 xs3))) := by
  unfold runD
  dsimp only
  refine (store3 _ _ _ _ _).trans ?_
  simp only [runD.sl.HS0_1, runD.sl.HS1_1, runD.sl.HS2_1, runD.sl.r, runD.sl.r_1, runD.sl.r_2, runD.sl.r_3, runD.sl.r_4, runD.sl.r_5, runD.sl.r_6, runD.sl.v101, runD.sl.v106, runD.sl.v28, runD.sl.v29, runD.sl.v59, runD.sl.v75, runD.sl.v76, runD.sl.v85, runD.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runD_4 (hc0 : ¬condI (wk i xt1)) (hc1 : ¬condL (wq i xt0) (wk i xt1)) (hc2 : condD (wq i xt0) (wk i xt1)) :
    rd4 (runD c i arg5 harg5 arg6 harg6 arg7 harg7 arg8 harg8 arg9 harg9 arg10 harg10 arg11 harg11 arg12 harg12 arg13 harg13 arg14 harg14 x0 x1 x2 xs3 xs4 xs5 xt0 xt1 hc0 hc1 hc2).2.2.1 = st1 (c1 (hL (sD (qs0 x0) (qs0 x1)) (ms 0 xs3) (ms 0 xs4))) (c1 (hL (sD (qs1 x0) (qs1 x1)) (ms 1 xs3) (ms 1 xs4))) := by
  unfold runD
  dsimp only
  refine (store4 _ _ _ _ _).trans ?_
  simp only [runD.sl.HS0_1, runD.sl.HS1_1, runD.sl.HS2_1, runD.sl.r, runD.sl.r_1, runD.sl.r_2, runD.sl.r_3, runD.sl.r_4, runD.sl.r_5, runD.sl.r_6, runD.sl.v101, runD.sl.v106, runD.sl.v28, runD.sl.v29, runD.sl.v59, runD.sl.v75, runD.sl.v76, runD.sl.v85, runD.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

set_option maxHeartbeats 1000000 in
theorem runD_5 (hc0 : ¬condI (wk i xt1)) (hc1 : ¬condL (wq i xt0) (wk i xt1)) (hc2 : condD (wq i xt0) (wk i xt1)) :
    rd5 (runD c i arg5 harg5 arg6 harg6 arg7 harg7 arg8 harg8 arg9 harg9 arg10 harg10 arg11 harg11 arg12 harg12 arg13 harg13 arg14 harg14 x0 x1 x2 xs3 xs4 xs5 xt0 xt1 hc0 hc1 hc2).2.2.2.1 = st8 (c8 (hC (sD (qs0 x0) (qs0 x1)) (ms 0 xs3) (as8 0 xs5) (vs0 x2))) (c8 (hC (sD (qs1 x0) (qs1 x1)) (ms 1 xs3) (as8 1 xs5) (vs1 x2))) := by
  unfold runD
  dsimp only
  refine (store5 _ _ _ _ _).trans ?_
  simp only [runD.sl.HS0_1, runD.sl.HS1_1, runD.sl.HS2_1, runD.sl.r, runD.sl.r_1, runD.sl.r_2, runD.sl.r_3, runD.sl.r_4, runD.sl.r_5, runD.sl.r_6, runD.sl.v101, runD.sl.v106, runD.sl.v28, runD.sl.v29, runD.sl.v59, runD.sl.v75, runD.sl.v76, runD.sl.v85, runD.sl.v95, l_fq, l_fv, l_um0, l_um1, l_ua0, l_ua1, l_q0, l_q1, l_v0, l_v1, l_m0, l_a0, l_m1, l_a1, pay11_eq, pay12_eq, pay13_eq, pay28_eq, pay29_eq, pay30_eq]
  rfl

end Cert.KernelIdeal.Hand

end
-- ==== Proof.FlashHead.lean ====
/- One head's step at exact arithmetic, row by row. -/
module

public import proofs.«01_k».proof.Proof.FlashBody
public import Idealize.ShloMosaic.PureOps.Ideal.Laws
public import Idealize.ShloMosaic.Lib.WordCmp

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem

theorem negInf : Ideal.ofBits FTy.f32 4286578688#32 = ⊥ := by
  simp [Ideal.ofBits, Ideal.ieee]

section
variable (s : FVec Ideal S1024x1024 .f32) (m l : Vec Ideal S1x1024x1 .f32) (a : Vec Ideal S1x1024x128 .f32) (v : Vec Ideal S1024x128 .bf16)
  (q k : Vec Ideal S1024x256 .bf16) (r : Fin 1024)

theorem hM_apply : hM s m (ix2 r 0) = max (m (ix3 0 r 0)) (Finset.univ.fold max ⊥ fun k : Fin 1024 => s (ix2 r k)) := by
  pointwise [hM]
  rw [negInf]

theorem hA_apply : hA s m (ix2 r 0) = Ideal.exp2 (m (ix3 0 r 0) - hM s m (ix2 r 0)) := by
  pointwise [hA]
  rfl

theorem hP_apply (c : Fin 1024) : hP s m (ix2 r c) = Ideal.exp2 (s (ix2 r c) - hM s m (ix2 r 0)) := by
  pointwise [hP]
  rfl

theorem hL_apply : hL s m l (ix2 r 0) = Ideal.exp2 (m (ix3 0 r 0) - hM s m (ix2 r 0)) * l (ix3 0 r 0) + ∑ k : Fin 1024, Ideal.exp2 (s (ix2 r k) - hM s m (ix2 r 0)) := by
  pointwise [hL, hA, hP]
  rfl

theorem hC_apply (d : Fin 128) : hC s m a v (ix2 r d) = Ideal.exp2 (m (ix3 0 r 0) - hM s m (ix2 r 0)) * a (ix3 0 r d) + ∑ k : Fin 1024, Ideal.exp2 (s (ix2 r k) - hM s m (ix2 r 0)) * v (ix2 k d) := by
  pointwise [hC, hA, hP]
  rfl

theorem hO_apply (d : Fin 128) : hO s m l a v (ix2 r d) = Ideal.div (hC s m a v (ix2 r d)) (hL s m l (ix2 r 0)) := by
  pointwise [hO]

theorem sO_apply (c : Fin 1024) : sO q k (ix2 r c) = ∑ d : Fin 256, q (ix2 r d) * k (ix2 c d) := by
  pointwise [sO, k0_pay14]

theorem sD_apply (c : Fin 1024) : sD q k (ix2 r c) = if c.val ≤ r.val ||| 63 then ∑ d : Fin 256, q (ix2 r d) * k (ix2 c d) else ⊥ := by
  pointwise [sD, k0_pay31]
  have e : IntOp.ori (BitVec.ofNat 32 r.val) 63#32 = BitVec.ofNat 32 (r.val ||| 63) := by
    apply BitVec.eq_of_toNat_eq
    have h1 : r.val < 2 ^ 10 := r.isLt
    have h2 : r.val ||| 63 < 2 ^ 10 := Nat.or_lt_two_pow h1 (by decide)
    simp only [IntOp.ori, BitVec.toNat_or, BitVec.toNat_ofNat]
    rw [Nat.mod_eq_of_lt (by omega), Nat.mod_eq_of_lt (by omega), Nat.mod_eq_of_lt (by omega)]
  have h2 : r.val ||| 63 < 2 ^ 10 := Nat.or_lt_two_pow (show r.val < 2 ^ 10 from r.isLt) (by decide)
  have hc : c.val < 2 ^ 10 := c.isLt
  rw [e, WordCmp.cmpi_sle_ofNat (by omega) (by omega), IdealRules.named_const.ideal_named_scalar _ _ _ _ rfl]
  unfold Scalar.select
  by_cases h : c.val ≤ r.val ||| 63
  · rw [if_pos h, if_pos (by simp [h])]
  · rw [if_neg h, if_neg (by simp [h])]

theorem c1_apply (x : FVec Ideal S1024x1 .f32) (i : S1x1024x1.Idx) : c1 x (ix3 0 r 0) = x (ix2 r 0) := by
  pointwise [c1]
theorem c8_apply (x : FVec Ideal S1024x128 .f32) (d : Fin 128) : c8 x (ix3 0 r d) = x (ix2 r d) := by
  pointwise [c8]
theorem pay1_apply (h : Fin 2) : (k0_pay1 : FVec Ideal _ .f32) (ix3 h r 0) = ⊥ := by
  pointwise [k0_pay1]
  exact negInf
theorem pay2_apply (h : Fin 2) : (k0_pay2 : FVec Ideal _ .f32) (ix3 h r 0) = 0 := by
  pointwise [k0_pay2]
theorem pay3_apply (h : Fin 2) (d : Fin 128) : (k0_pay3 : FVec Ideal _ .f32) (ix3 h r d) = 0 := by
  pointwise [k0_pay3]
end

end Cert.KernelIdeal.Hand

end
-- ==== Proof.FlashBlk.lean ====
/- The blocks the grid's points read and write: where each lies in its array, and what the host program put there. -/
module

public import proofs.«01_k».proof.Proof.FlashDat
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem

/-- The query block and the key block of the ten steps of a pair of heads. -/
def qn (j : ℕ) : ℕ := if j < 1 then 0 else if j < 3 then 1 else if j < 6 then 2 else 3
def kn (j : ℕ) : ℕ := if j < 1 then 0 else if j < 3 then j - 1 else if j < 6 then j - 3 else j - 6

theorem win_idx : ∀ t : Fin grid0.N,
    ((cfgM Ideal).win 0).index t = ![t.val / 10 % 4, t.val / 40 * 4 + qn (t.val % 10), 0]
    ∧ ((cfgM Ideal).win 1).index t = ![t.val / 10 % 4, t.val / 40 * 4 + kn (t.val % 10), 0]
    ∧ ((cfgM Ideal).win 2).index t = ![t.val / 10 % 4, t.val / 40 * 4 + kn (t.val % 10), 0]
    ∧ ((cfgM Ideal).win 3).index t = ![t.val / 40 * 4 + qn (t.val % 10), t.val / 10 % 4] := by decide +kernel

theorem condI_iff : ∀ t : Fin grid0.N, condI (lit1 (grid0.coords t 2)) ↔ kn (t.val % 10) = 0 := by decide +kernel
theorem condD_iff : ∀ t : Fin grid0.N, condD (lit0 (grid0.coords t 2)) (lit1 (grid0.coords t 2)) ↔ kn (t.val % 10) = qn (t.val % 10) := by decide +kernel
theorem flush_iff : ∀ t : Fin grid0.N, ((cfgM Ideal).win 3).flush t = true → kn (t.val % 10) = qn (t.val % 10) := by decide +kernel
theorem covers3 : ((cfgM Ideal).win 3).Covers := by decide +kernel

variable (m : (ℓ : Loc nD τ sig) → Buf (Elt Ideal) ℓ) (c : Dev nD)

theorem tlt (t : Fin grid0.N) : t.val < 320 := t.isLt
theorem qn_lt (j : ℕ) : qn j < 4 := by unfold qn; split_ifs <;> omega
theorem kn_le {j : ℕ} (h : j < 10) : kn j ≤ qn j := by unfold qn kn; split_ifs <;> omega

theorem q_blk (t : Fin grid0.N) (r : Fin 1024) (j : Fin 512) (h1) (h2) :
    (iblk m c 0 t : Vec Ideal S1x1024x512 .bf16) (ix3 0 r j)
      = V m c main_v10 (ix3 ⟨t.val / 10 % 4, h1⟩ ⟨(t.val / 40 * 4 + qn (t.val % 10)) * 1024 + r.val, h2⟩ j) := by
  blk_ext [iblk, win_idx t]

theorem k_blk (t : Fin grid0.N) (r : Fin 1024) (j : Fin 512) (h1) (h2) :
    (iblk m c 1 t : Vec Ideal S1x1024x512 .bf16) (ix3 0 r j)
      = V m c main_v15 (ix3 ⟨t.val / 10 % 4, h1⟩ ⟨(t.val / 40 * 4 + kn (t.val % 10)) * 1024 + r.val, h2⟩ j) := by
  blk_ext [iblk, win_idx t]

theorem v_blk (t : Fin grid0.N) (r : Fin 1024) (j : Fin 256) (h1) (h2) :
    (iblk m c 2 t : Vec Ideal S1x1024x256 .bf16) (ix3 0 r j)
      = V m c main_v18 (ix3 ⟨t.val / 10 % 4, h1⟩ ⟨(t.val / 40 * 4 + kn (t.val % 10)) * 1024 + r.val, h2⟩ j) := by
  blk_ext [iblk, win_idx t]

/-- An argument array at number coordinates: zero outside it. -/
def at4 {n3 : ℕ} (x : (⟨4, ![8, 4096, 8, n3]⟩ : Shape).Idx → EReal) (b s h d : ℕ) : EReal :=
  if H : b < 8 ∧ s < 4096 ∧ h < 8 ∧ d < n3 then x (ix4 ⟨b, H.1⟩ ⟨s, H.2.1⟩ ⟨h, H.2.2.1⟩ ⟨d, H.2.2.2⟩) else 0

theorem at4_mk {n3 : ℕ} (x : (⟨4, ![8, 4096, 8, n3]⟩ : Shape).Idx → EReal) (b : Fin 8) (s : Fin 4096) (h : Fin 8) (d : Fin n3) :
    at4 x b.val s.val h.val d.val = x (ix4 b s h d) := dif_pos ⟨b.isLt, s.isLt, h.isLt, d.isLt⟩

abbrev X0 : S8x4096x8x192.Idx → EReal := m ((c : Thread nD τ).loc main_arg0)
abbrev X1 : S8x4096x8x192.Idx → EReal := m ((c : Thread nD τ).loc main_arg1)
abbrev X2 : S8x4096x8x128.Idx → EReal := m ((c : Thread nD τ).loc main_arg2)

/-- What the queries are scaled by. -/
def cq : EReal := Ideal.div 1 (Ideal.sqrt (Ideal.ofBits FTy.f32 1128267776#32) * Ideal.log (Ideal.ofBits FTy.f32 1073741824#32))

set_option maxHeartbeats 1600000 in
theorem V_q (p : Fin 4) (n : Fin 32768) (j : Fin 512) :
    (V m c main_v10 : S4x32768x512.Idx → EReal) (ix3 p n j) = if j.val % 256 < 192 then at4 (X0 m c) (n.val / 4096) (n.val % 4096) (p.val * 2 + j.val / 256) (j.val % 256) * cq else 0 := by
  entry_read
  pointwise
  by_cases h : j.val % 256 < 192
  · rw [dif_pos h, if_pos h, at4, dif_pos ⟨by omega, by omega, by omega, h⟩]; rfl
  · rw [dif_neg h, if_neg h]

set_option maxHeartbeats 1600000 in
theorem V_k (p : Fin 4) (n : Fin 32768) (j : Fin 512) :
    (V m c main_v15 : S4x32768x512.Idx → EReal) (ix3 p n j) = if j.val % 256 < 192 then at4 (X1 m c) (n.val / 4096) (n.val % 4096) (p.val * 2 + j.val / 256) (j.val % 256) else 0 := by
  entry_read
  pointwise
  by_cases h : j.val % 256 < 192
  · rw [dif_pos h, if_pos h, at4, dif_pos ⟨by omega, by omega, by omega, h⟩]
  · rw [dif_neg h, if_neg h]

set_option maxHeartbeats 1600000 in
theorem V_v (p : Fin 4) (n : Fin 32768) (j : Fin 256) :
    (V m c main_v18 : S4x32768x256.Idx → EReal) (ix3 p n j) = at4 (X2 m c) (n.val / 4096) (n.val % 4096) (p.val * 2 + j.val / 128) (j.val % 128) := by
  entry_read
  pointwise
  rw [at4, dif_pos ⟨by omega, by omega, by omega, by omega⟩]

/-! ## The blocks from the arguments -/

theorem q_at (t : Fin grid0.N) (r : Fin 1024) (hh : ℕ) (d : ℕ) (hd : d < 256) (hhh : hh < 2) (h) :
    (iblk m c 0 t : Vec Ideal S1x1024x512 .bf16) (ix3 0 r ⟨hh * 256 + d, h⟩)
      = if d < 192 then at4 (X0 m c) (t.val / 40) (qn (t.val % 10) * 1024 + r.val) (t.val / 10 % 4 * 2 + hh) d * cq else 0 := by
  have ht := tlt t
  have hq := qn_lt (t.val % 10)
  have hr : r.val < 1024 := r.isLt
  refine (q_blk m c t r _ (by omega) (by omega)).trans ((V_q m c _ _ _).trans ?_)
  dsimp only
  have e1 : (hh * 256 + d) % 256 = d := by omega
  have e2 : (hh * 256 + d) / 256 = hh := by omega
  have e3 : ((t.val / 40 * 4 + qn (t.val % 10)) * 1024 + r.val) / 4096 = t.val / 40 := by omega
  have e4 : ((t.val / 40 * 4 + qn (t.val % 10)) * 1024 + r.val) % 4096 = qn (t.val % 10) * 1024 + r.val := by omega
  rw [e1, e2, e3, e4]

theorem k_at (t : Fin grid0.N) (r : Fin 1024) (hh : ℕ) (d : ℕ) (hd : d < 256) (hhh : hh < 2) (h) :
    (iblk m c 1 t : Vec Ideal S1x1024x512 .bf16) (ix3 0 r ⟨hh * 256 + d, h⟩)
      = if d < 192 then at4 (X1 m c) (t.val / 40) (kn (t.val % 10) * 1024 + r.val) (t.val / 10 % 4 * 2 + hh) d else 0 := by
  have ht := tlt t
  have hq := qn_lt (t.val % 10)
  have hk := kn_le (j := t.val % 10) (by omega)
  have hr : r.val < 1024 := r.isLt
  refine (k_blk m c t r _ (by omega) (by omega)).trans ((V_k m c _ _ _).trans ?_)
  dsimp only
  have e1 : (hh * 256 + d) % 256 = d := by omega
  have e2 : (hh * 256 + d) / 256 = hh := by omega
  have e3 : ((t.val / 40 * 4 + kn (t.val % 10)) * 1024 + r.val) / 4096 = t.val / 40 := by omega
  have e4 : ((t.val / 40 * 4 + kn (t.val % 10)) * 1024 + r.val) % 4096 = kn (t.val % 10) * 1024 + r.val := by omega
  rw [e1, e2, e3, e4]

theorem v_at (t : Fin grid0.N) (r : Fin 1024) (hh : ℕ) (d : ℕ) (hd : d < 128) (hhh : hh < 2) (h) :
    (iblk m c 2 t : Vec Ideal S1x1024x256 .bf16) (ix3 0 r ⟨hh * 128 + d, h⟩)
      = at4 (X2 m c) (t.val / 40) (kn (t.val % 10) * 1024 + r.val) (t.val / 10 % 4 * 2 + hh) d := by
  have ht := tlt t
  have hq := qn_lt (t.val % 10)
  have hk := kn_le (j := t.val % 10) (by omega)
  have hr : r.val < 1024 := r.isLt
  refine (v_blk m c t r _ (by omega) (by omega)).trans ((V_v m c _ _ _).trans ?_)
  dsimp only
  have e1 : (hh * 128 + d) % 128 = d := by omega
  have e2 : (hh * 128 + d) / 128 = hh := by omega
  have e3 : ((t.val / 40 * 4 + kn (t.val % 10)) * 1024 + r.val) / 4096 = t.val / 40 := by omega
  have e4 : ((t.val / 40 * 4 + kn (t.val % 10)) * 1024 + r.val) % 4096 = kn (t.val % 10) * 1024 + r.val := by omega
  rw [e1, e2, e3, e4]

end Cert.KernelIdeal.Hand

end
-- ==== Proof.FlashMath.lean ====
/- The running maximum, sum and product of a row's scores, over the extended reals: what one key block adds, what masked
   keys add, and the quotient at the end. -/
module

public import Idealize.ShloMosaic.PureOps.Ideal.Laws

@[expose] public section

noncomputable section

namespace Cert.FlashMath

open Idealize.ShloMosaic

/-- The largest of the first `n` scores; the sum of their weights; the sum of their weighted values. -/
def Mx (T : ℕ → EReal) (n : ℕ) : EReal := (Finset.range n).sup T
def Lx (T : ℕ → EReal) (n : ℕ) : EReal := ∑ k ∈ Finset.range n, Ideal.exp2 (T k - Mx T n)
def Ax (T v : ℕ → EReal) (n : ℕ) : EReal := ∑ k ∈ Finset.range n, Ideal.exp2 (T k - Mx T n) * v k

/-- Every score is −∞ or a number. -/
def Ok (T : ℕ → EReal) : Prop := ∀ k, T k = ⊥ ∨ ∃ r : ℝ, T k = (r : EReal)

theorem exp2_bot : Ideal.exp2 ⊥ = 0 := rfl
theorem exp2_coe (r : ℝ) : Ideal.exp2 (r : EReal) = (((2 : ℝ) ^ r : ℝ) : EReal) := rfl
theorem exp_bot : Ideal.exp ⊥ = 0 := rfl
theorem exp_coe (r : ℝ) : Ideal.exp (r : EReal) = ((Real.exp r : ℝ) : EReal) := rfl

theorem bot_sub (x : EReal) : ⊥ - x = ⊥ := by rw [sub_eq_add_neg, EReal.bot_add]

/-- A weight is a number, not negative. -/
theorem weight {T : ℕ → EReal} (hT : Ok T) (M : ℝ) (k : ℕ) : ∃ e : ℝ, 0 ≤ e ∧ Ideal.exp2 (T k - (M : EReal)) = (e : EReal) := by
  rcases hT k with h | ⟨r, h⟩
  · exact ⟨0, le_refl _, by rw [h, bot_sub, exp2_bot, EReal.coe_zero]⟩
  · exact ⟨(2 : ℝ) ^ (r - M), (Real.rpow_pos_of_pos (by norm_num) _).le, by rw [h, ← EReal.coe_sub, exp2_coe]⟩

theorem rescale {T : ℕ → EReal} (hT : Ok T) (M M' : ℝ) (k : ℕ) :
    Ideal.exp2 ((M : EReal) - (M' : EReal)) * Ideal.exp2 (T k - (M : EReal)) = Ideal.exp2 (T k - (M' : EReal)) := by
  rcases hT k with h | ⟨r, h⟩
  · rw [h, bot_sub, bot_sub, exp2_bot, mul_zero]
  · rw [h, ← EReal.coe_sub, ← EReal.coe_sub, ← EReal.coe_sub, exp2_coe, exp2_coe, exp2_coe, ← EReal.coe_mul,
      ← Real.rpow_add (by norm_num)]
    congr 2; ring

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A number that is not negative distributes over a sum. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem Mx_zero (T : ℕ → EReal) : Mx T 0 = ⊥ := by simp [Mx]
theorem Lx_zero (T : ℕ → EReal) : Lx T 0 = 0 := by simp [Lx]
theorem Ax_zero (T v : ℕ → EReal) : Ax T v 0 = 0 := by simp [Ax]

theorem Mx_real {T : ℕ → EReal} (hT : Ok T) (h0 : ∃ r : ℝ, T 0 = (r : EReal)) {n : ℕ} (hn : 0 < n) : ∃ M : ℝ, Mx T n = (M : EReal) := by
  have h1 : Mx T n ≠ ⊤ := by
    refine ne_of_lt ((Finset.sup_lt_iff (by exact bot_lt_top)).mpr ?_)
    intro k _
    rcases hT k with h | ⟨r, h⟩
    · rw [h]; exact bot_lt_top
    · rw [h]; exact EReal.coe_lt_top r
  have h2 : Mx T n ≠ ⊥ := by
    obtain ⟨r, h⟩ := h0
    have : T 0 ≤ Mx T n := Finset.le_sup (Finset.mem_range.mpr hn)
    intro hb
    rw [hb, h] at this
    exact absurd this (not_le.mpr (EReal.bot_lt_coe r))
  exact ⟨(Mx T n).toReal, (EReal.coe_toReal h1 h2).symm⟩

theorem Mx_add (T : ℕ → EReal) (n b : ℕ) :
    Mx T (n + b) = max (Mx T n) (Finset.univ.fold max ⊥ fun j : Fin b => T (n + j.val)) := by
  show _ = max (Mx T n) (Finset.univ.sup fun j : Fin b => T (n + j.val))
  apply le_antisymm
  · refine Finset.sup_le ?_
    intro k hk
    rw [Finset.mem_range] at hk
    by_cases h : k < n
    · exact le_max_of_le_left (Finset.le_sup (f := T) (Finset.mem_range.mpr h))
    · refine le_max_of_le_right ?_
      have := Finset.le_sup (f := fun j : Fin b => T (n + j.val)) (Finset.mem_univ ⟨k - n, by omega⟩)
      have e : n + (k - n) = k := by omega
      simpa [e] using this
  · refine max_le ?_ ?_
    · exact Finset.sup_mono (Finset.range_mono (Nat.le_add_right n b))
    · refine Finset.sup_le ?_
      intro j _
      exact Finset.le_sup (f := T) (Finset.mem_range.mpr (Nat.add_lt_add_left j.isLt n))

theorem Lx_add {T : ℕ → EReal} (hT : Ok T) (h0 : ∃ r : ℝ, T 0 = (r : EReal)) (n b : ℕ) (hb : 0 < b) :
    Ideal.exp2 (Mx T n - Mx T (n + b)) * Lx T n + ∑ j : Fin b, Ideal.exp2 (T (n + j.val) - Mx T (n + b)) = Lx T (n + b) := by
  have e : Lx T (n + b) = ∑ k ∈ Finset.range n, Ideal.exp2 (T k - Mx T (n + b)) + ∑ j : Fin b, Ideal.exp2 (T (n + j.val) - Mx T (n + b)) := by
    unfold Lx
    rw [Finset.sum_range_add, Finset.sum_range (n := b)]
  rw [e]
  congr 1
  rcases Nat.eq_zero_or_pos n with hn | hn
  · subst hn; simp [Lx_zero]
  · obtain ⟨M, hM⟩ := Mx_real hT h0 hn
    obtain ⟨M', hM'⟩ := Mx_real hT h0 (n := n + b) (by omega)
    unfold Lx
    rw [hM, hM', ← EReal.coe_sub, exp2_coe, coe_mul_sum _ _ (Real.rpow_pos_of_pos (by norm_num) _).le]
    refine Finset.sum_congr rfl fun k _ => ?_
    rw [← exp2_coe, EReal.coe_sub]
    exact rescale hT M M' k

theorem Ax_add {T : ℕ → EReal} (v : ℕ → EReal) (hT : Ok T) (h0 : ∃ r : ℝ, T 0 = (r : EReal)) (n b : ℕ) (hb : 0 < b) :
    Ideal.exp2 (Mx T n - Mx T (n + b)) * Ax T v n + ∑ j : Fin b, Ideal.exp2 (T (n + j.val) - Mx T (n + b)) * v (n + j.val) = Ax T v (n + b) := by
  have e : Ax T v (n + b) = ∑ k ∈ Finset.range n, Ideal.exp2 (T k - Mx T (n + b)) * v k + ∑ j : Fin b, Ideal.exp2 (T (n + j.val) - Mx T (n + b)) * v (n + j.val) := by
    unfold Ax
    rw [Finset.sum_range_add, Finset.sum_range (n := b)]
  rw [e]
  congr 1
  rcases Nat.eq_zero_or_pos n with hn | hn
  · subst hn; simp [Ax_zero]
  · obtain ⟨M, hM⟩ := Mx_real hT h0 hn
    obtain ⟨M', hM'⟩ := Mx_real hT h0 (n := n + b) (by omega)
    unfold Ax
    rw [hM, hM', ← EReal.coe_sub, exp2_coe, coe_mul_sum _ _ (Real.rpow_pos_of_pos (by norm_num) _).le]
    refine Finset.sum_congr rfl fun k _ => ?_
    rw [← mul_assoc, ← exp2_coe, EReal.coe_sub, rescale hT M M' k]

/-! ## Masked keys add nothing -/

theorem Mx_tail {T : ℕ → EReal} {n N : ℕ} (h : n ≤ N) (ht : ∀ k, n ≤ k → k < N → T k = ⊥) : Mx T N = Mx T n := by
  apply le_antisymm
  · refine Finset.sup_le ?_
    intro k hk
    rw [Finset.mem_range] at hk
    by_cases hkn : k < n
    · exact Finset.le_sup (f := T) (Finset.mem_range.mpr hkn)
    · rw [ht k (by omega) hk]; exact bot_le
  · exact Finset.sup_mono (Finset.range_mono h)

theorem Lx_tail {T : ℕ → EReal} {n N : ℕ} (h : n ≤ N) (ht : ∀ k, n ≤ k → k < N → T k = ⊥) : Lx T N = Lx T n := by
  unfold Lx
  rw [Mx_tail h ht]
  symm
  refine Finset.sum_subset (Finset.range_mono h) ?_
  intro k hk hk'
  rw [Finset.mem_range] at hk hk'
  rw [ht k (by omega) hk, bot_sub, exp2_bot]

theorem Ax_tail {T : ℕ → EReal} (v : ℕ → EReal) {n N : ℕ} (h : n ≤ N) (ht : ∀ k, n ≤ k → k < N → T k = ⊥) : Ax T v N = Ax T v n := by
  unfold Ax
  rw [Mx_tail h ht]
  symm
  refine Finset.sum_subset (Finset.range_mono h) ?_
  intro k hk hk'
  rw [Finset.mem_range] at hk hk'
  rw [ht k (by omega) hk, bot_sub, exp2_bot, zero_mul]

/-! ## The quotient -/

theorem Lx_pos {T : ℕ → EReal} (hT : Ok T) (h0 : ∃ r : ℝ, T 0 = (r : EReal)) {N : ℕ} (hN : 0 < N) : ∃ l : ℝ, 0 < l ∧ Lx T N = (l : EReal) := by
  obtain ⟨M, hM⟩ := Mx_real hT h0 hN
  choose e he he' using weight hT M
  refine ⟨∑ k ∈ Finset.range N, e k, ?_, ?_⟩
  · obtain ⟨r, h⟩ := h0
    have h1 : 0 < e 0 := by
      have := he' 0
      rw [h, ← EReal.coe_sub, exp2_coe, EReal.coe_eq_coe_iff] at this
      rw [← this]; exact Real.rpow_pos_of_pos (by norm_num) _
    exact lt_of_lt_of_le h1 (Finset.single_le_sum (f := e) (fun k _ => he k) (Finset.mem_range.mpr hN))
  · unfold Lx
    rw [hM, coe_sum]
    exact Finset.sum_congr rfl fun k _ => he' k

theorem div_coe (x : EReal) (l : ℝ) (hl : 0 < l) : Ideal.div x (l : EReal) = x * ((l⁻¹ : ℝ) : EReal) := by
  unfold Ideal.div
  rw [if_neg (by exact_mod_cast hl.ne'), EReal.coe_inv]

theorem quotient {T : ℕ → EReal} (v : ℕ → EReal) (hT : Ok T) (h0 : ∃ r : ℝ, T 0 = (r : EReal)) {N : ℕ} (hN : 0 < N) :
    Ideal.div (Ax T v N) (Lx T N) = ∑ k ∈ Finset.range N, v k * Ideal.div (Ideal.exp2 (T k - Mx T N)) (Lx T N) := by
  obtain ⟨l, hl, hL⟩ := Lx_pos hT h0 hN
  rw [hL, div_coe _ _ hl, mul_comm]
  unfold Ax
  rw [coe_mul_sum _ _ (inv_pos.mpr hl).le]
  refine Finset.sum_congr rfl fun k _ => ?_
  rw [div_coe _ _ hl, mul_comm, mul_comm (Ideal.exp2 _) (v k), mul_assoc]

/-! ## Powers of two for powers of e -/

/-- A score in the units of the power of two. -/
def gl (x : EReal) : EReal := x * (((Real.log 2)⁻¹ : ℝ) : EReal)

theorem inv_log_pos : 0 < (Real.log 2)⁻¹ := inv_pos.mpr (Real.log_pos (by norm_num))

theorem gl_bot : gl ⊥ = ⊥ := EReal.bot_mul_coe_of_pos inv_log_pos

theorem gl_mono : Monotone gl := by
  intro x y h
  exact mul_le_mul_of_nonneg_right h (by exact_mod_cast inv_log_pos.le)

theorem gl_coe (r : ℝ) : gl (r : EReal) = ((r * (Real.log 2)⁻¹ : ℝ) : EReal) := by rw [gl, EReal.coe_mul]

theorem gl_ok {σ : ℕ → EReal} (hσ : Ok σ) : Ok fun k => gl (σ k) := by
  intro k
  rcases hσ k with h | ⟨r, h⟩
  · exact Or.inl (by show gl (σ k) = ⊥; rw [h, gl_bot])
  · exact Or.inr ⟨_, by show gl (σ k) = _; rw [h, gl_coe]⟩

theorem gl_Mx (σ : ℕ → EReal) (n : ℕ) : Mx (fun k => gl (σ k)) n = gl (Mx σ n) :=
  (Finset.comp_sup_eq_sup_comp_of_is_total gl gl_mono gl_bot).symm

theorem exp_gl {σ : ℕ → EReal} (hσ : Ok σ) (S : ℝ) (k : ℕ) :
    Ideal.exp (σ k - (S : EReal)) = Ideal.exp2 (gl (σ k) - gl (S : EReal)) := by
  rcases hσ k with h | ⟨r, h⟩
  · rw [h, gl_bot, bot_sub, bot_sub, exp_bot, exp2_bot]
  · rw [h, gl_coe, gl_coe, ← EReal.coe_sub, ← EReal.coe_sub, exp_coe, exp2_coe, Real.rpow_def_of_pos (by norm_num)]
    congr 2
    have := (Real.log_pos (show (1 : ℝ) < 2 by norm_num)).ne'
    field_simp

/-- The whole row: the quotient at the end is the softmax of the scores against the values. -/
theorem softmax {σ : ℕ → EReal} (v : ℕ → EReal) (hσ : Ok σ) (h0 : ∃ r : ℝ, σ 0 = (r : EReal)) {N : ℕ} (hN : 0 < N) :
    Ideal.div (Ax (fun k => gl (σ k)) v N) (Lx (fun k => gl (σ k)) N)
      = ∑ k ∈ Finset.range N, v k * Ideal.div (Ideal.exp (σ k - Mx σ N)) (∑ j ∈ Finset.range N, Ideal.exp (σ j - Mx σ N)) := by
  obtain ⟨S, hS⟩ := Mx_real hσ h0 hN
  have hg0 : ∃ r : ℝ, gl (σ 0) = (r : EReal) := by obtain ⟨r, h⟩ := h0; exact ⟨_, by rw [h, gl_coe]⟩
  rw [quotient v (gl_ok hσ) hg0 hN]
  have eL : Lx (fun k => gl (σ k)) N = ∑ j ∈ Finset.range N, Ideal.exp (σ j - Mx σ N) := by
    unfold Lx
    refine Finset.sum_congr rfl fun k _ => ?_
    rw [gl_Mx, hS, exp_gl hσ]
  rw [eL]
  refine Finset.sum_congr rfl fun k _ => ?_
  rw [gl_Mx, hS, exp_gl hσ]

end Cert.FlashMath

end
-- ==== Proof.FlashScore.lean ====
/- The scores of a row against every key, from the argument arrays. -/
module

public import proofs.«01_k».proof.Proof.FlashBlk
public import proofs.«01_k».proof.Proof.FlashMath

@[expose] public section

set_option maxRecDepth 16384

noncomputable section

namespace Cert.KernelIdeal.Hand

open Cert.KernelIdeal Cert.KernelIdeal.Gen Cert.FlashMath
open Idealize.ShloMosaic
open Idealize.ShloMosaic.TcCoe Idealize.ShloMosaic.Tactic

/-- The root of 192 the scores are divided by. -/
def r192 : EReal := Ideal.sqrt (Ideal.ofBits FTy.f32 1128267776#32)

theorem bits192 : Ideal.ofBits FTy.f32 1128267776#32 = ((192 : ℝ) : EReal) := by
  simp [Ideal.ofBits, Ideal.ieee, -EReal.coe_mul]; norm_num
theorem bits2 : Ideal.ofBits FTy.f32 1073741824#32 = ((2 : ℝ) : EReal) := by
  simp [Ideal.ofBits, Ideal.ieee, -EReal.coe_mul]; norm_num

theorem s192_pos : 0 < Real.sqrt 192 := Real.sqrt_pos.mpr (by norm_num)

theorem r192_eq : r192 = ((Real.sqrt 192 : ℝ) : EReal) := by
  rw [r192, bits192]
  show (if (192 : ℝ) < 0 then ⊥ else ((Real.sqrt 192 : ℝ) : EReal)) = _
  rw [if_neg (by norm_num)]

theorem cq_eq : cq = (((Real.sqrt 192 * Real.log 2)⁻¹ : ℝ) : EReal) := by
  have e : Ideal.log ((2 : ℝ) : EReal) = ((Real.log 2 : ℝ) : EReal) := by
    show (if (2 : ℝ) ≤ 0 then ⊥ else ((Real.log 2 : ℝ) : EReal)) = _
    rw [if_neg (by norm_num)]
  have hp : 0 < Real.sqrt 192 * Real.log 2 := mul_pos s192_pos (Real.log_pos (by norm_num))
  unfold cq
  rw [show Ideal.sqrt (Ideal.ofBits FTy.f32 1128267776#32) = _ from r192_eq, bits2, e, ← EReal.coe_mul, div_coe _ _ hp, one_mul]

/-- Every element a number. -/
def Num {s : Shape} (x : s.Idx → EReal) : Prop := ∀ i, ∃ r : ℝ, x i = (r : EReal)

theorem at4_num {n3 : ℕ} {x : (⟨4, ![8, 4096, 8, n3]⟩ : Shape).Idx → EReal} (hx : Num x) (b s h d : ℕ) : ∃ r : ℝ, at4 x b s h d = (r : EReal) := by
  unfold at4
  split_ifs with H
  · exact hx _
  · exact ⟨0, EReal.coe_zero.symm⟩

section
variable (x0 x1 : (⟨4, ![8, 4096, 8, 192]⟩ : Shape).Idx → EReal) (b h q k : ℕ)

/-- A query row against a key row. -/
def Sx : EReal := ∑ d : Fin 192, at4 x0 b q h d.val * at4 x1 b k h d.val
/-- The scaled score; −∞ where the key's chunk lies after the query's. -/
def sg (k : ℕ) : EReal := if k / 64 ≤ q / 64 then Ideal.div (Sx x0 x1 b h q k) r192 else ⊥
/-- The score in the units of the power of two. -/
def Tg (k : ℕ) : EReal := gl (sg x0 x1 b h q k)

variable {x0 x1} (h0 : Num x0) (h1 : Num x1)
include h0 h1

theorem Sx_num : ∃ r : ℝ, Sx x0 x1 b h q k = (r : EReal) := by
  choose a ha using fun d : Fin 192 => at4_num h0 b q h d.val
  choose e he using fun d : Fin 192 => at4_num h1 b k h d.val
  refine ⟨∑ d : Fin 192, a d * e d, ?_⟩
  rw [coe_sum]
  exact Finset.sum_congr rfl fun d _ => by rw [ha, he, EReal.coe_mul]

theorem sg_ok : Ok (sg x0 x1 b h q) := by
  intro k
  unfold sg
  split_ifs
  · obtain ⟨r, hr⟩ := Sx_num b h q k h0 h1
    exact Or.inr ⟨r * (Real.sqrt 192)⁻¹, by rw [hr, r192_eq, div_coe _ _ s192_pos, EReal.coe_mul]⟩
  · exact Or.inl rfl

theorem sg_zero : ∃ r : ℝ, sg x0 x1 b h q 0 = (r : EReal) := by
  unfold sg
  rw [if_pos (by omega)]
  obtain ⟨r, hr⟩ := Sx_num b h q 0 h0 h1
  exact ⟨r * (Real.sqrt 192)⁻¹, by rw [hr, r192_eq, div_coe _ _ s192_pos, EReal.coe_mul]⟩

theorem Tg_ok : Ok (Tg x0 x1 b h q) := gl_ok (sg_ok b h q h0 h1)
theorem Tg_zero : ∃ r : ℝ, Tg x0 x1 b h q 0 = (r : EReal) := by
  obtain ⟨r, hr⟩ := sg_zero b h q h0 h1
  exact ⟨_, by rw [Tg, hr, gl_coe]⟩

/-- The kernel's product of a scaled query row and a key row, padded to 256 lanes, is the score. -/
theorem score :
    ∑ d : Fin 256, (if d.val < 192 then at4 x0 b q h d.val * cq else 0) * (if d.val < 192 then at4 x1 b k h d.val else 0)
      = gl (Ideal.div (Sx x0 x1 b h q k) r192) := by
  rw [← Finset.sum_range (fun d : ℕ => (if d < 192 then at4 x0 b q h d * cq else 0) * (if d < 192 then at4 x1 b k h d else 0)),
    show 256 = 192 + 64 from rfl, Finset.sum_range_add]
  have z : ∑ x ∈ Finset.range 64, (if 192 + x < 192 then at4 x0 b q h (192 + x) * cq else 0) * (if 192 + x < 192 then at4 x1 b k h (192 + x) else 0) = 0 :=
    Finset.sum_eq_zero fun x _ => by rw [if_neg (by omega), zero_mul]
  rw [z, add_zero]
  choose a ha using fun d : ℕ => at4_num h0 b q h d
  choose e he using fun d : ℕ => at4_num h1 b k h d
  have eS : Sx x0 x1 b h q k = ((∑ d ∈ Finset.range 192, a d * e d : ℝ) : EReal) := by
    unfold Sx
    rw [← Finset.sum_range (fun d : ℕ => at4 x0 b q h d * at4 x1 b k h d), coe_sum]
    exact Finset.sum_congr rfl fun d _ => by rw [ha, he, EReal.coe_mul]
  rw [eS, r192_eq, div_coe _ _ s192_pos, ← EReal.coe_mul, gl_coe, Finset.sum_mul, Finset.sum_mul, coe_sum]
  refine Finset.sum_congr rfl fun d hd => ?_
  rw [Finset.mem_range] at hd
  rw [if_pos hd, if_pos hd, ha, he, cq_eq, ← EReal.coe_mul, ← EReal.coe_mul]
  congr 1
  rw [mul_inv]
  ring
end

end Cert.KernelIdeal.Hand

end
-- ==== Proof.FlashStep.lean ====
/- What is carried from point to point: after the keys up to the end of a point's key block, each row's running maximum, sum
   and product are those of its scores. -/
module

public import proofs.«01_k».proof.Proof.FlashHead
public import proofs.«01_k».proof.Proof.FlashScore

@[expose] public section

set_option maxRecDepth 16384

noncomputable section

namespace Cert.KernelIdeal.Hand

open Cert.KernelIdeal Cert.KernelIdeal.Gen Cert.FlashMath
open Idealize.ShloMosaic
open Idealize.ShloMosaic.TcCoe Idealize.ShloMosaic.Tactic

/-- One head's step from the row's state before the block to its state after. -/
theorem head_step {T : ℕ → EReal} (hT : Ok T) (h0 : ∃ r : ℝ, T 0 = (r : EReal)) (vv : ℕ → ℕ → EReal) (n : ℕ)
    (s : FVec Ideal S1024x1024 .f32) (m l : Vec Ideal S1x1024x1 .f32) (a : Vec Ideal S1x1024x128 .f32) (v : Vec Ideal S1024x128 .bf16) (r : Fin 1024)
    (hs : ∀ k : Fin 1024, s (ix2 r k) = T (n + k.val)) (hm : m (ix3 0 r 0) = Mx T n) (hl : l (ix3 0 r 0) = Lx T n)
    (ha : ∀ d : Fin 128, a (ix3 0 r d) = Ax T (vv d.val) n) (hv : ∀ (k : Fin 1024) (d : Fin 128), v (ix2 k d) = vv d.val (n + k.val)) :
    hM s m (ix2 r 0) = Mx T (n + 1024) ∧ hL s m l (ix2 r 0) = Lx T (n + 1024)
      ∧ ∀ d : Fin 128, hC s m a v (ix2 r d) = Ax T (vv d.val) (n + 1024) := by
  have e1 : hM s m (ix2 r 0) = Mx T (n + 1024) := by
    rw [hM_apply, Mx_add, hm]
    congr 2
    funext k
    exact hs k
  refine ⟨e1, ?_, ?_⟩
  · rw [hL_apply, e1, hm, hl, ← Lx_add hT h0 n 1024 (by decide)]
    congr 1
    exact Finset.sum_congr rfl fun k _ => by rw [hs k]
  · intro d
    rw [hC_apply, e1, hm, ha, ← Ax_add (vv d.val) hT h0 n 1024 (by decide)]
    congr 1
    exact Finset.sum_congr rfl fun k _ => by rw [hs k, hv k d]

theorem or63 : ∀ r : Fin 1024, r.val ||| 63 = 64 * (r.val / 64) + 63 := by decide +kernel

variable (m : (ℓ : Loc nD τ sig) → Buf (Elt Ideal) ℓ) (c : Dev nD)

/-- A row's scores and a lane's values, at a point. -/
def Tt (t : ℕ) (hh : ℕ) (r : ℕ) : ℕ → EReal := Tg (X0 m c) (X1 m c) (t / 40) (t / 10 % 4 * 2 + hh) (qn (t % 10) * 1024 + r)
def vt (t : ℕ) (hh : ℕ) (d : ℕ) (k : ℕ) : EReal := at4 (X2 m c) (t / 40) k (t / 10 % 4 * 2 + hh) d

section Slices
variable (t : Fin grid0.N)
theorem q_s0 (r : Fin 1024) (d : Fin 256) : qs0 (F := Ideal) (iblk m c 0 t) (ix2 r d)
      = if d.val < 192 then at4 (X0 m c) (t.val / 40) (qn (t.val % 10) * 1024 + r.val) (t.val / 10 % 4 * 2 + 0) d.val * cq else 0 := by
  refine Eq.trans ?_ (q_at m c t r 0 d.val d.isLt (by decide) (by omega))
  exact congrArg (iblk m c 0 t : Vec Ideal S1x1024x512 .bf16) (congrArg (ix3 0 r) (Fin.ext (show d.val = 0 * 256 + d.val by omega)))
theorem q_s1 (r : Fin 1024) (d : Fin 256) : qs1 (F := Ideal) (iblk m c 0 t) (ix2 r d)
      = if d.val < 192 then at4 (X0 m c) (t.val / 40) (qn (t.val % 10) * 1024 + r.val) (t.val / 10 % 4 * 2 + 1) d.val * cq else 0 := by
  refine Eq.trans ?_ (q_at m c t r 1 d.val d.isLt (by decide) (by omega))
  exact congrArg (iblk m c 0 t : Vec Ideal S1x1024x512 .bf16) (congrArg (ix3 0 r) (Fin.ext (show 256 + d.val = 1 * 256 + d.val by omega)))
theorem k_s0 (r : Fin 1024) (d : Fin 256) : qs0 (F := Ideal) (iblk m c 1 t) (ix2 r d)
      = if d.val < 192 then at4 (X1 m c) (t.val / 40) (kn (t.val % 10) * 1024 + r.val) (t.val / 10 % 4 * 2 + 0) d.val else 0 := by
  refine Eq.trans ?_ (k_at m c t r 0 d.val d.isLt (by decide) (by omega))
  exact congrArg (iblk m c 1 t : Vec Ideal S1x1024x512 .bf16) (congrArg (ix3 0 r) (Fin.ext (show d.val = 0 * 256 + d.val by omega)))
theorem k_s1 (r : Fin 1024) (d : Fin 256) : qs1 (F := Ideal) (iblk m c 1 t) (ix2 r d)
      = if d.val < 192 then at4 (X1 m c) (t.val / 40) (kn (t.val % 10) * 1024 + r.val) (t.val / 10 % 4 * 2 + 1) d.val else 0 := by
  refine Eq.trans ?_ (k_at m c t r 1 d.val d.isLt (by decide) (by omega))
  exact congrArg (iblk m c 1 t : Vec Ideal S1x1024x512 .bf16) (congrArg (ix3 0 r) (Fin.ext (show 256 + d.val = 1 * 256 + d.val by omega)))
theorem v_s0 (r : Fin 1024) (d : Fin 128) : vs0 (F := Ideal) (iblk m c 2 t) (ix2 r d) = vt m c t.val 0 d.val (kn (t.val % 10) * 1024 + r.val) := by
  refine Eq.trans ?_ (v_at m c t r 0 d.val d.isLt (by decide) (by omega))
  exact congrArg (iblk m c 2 t : Vec Ideal S1x1024x256 .bf16) (congrArg (ix3 0 r) (Fin.ext (show d.val = 0 * 128 + d.val by omega)))
theorem v_s1 (r : Fin 1024) (d : Fin 128) : vs1 (F := Ideal) (iblk m c 2 t) (ix2 r d) = vt m c t.val 1 d.val (kn (t.val % 10) * 1024 + r.val) := by
  refine Eq.trans ?_ (v_at m c t r 1 d.val d.isLt (by decide) (by omega))
  exact congrArg (iblk m c 2 t : Vec Ideal S1x1024x256 .bf16) (congrArg (ix3 0 r) (Fin.ext (show 128 + d.val = 1 * 128 + d.val by omega)))
end Slices

variable (h0 : Num (X0 m c)) (h1 : Num (X1 m c))
include h0 h1

theorem scoreO (t : Fin grid0.N) (hh : ℕ) (q k : Vec Ideal S1024x256 .bf16)
    (hq : ∀ (r : Fin 1024) (d : Fin 256), q (ix2 r d) = if d.val < 192 then at4 (X0 m c) (t.val / 40) (qn (t.val % 10) * 1024 + r.val) (t.val / 10 % 4 * 2 + hh) d.val * cq else 0)
    (hk : ∀ (r : Fin 1024) (d : Fin 256), k (ix2 r d) = if d.val < 192 then at4 (X1 m c) (t.val / 40) (kn (t.val % 10) * 1024 + r.val) (t.val / 10 % 4 * 2 + hh) d.val else 0)
    (hlt : kn (t.val % 10) < qn (t.val % 10)) (r j : Fin 1024) :
    sO q k (ix2 r j) = Tt m c t.val hh r.val (kn (t.val % 10) * 1024 + j.val) := by
  rw [sO_apply]
  have e : Tt m c t.val hh r.val (kn (t.val % 10) * 1024 + j.val) = gl (Ideal.div (Sx (X0 m c) (X1 m c) (t.val / 40) (t.val / 10 % 4 * 2 + hh) (qn (t.val % 10) * 1024 + r.val) (kn (t.val % 10) * 1024 + j.val)) r192) := by
    unfold Tt Tg sg
    rw [if_pos (by have := r.isLt; have := j.isLt; omega)]
  rw [e, ← score _ _ _ _ h0 h1]
  exact Finset.sum_congr rfl fun d _ => by rw [hq, hk]

theorem scoreD (t : Fin grid0.N) (hh : ℕ) (q k : Vec Ideal S1024x256 .bf16)
    (hq : ∀ (r : Fin 1024) (d : Fin 256), q (ix2 r d) = if d.val < 192 then at4 (X0 m c) (t.val / 40) (qn (t.val % 10) * 1024 + r.val) (t.val / 10 % 4 * 2 + hh) d.val * cq else 0)
    (hk : ∀ (r : Fin 1024) (d : Fin 256), k (ix2 r d) = if d.val < 192 then at4 (X1 m c) (t.val / 40) (kn (t.val % 10) * 1024 + r.val) (t.val / 10 % 4 * 2 + hh) d.val else 0)
    (heq : kn (t.val % 10) = qn (t.val % 10)) (r j : Fin 1024) :
    sD q k (ix2 r j) = Tt m c t.val hh r.val (kn (t.val % 10) * 1024 + j.val) := by
  rw [sD_apply]
  have hor := or63 r
  unfold Tt Tg sg
  by_cases hc : j.val ≤ r.val ||| 63
  · rw [if_pos hc, if_pos (by omega), ← score _ _ _ _ h0 h1]
    exact Finset.sum_congr rfl fun d _ => by rw [hq, hk]
  · rw [if_neg hc, if_neg (by omega), gl_bot]

/-- The rows' state after the keys below `n`. -/
def Inv (t : ℕ) (n : ℕ) (s : St Ideal) : Prop := ∀ (hh : Fin 2) (r : Fin 1024),
  s.2.1 (ix3 hh r 0) = Mx (Tt m c t hh.val r.val) n ∧ s.2.2.1 (ix3 hh r 0) = Lx (Tt m c t hh.val r.val) n
    ∧ ∀ d : Fin 128, s.2.2.2 (ix3 hh r d) = Ax (Tt m c t hh.val r.val) (vt m c t hh.val d.val) n

theorem inv_of (t : Fin grid0.N) (s0 s1 : FVec Ideal S1024x1024 .f32) (m0 m1 l0 l1 : Vec Ideal S1x1024x1 .f32) (a0 a1 : Vec Ideal S1x1024x128 .f32) (n : ℕ) (o : Vec Ideal S1024x256 .bf16)
    (hn : n = kn (t.val % 10) * 1024)
    (hs0 : ∀ r j : Fin 1024, s0 (ix2 r j) = Tt m c t.val 0 r.val (kn (t.val % 10) * 1024 + j.val))
    (hs1 : ∀ r j : Fin 1024, s1 (ix2 r j) = Tt m c t.val 1 r.val (kn (t.val % 10) * 1024 + j.val))
    (hst : ∀ r : Fin 1024, (m0 (ix3 0 r 0) = Mx (Tt m c t.val 0 r.val) n ∧ l0 (ix3 0 r 0) = Lx (Tt m c t.val 0 r.val) n ∧ ∀ d : Fin 128, a0 (ix3 0 r d) = Ax (Tt m c t.val 0 r.val) (vt m c t.val 0 d.val) n)
      ∧ (m1 (ix3 0 r 0) = Mx (Tt m c t.val 1 r.val) n ∧ l1 (ix3 0 r 0) = Lx (Tt m c t.val 1 r.val) n ∧ ∀ d : Fin 128, a1 (ix3 0 r d) = Ax (Tt m c t.val 1 r.val) (vt m c t.val 1 d.val) n)) :
    Inv m c t.val (n + 1024) (o, st1 (c1 (hM s0 m0)) (c1 (hM s1 m1)), st1 (c1 (hL s0 m0 l0)) (c1 (hL s1 m1 l1)), st8 (c8 (hC s0 m0 a0 (vs0 (iblk m c 2 t)))) (c8 (hC s1 m1 a1 (vs1 (iblk m c 2 t)))))
    ∧ ∀ (r : Fin 1024) (d : Fin 128),
      hO s0 m0 l0 a0 (vs0 (iblk m c 2 t)) (ix2 r d) = Ideal.div (Ax (Tt m c t.val 0 r.val) (vt m c t.val 0 d.val) (n + 1024)) (Lx (Tt m c t.val 0 r.val) (n + 1024))
      ∧ hO s1 m1 l1 a1 (vs1 (iblk m c 2 t)) (ix2 r d) = Ideal.div (Ax (Tt m c t.val 1 r.val) (vt m c t.val 1 d.val) (n + 1024)) (Lx (Tt m c t.val 1 r.val) (n + 1024)) := by
  subst hn
  have k0 := fun r : Fin 1024 => head_step (T := Tt m c t.val 0 r.val) (Tg_ok _ _ _ h0 h1) (Tg_zero _ _ _ h0 h1) (vt m c t.val 0) _ s0 m0 l0 a0 (vs0 (iblk m c 2 t)) r (hs0 r) (hst r).1.1 (hst r).1.2.1 (hst r).1.2.2 (fun k d => v_s0 m c t k d)
  have k1 := fun r : Fin 1024 => head_step (T := Tt m c t.val 1 r.val) (Tg_ok _ _ _ h0 h1) (Tg_zero _ _ _ h0 h1) (vt m c t.val 1) _ s1 m1 l1 a1 (vs1 (iblk m c 2 t)) r (hs1 r) (hst r).2.1 (hst r).2.2.1 (hst r).2.2.2 (fun k d => v_s1 m c t k d)
  refine ⟨?_, fun r d => ⟨?_, ?_⟩⟩
  · intro hh r
    match hh with
    | 0 => exact ⟨(c1_apply r _ (ix3 0 r 0)).trans (k0 r).1, (c1_apply r _ (ix3 0 r 0)).trans (k0 r).2.1, fun d => (c8_apply r _ d).trans ((k0 r).2.2 d)⟩
    | 1 => exact ⟨(c1_apply r _ (ix3 0 r 0)).trans (k1 r).1, (c1_apply r _ (ix3 0 r 0)).trans (k1 r).2.1, fun d => (c8_apply r _ d).trans ((k1 r).2.2 d)⟩
  · rw [hO_apply, (k0 r).2.1, (k0 r).2.2 d]
  · rw [hO_apply, (k1 r).2.1, (k1 r).2.2 d]

end Cert.KernelIdeal.Hand

end
-- ==== Proof.FlashInv.lean ====
/- The state at every point, and the rows a query block's last point writes. -/
module

public import proofs.«01_k».proof.Proof.FlashStep

@[expose] public section

set_option maxRecDepth 16384

noncomputable section

namespace Cert.KernelIdeal.Hand

open Cert.KernelIdeal Cert.KernelIdeal.Gen Cert.FlashMath
open Idealize.ShloMosaic
open Idealize.ShloMosaic.TcCoe Idealize.ShloMosaic.Tactic
open Idealize.SL.Sem

variable (m : (ℓ : Loc nD τ sig) → Buf (Elt Ideal) ℓ) (c : Dev nD)

/-- The rows written at a query block's last point. -/
def Out (t : ℕ) (n : ℕ) (o : Vec Ideal S1024x256 .bf16) : Prop := ∀ (r : Fin 1024) (hh d : ℕ) (hhh : hh < 2) (hd : d < 128) (h : hh * 128 + d < 256),
  o (ix2 r ⟨hh * 128 + d, h⟩) = Ideal.div (Ax (Tt m c t hh r.val) (vt m c t hh d) n) (Lx (Tt m c t hh r.val) n)

theorem out_of (t n : ℕ) (a b : FVec Ideal S1024x128 .bf16)
    (h : ∀ (r : Fin 1024) (d : Fin 128), a (ix2 r d) = Ideal.div (Ax (Tt m c t 0 r.val) (vt m c t 0 d.val) n) (Lx (Tt m c t 0 r.val) n)
      ∧ b (ix2 r d) = Ideal.div (Ax (Tt m c t 1 r.val) (vt m c t 1 d.val) n) (Lx (Tt m c t 1 r.val) n)) : Out m c t n (stO a b) := by
  intro r hh d hhh hd hx
  have e : hh = 0 ∨ hh = 1 := by omega
  rcases e with rfl | rfl
  · refine Eq.trans ?_ (h r ⟨d, hd⟩).1
    exact (dif_pos (show 0 * 128 + d < 128 by omega)).trans (congrArg a (congrArg (ix2 r) (Fin.ext (show 0 * 128 + d = d by omega))))
  · refine Eq.trans ?_ (h r ⟨d, hd⟩).2
    exact (dif_neg (show ¬ 1 * 128 + d < 128 by omega)).trans (congrArg b (congrArg (ix2 r) (Fin.ext (show 1 * 128 + d - 128 = d by omega))))

theorem stepA_eq (t : Fin grid0.N) (s : St Ideal) (hI : condI (wk (F := Ideal) (c := c) (grid0.coords t) (tbl 1)))
    (hD : ¬condD (wq (F := Ideal) (c := c) (grid0.coords t) (tbl 0)) (wk (F := Ideal) (c := c) (grid0.coords t) (tbl 1))) :
    step m c t s = (s.1, st1 (c1 (hM (sO (qs0 (iblk m c 0 t)) (qs0 (iblk m c 1 t))) (ms 0 (k0_pay1 (F := Ideal))))) (c1 (hM (sO (qs1 (iblk m c 0 t)) (qs1 (iblk m c 1 t))) (ms 1 (k0_pay1 (F := Ideal))))), st1 (c1 (hL (sO (qs0 (iblk m c 0 t)) (qs0 (iblk m c 1 t))) (ms 0 (k0_pay1 (F := Ideal))) (ms 0 (k0_pay2 (F := Ideal))))) (c1 (hL (sO (qs1 (iblk m c 0 t)) (qs1 (iblk m c 1 t))) (ms 1 (k0_pay1 (F := Ideal))) (ms 1 (k0_pay2 (F := Ideal))))), st8 (c8 (hC (sO (qs0 (iblk m c 0 t)) (qs0 (iblk m c 1 t))) (ms 0 (k0_pay1 (F := Ideal))) (as8 0 (k0_pay3 (F := Ideal))) (vs0 (iblk m c 2 t)))) (c8 (hC (sO (qs1 (iblk m c 0 t)) (qs1 (iblk m c 1 t))) (ms 1 (k0_pay1 (F := Ideal))) (as8 1 (k0_pay3 (F := Ideal))) (vs1 (iblk m c 2 t))))) := by
  refine (step_A m c t s hI hD).trans (congrArg₂ Prod.mk ?_ (congrArg₂ Prod.mk ?_ (congrArg₂ Prod.mk ?_ ?_)))
  · exact rfl
  · exact runA_3 ..
  · exact runA_4 ..
  · exact runA_5 ..

theorem stepB_eq (t : Fin grid0.N) (s : St Ideal) (hI : condI (wk (F := Ideal) (c := c) (grid0.coords t) (tbl 1)))
    (hD : condD (wq (F := Ideal) (c := c) (grid0.coords t) (tbl 0)) (wk (F := Ideal) (c := c) (grid0.coords t) (tbl 1))) :
    step m c t s = (stO (hO (sD (qs0 (iblk m c 0 t)) (qs0 (iblk m c 1 t))) (ms 0 (k0_pay1 (F := Ideal))) (ms 0 (k0_pay2 (F := Ideal))) (as8 0 (k0_pay3 (F := Ideal))) (vs0 (iblk m c 2 t))) (hO (sD (qs1 (iblk m c 0 t)) (qs1 (iblk m c 1 t))) (ms 1 (k0_pay1 (F := Ideal))) (ms 1 (k0_pay2 (F := Ideal))) (as8 1 (k0_pay3 (F := Ideal))) (vs1 (iblk m c 2 t))), st1 (c1 (hM (sD (qs0 (iblk m c 0 t)) (qs0 (iblk m c 1 t))) (ms 0 (k0_pay1 (F := Ideal))))) (c1 (hM (sD (qs1 (iblk m c 0 t)) (qs1 (iblk m c 1 t))) (ms 1 (k0_pay1 (F := Ideal))))), st1 (c1 (hL (sD (qs0 (iblk m c 0 t)) (qs0 (iblk m c 1 t))) (ms 0 (k0_pay1 (F := Ideal))) (ms 0 (k0_pay2 (F := Ideal))))) (c1 (hL (sD (qs1 (iblk m c 0 t)) (qs1 (iblk m c 1 t))) (ms 1 (k0_pay1 (F := Ideal))) (ms 1 (k0_pay2 (F := Ideal))))), st8 (c8 (hC (sD (qs0 (iblk m c 0 t)) (qs0 (iblk m c 1 t))) (ms 0 (k0_pay1 (F := Ideal))) (as8 0 (k0_pay3 (F := Ideal))) (vs0 (iblk m c 2 t)))) (c8 (hC (sD (qs1 (iblk m c 0 t)) (qs1 (iblk m c 1 t))) (ms 1 (k0_pay1 (F := Ideal))) (as8 1 (k0_pay3 (F := Ideal))) (vs1 (iblk m c 2 t))))) := by
  refine (step_B m c t s hI hD).trans (congrArg₂ Prod.mk ?_ (congrArg₂ Prod.mk ?_ (congrArg₂ Prod.mk ?_ ?_)))
  · exact runB_O ..
  · exact runB_3 ..
  · exact runB_4 ..
  · exact runB_5 ..

theorem stepC_eq (t : Fin grid0.N) (s : St Ideal) (hI : ¬condI (wk (F := Ideal) (c := c) (grid0.coords t) (tbl 1)))
    (hD : ¬condD (wq (F := Ideal) (c := c) (grid0.coords t) (tbl 0)) (wk (F := Ideal) (c := c) (grid0.coords t) (tbl 1))) :
    step m c t s = (s.1, st1 (c1 (hM (sO (qs0 (iblk m c 0 t)) (qs0 (iblk m c 1 t))) (ms 0 s.2.1))) (c1 (hM (sO (qs1 (iblk m c 0 t)) (qs1 (iblk m c 1 t))) (ms 1 s.2.1))), st1 (c1 (hL (sO (qs0 (iblk m c 0 t)) (qs0 (iblk m c 1 t))) (ms 0 s.2.1) (ms 0 s.2.2.1))) (c1 (hL (sO (qs1 (iblk m c 0 t)) (qs1 (iblk m c 1 t))) (ms 1 s.2.1) (ms 1 s.2.2.1))), st8 (c8 (hC (sO (qs0 (iblk m c 0 t)) (qs0 (iblk m c 1 t))) (ms 0 s.2.1) (as8 0 s.2.2.2) (vs0 (iblk m c 2 t)))) (c8 (hC (sO (qs1 (iblk m c 0 t)) (qs1 (iblk m c 1 t))) (ms 1 s.2.1) (as8 1 s.2.2.2) (vs1 (iblk m c 2 t))))) := by
  refine (step_C m c t s hI hD).trans (congrArg₂ Prod.mk ?_ (congrArg₂ Prod.mk ?_ (congrArg₂ Prod.mk ?_ ?_)))
  · exact rfl
  · exact runC_3 ..
  · exact runC_4 ..
  · exact runC_5 ..

theorem stepD_eq (t : Fin grid0.N) (s : St Ideal) (hI : ¬condI (wk (F := Ideal) (c := c) (grid0.coords t) (tbl 1)))
    (hD : condD (wq (F := Ideal) (c := c) (grid0.coords t) (tbl 0)) (wk (F := Ideal) (c := c) (grid0.coords t) (tbl 1))) :
    step m c t s = (stO (hO (sD (qs0 (iblk m c 0 t)) (qs0 (iblk m c 1 t))) (ms 0 s.2.1) (ms 0 s.2.2.1) (as8 0 s.2.2.2) (vs0 (iblk m c 2 t))) (hO (sD (qs1 (iblk m c 0 t)) (qs1 (iblk m c 1 t))) (ms 1 s.2.1) (ms 1 s.2.2.1) (as8 1 s.2.2.2) (vs1 (iblk m c 2 t))), st1 (c1 (hM (sD (qs0 (iblk m c 0 t)) (qs0 (iblk m c 1 t))) (ms 0 s.2.1))) (c1 (hM (sD (qs1 (iblk m c 0 t)) (qs1 (iblk m c 1 t))) (ms 1 s.2.1))), st1 (c1 (hL (sD (qs0 (iblk m c 0 t)) (qs0 (iblk m c 1 t))) (ms 0 s.2.1) (ms 0 s.2.2.1))) (c1 (hL (sD (qs1 (iblk m c 0 t)) (qs1 (iblk m c 1 t))) (ms 1 s.2.1) (ms 1 s.2.2.1))), st8 (c8 (hC (sD (qs0 (iblk m c 0 t)) (qs0 (iblk m c 1 t))) (ms 0 s.2.1) (as8 0 s.2.2.2) (vs0 (iblk m c 2 t)))) (c8 (hC (sD (qs1 (iblk m c 0 t)) (qs1 (iblk m c 1 t))) (ms 1 s.2.1) (as8 1 s.2.2.2) (vs1 (iblk m c 2 t))))) := by
  refine (step_D m c t s hI hD).trans (congrArg₂ Prod.mk ?_ (congrArg₂ Prod.mk ?_ (congrArg₂ Prod.mk ?_ ?_)))
  · exact runD_O ..
  · exact runD_3 ..
  · exact runD_4 ..
  · exact runD_5 ..

section
variable (h0 : Num (X0 m c)) (h1 : Num (X1 m c))
include h0 h1

theorem old_init (t : ℕ) (r : Fin 1024) (hh : Fin 2) :
    ms (F := Ideal) hh (k0_pay1 (F := Ideal)) (ix3 0 r 0) = Mx (Tt m c t hh.val r.val) 0 ∧ ms (F := Ideal) hh (k0_pay2 (F := Ideal)) (ix3 0 r 0) = Lx (Tt m c t hh.val r.val) 0
      ∧ ∀ d : Fin 128, as8 (F := Ideal) hh (k0_pay3 (F := Ideal)) (ix3 0 r d) = Ax (Tt m c t hh.val r.val) (vt m c t hh.val d.val) 0 := by
  rw [Mx_zero, Lx_zero]
  exact ⟨pay1_apply r hh, pay2_apply r hh, fun d => by rw [Ax_zero]; exact pay3_apply r hh d⟩

set_option maxHeartbeats 1000000 in
theorem step_inv (t : Fin grid0.N) (s : St Ideal) (hold : kn (t.val % 10) ≠ 0 → Inv m c t.val (kn (t.val % 10) * 1024) s) :
    Inv m c t.val (kn (t.val % 10) * 1024 + 1024) (step m c t s)
      ∧ (kn (t.val % 10) = qn (t.val % 10) → Out m c t.val (kn (t.val % 10) * 1024 + 1024) (step m c t s).1) := by
  have hle := kn_le (j := t.val % 10) (by omega)
  have cI : condI (wk (F := Ideal) (c := c) (grid0.coords t) (tbl 1)) ↔ kn (t.val % 10) = 0 := by rw [wk_tbl]; exact condI_iff t
  have cD : condD (wq (F := Ideal) (c := c) (grid0.coords t) (tbl 0)) (wk (F := Ideal) (c := c) (grid0.coords t) (tbl 1)) ↔ kn (t.val % 10) = qn (t.val % 10) := by
    rw [wk_tbl, wq_tbl]; exact condD_iff t
  by_cases hI : kn (t.val % 10) = 0
  · by_cases hD : kn (t.val % 10) = qn (t.val % 10)
    · rw [stepB_eq m c t s (cI.mpr hI) (cD.mpr hD)]
      have H := inv_of m c h0 h1 t _ _ _ _ _ _ _ _ 0 (stO (hO (sD (qs0 (iblk m c 0 t)) (qs0 (iblk m c 1 t))) (ms 0 (k0_pay1 (F := Ideal))) (ms 0 (k0_pay2 (F := Ideal))) (as8 0 (k0_pay3 (F := Ideal))) (vs0 (iblk m c 2 t))) (hO (sD (qs1 (iblk m c 0 t)) (qs1 (iblk m c 1 t))) (ms 1 (k0_pay1 (F := Ideal))) (ms 1 (k0_pay2 (F := Ideal))) (as8 1 (k0_pay3 (F := Ideal))) (vs1 (iblk m c 2 t)))) (by rw [hI])
        (scoreD m c h0 h1 t 0 _ _ (q_s0 m c t) (k_s0 m c t) hD) (scoreD m c h0 h1 t 1 _ _ (q_s1 m c t) (k_s1 m c t) hD)
        (fun r => ⟨old_init m c h0 h1 t.val r 0, old_init m c h0 h1 t.val r 1⟩)
      rw [show kn (t.val % 10) * 1024 + 1024 = 0 + 1024 by rw [hI]]
      exact ⟨H.1, fun _ => out_of m c _ _ _ _ H.2⟩
    · rw [stepA_eq m c t s (cI.mpr hI) (fun h => hD (cD.mp h))]
      have H := inv_of m c h0 h1 t _ _ _ _ _ _ _ _ 0 s.1 (by rw [hI])
        (scoreO m c h0 h1 t 0 _ _ (q_s0 m c t) (k_s0 m c t) (by omega)) (scoreO m c h0 h1 t 1 _ _ (q_s1 m c t) (k_s1 m c t) (by omega))
        (fun r => ⟨old_init m c h0 h1 t.val r 0, old_init m c h0 h1 t.val r 1⟩)
      rw [show kn (t.val % 10) * 1024 + 1024 = 0 + 1024 by rw [hI]]
      exact ⟨H.1, fun h => absurd h hD⟩
  · have ho := hold hI
    have ho' : ∀ r : Fin 1024, (ms (F := Ideal) 0 s.2.1 (ix3 0 r 0) = Mx (Tt m c t.val 0 r.val) (kn (t.val % 10) * 1024) ∧ ms (F := Ideal) 0 s.2.2.1 (ix3 0 r 0) = Lx (Tt m c t.val 0 r.val) (kn (t.val % 10) * 1024) ∧ ∀ d : Fin 128, as8 (F := Ideal) 0 s.2.2.2 (ix3 0 r d) = Ax (Tt m c t.val 0 r.val) (vt m c t.val 0 d.val) (kn (t.val % 10) * 1024))
      ∧ (ms (F := Ideal) 1 s.2.1 (ix3 0 r 0) = Mx (Tt m c t.val 1 r.val) (kn (t.val % 10) * 1024) ∧ ms (F := Ideal) 1 s.2.2.1 (ix3 0 r 0) = Lx (Tt m c t.val 1 r.val) (kn (t.val % 10) * 1024) ∧ ∀ d : Fin 128, as8 (F := Ideal) 1 s.2.2.2 (ix3 0 r d) = Ax (Tt m c t.val 1 r.val) (vt m c t.val 1 d.val) (kn (t.val % 10) * 1024)) :=
      fun r => ⟨ho 0 r, ho 1 r⟩
    by_cases hD : kn (t.val % 10) = qn (t.val % 10)
    · rw [stepD_eq m c t s (fun h => hI (cI.mp h)) (cD.mpr hD)]
      have H := inv_of m c h0 h1 t _ _ _ _ _ _ _ _ _ (stO (hO (sD (qs0 (iblk m c 0 t)) (qs0 (iblk m c 1 t))) (ms 0 s.2.1) (ms 0 s.2.2.1) (as8 0 s.2.2.2) (vs0 (iblk m c 2 t))) (hO (sD (qs1 (iblk m c 0 t)) (qs1 (iblk m c 1 t))) (ms 1 s.2.1) (ms 1 s.2.2.1) (as8 1 s.2.2.2) (vs1 (iblk m c 2 t)))) rfl
        (scoreD m c h0 h1 t 0 _ _ (q_s0 m c t) (k_s0 m c t) hD) (scoreD m c h0 h1 t 1 _ _ (q_s1 m c t) (k_s1 m c t) hD) ho'
      exact ⟨H.1, fun _ => out_of m c _ _ _ _ H.2⟩
    · rw [stepC_eq m c t s (fun h => hI (cI.mp h)) (fun h => hD (cD.mp h))]
      have H := inv_of m c h0 h1 t _ _ _ _ _ _ _ _ _ s.1 rfl
        (scoreO m c h0 h1 t 0 _ _ (q_s0 m c t) (k_s0 m c t) (by omega)) (scoreO m c h0 h1 t 1 _ _ (q_s1 m c t) (k_s1 m c t) (by omega)) ho'
      exact ⟨H.1, fun h => absurd h hD⟩

omit h0 h1 in
theorem before_step : ∀ j : Fin 10, kn j.val ≠ 0 → 0 < j.val ∧ kn (j.val - 1) + 1 = kn j.val ∧ qn (j.val - 1) = qn j.val := by decide

omit h0 h1 in
theorem Inv_congr (t t' n n' : ℕ) (s : St Ideal) (e1 : t' / 40 = t / 40) (e2 : t' / 10 % 4 = t / 10 % 4) (e3 : qn (t' % 10) = qn (t % 10)) (en : n' = n)
    (h : Inv m c t' n' s) : Inv m c t n s := by
  have eT : ∀ hh r, Tt m c t' hh r = Tt m c t hh r := fun hh r => by unfold Tt; rw [e1, e2, e3]
  have eV : ∀ hh d, vt m c t' hh d = vt m c t hh d := fun hh d => by unfold vt; rw [e1, e2]
  subst en
  intro hh r
  have := h hh r
  rw [eT] at this
  exact ⟨this.1, this.2.1, fun d => by rw [← eV]; exact this.2.2 d⟩

theorem inv_all : ∀ (n : ℕ) (hn : n < grid0.N), Inv m c n (kn (n % 10) * 1024 + 1024) (outsAt m c n hn)
      ∧ (kn (n % 10) = qn (n % 10) → Out m c n (kn (n % 10) * 1024 + 1024) (outsAt m c n hn).1) := by
  intro n
  induction n with
  | zero => intro hn; exact step_inv m c h0 h1 ⟨0, hn⟩ _ (fun h => absurd rfl h)
  | succ n ih =>
    intro hn
    refine step_inv m c h0 h1 ⟨n + 1, hn⟩ _ fun h => ?_
    have hb := before_step ⟨(n + 1) % 10, by omega⟩ h
    have hlt : n < grid0.N := Nat.lt_of_succ_lt hn
    have e : (n + 1) % 10 - 1 = n % 10 := by have := hb.1; simp only at this; omega
    simp only [e] at hb
    refine Inv_congr m c (n + 1) n _ _ _ ?_ ?_ hb.2.2 ?_ (ih hlt).1
    · have := hb.1; omega
    · have := hb.1; omega
    · have := hb.2.1; show kn (n % 10) * 1024 + 1024 = kn ((n + 1) % 10) * 1024; omega

/-- The attention's result. -/
def G (n j : ℕ) : EReal :=
  Ideal.div (Ax (Tg (X0 m c) (X1 m c) (n / 4096) (j / 128) (n % 4096)) (fun k => at4 (X2 m c) (n / 4096) k (j / 128) (j % 128)) 4096)
    (Lx (Tg (X0 m c) (X1 m c) (n / 4096) (j / 128) (n % 4096)) 4096)

omit h0 h1 in
theorem Tg_tail (x0 x1) (b h q n : ℕ) (hn : (q / 64 + 1) * 64 ≤ n) : ∀ k, n ≤ k → k < 4096 → Tg x0 x1 b h q k = ⊥ := by
  intro k hk _
  unfold Tg sg
  rw [if_neg (by omega), gl_bot]

theorem out_at (t : Fin grid0.N) (hD : kn (t.val % 10) = qn (t.val % 10)) (r : Fin 1024) (j : Fin 256) :
    (outsAt m c t.val t.isLt).1 (ix2 r j) = G m c ((t.val / 40 * 4 + qn (t.val % 10)) * 1024 + r.val) (t.val / 10 % 4 * 256 + j.val) := by
  have H := (inv_all m c h0 h1 t.val t.isLt).2 hD r (j.val / 128) (j.val % 128) (by have := j.isLt; omega) (by omega) (by have := j.isLt; omega)
  have ej : (⟨j.val / 128 * 128 + j.val % 128, by have := j.isLt; omega⟩ : Fin 256) = j := Fin.ext (by show j.val / 128 * 128 + j.val % 128 = j.val; omega)
  rw [ej] at H
  rw [H, hD]
  have hq := qn_lt (t.val % 10)
  have ht := tlt t
  have hr := r.isLt
  have hj := j.isLt
  unfold G Tt vt
  rw [show ((t.val / 40 * 4 + qn (t.val % 10)) * 1024 + r.val) / 4096 = t.val / 40 by omega,
    show ((t.val / 40 * 4 + qn (t.val % 10)) * 1024 + r.val) % 4096 = qn (t.val % 10) * 1024 + r.val by omega,
    show (t.val / 10 % 4 * 256 + j.val) / 128 = t.val / 10 % 4 * 2 + j.val / 128 by omega,
    show (t.val / 10 % 4 * 256 + j.val) % 128 = j.val % 128 by omega]
  have tl := Tg_tail (X0 m c) (X1 m c) (t.val / 40) (t.val / 10 % 4 * 2 + j.val / 128) (qn (t.val % 10) * 1024 + r.val) (qn (t.val % 10) * 1024 + 1024) (by omega)
  rw [Ax_tail _ (by omega) tl, Lx_tail (by omega) tl]

/-- The result array is the attention's result, everywhere. -/
theorem final3 : (dats m 0 c).arrAt 3 (cfgM Ideal).N = fun y : S32768x1024.Idx => G m c (y 0).val (y 1).val := by
  refine (dats m 0 c).arrAt_eq_of_covers 3 _ covers3 (fun t hflush y => ?_)
  blk_simp
  rw [after0_3]
  have hD := flush_iff t hflush
  have key := out_at m c h0 h1 t hD (y 0) (y 1)
  have ey : (y : S1024x256.Idx) = ix2 (y 0) (y 1) := funext fun a => by match a with | ⟨0, _⟩ => rfl | ⟨1, _⟩ => rfl
  have e0 : ((cfgM Ideal).win 3).index t 0 = t.val / 40 * 4 + qn (t.val % 10) := by rw [(win_idx t).2.2.2]; rfl
  have e1 : ((cfgM Ideal).win 3).index t 1 = t.val / 10 % 4 := by rw [(win_idx t).2.2.2]; rfl
  rw [e0, e1]
  exact (congrArg (outsAt m c t.val t.isLt).1 ey).trans key
end

end Cert.KernelIdeal.Hand

end
-- ==== Proof.FlashRef.lean ====
/- The reference's result, read element by element. -/
module

public import proofs.«01_k».proof.Proof.FlashScore
public import proofs.«01_k».proof.Proof.Gen.ReferenceIdeal.Read
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.FlashMath
open Idealize.ShloMosaic Idealize.ShloMosaic.TcCoe Idealize.ShloMosaic.Tactic
open Cert.KernelIdeal.Hand (at4 at4_mk Num Sx sg r192 sg_ok sg_zero)

/-- A position's chunk. -/
theorem chunk : ∀ j : Fin 4096, val_main_v1 (F := Ideal) (ix1 j) = BitVec.ofNat 32 (j.val / 64) := by
  intro j
  rw [val_main_v1_apply, val_main_call0_v11_apply, val_main_call0_v6_apply, val_main_call0_v5_apply, val_main_call0_v10_apply, val_main_call0_v8_apply,
    val_main_call0_v9_apply, val_main_call0_v13_apply, val_main_call0_v2_apply, val_main_call0_v12_apply, val_main_call0_v1_apply, val_main_call0_v7_apply]
  revert j
  decide +kernel

variable (x0 x1 : S8x4096x8x192.Idx → EReal) (x2 : S8x4096x8x128.Idx → EReal)

theorem negInf : Ideal.ofBits FTy.f32 4286578688#32 = ⊥ := by simp [Ideal.ofBits, Ideal.ieee]

theorem v12_at (b h : Fin 8) (q k : Fin 4096) : val_main_v12 (F := Ideal) x0 x1 (ix4 b h q k) = sg x0 x1 b.val h.val q.val k.val := by
  rw [val_main_v12_apply, val_main_call1_v1_apply, val_main_v11_apply, val_main_v6_apply, val_main_v4_apply, val_main_v5_apply, val_main_v2_apply, val_main_v3_apply]
  have ek : val_main_v1 (F := Ideal) (idx_main_v2 (idx_main_v4 (idx_main_v11 (idx_main_call1_v1 (ix4 b h q k))))) = BitVec.ofNat 32 (k.val / 64) :=
    (congrArg _ (funext fun a => by match a with | ⟨0, _⟩ => rfl)).trans (chunk k)
  have eq : val_main_v1 (F := Ideal) (idx_main_v3 (idx_main_v5 (idx_main_v11 (idx_main_call1_v1 (ix4 b h q k))))) = BitVec.ofNat 32 (q.val / 64) :=
    (congrArg _ (funext fun a => by match a with | ⟨0, _⟩ => rfl)).trans (chunk q)
  rw [ek, eq, WordCmp.cmpi_sle_ofNat (by have := k.isLt; omega) (by have := q.isLt; omega)]
  unfold sg Scalar.select
  have es : val_main_v10 (F := Ideal) x0 x1 (ix4 b h q k) = Ideal.div (Sx x0 x1 b.val h.val q.val k.val) r192 := by
    rw [val_main_v10_apply, val_main_v9_apply, val_main_v8_apply, val_main_cst_apply]
    show Ideal.div (val_main_v7 (F := Ideal) x0 x1 (ix4 b h q k)) r192 = _
    congr 1
    rw [val_main_v7_apply]
    refine Finset.sum_congr rfl fun d _ => ?_
    rw [at4_mk x0 b q h d, at4_mk x1 b k h d]
    congr 1
    · exact congrArg x0 (funext fun a => by match a with | ⟨0, _⟩ => rfl | ⟨1, _⟩ => rfl | ⟨2, _⟩ => rfl | ⟨3, _⟩ => rfl)
    · exact congrArg x1 (funext fun a => by match a with | ⟨0, _⟩ => rfl | ⟨1, _⟩ => rfl | ⟨2, _⟩ => rfl | ⟨3, _⟩ => rfl)
  have en : val_main_call1_v2 (F := Ideal) (ix4 b h q k) = ⊥ := by
    rw [val_main_call1_v2_apply, val_main_call1_v0_apply, val_main_cst_0_apply]
    exact negInf
  by_cases hc : k.val / 64 ≤ q.val / 64
  · rw [if_pos hc, if_pos (by simp [hc]), es]
  · rw [if_neg hc, if_neg (by simp [hc]), en]

theorem v13_at (b h : Fin 8) (q : Fin 4096) : val_main_v13 (F := Ideal) x0 x1 (ix3 b h q) = Mx (sg x0 x1 b.val h.val q.val) 4096 := by
  have H : S8x8x4096x4096.Reduces [3] S8x8x4096 := by decide
  unfold val_main_v13
  rw [Host.reduce_eq_fold_single _ _ _ _ H]
  have e := Mx_add (sg x0 x1 b.val h.val q.val) 0 4096
  rw [Mx_zero, Nat.zero_add] at e
  rw [e]
  have e2 : (val_main_v12 (F := Ideal) x0 x1 ∘ H.lift (ix3 b h q)) = fun j : Fin 4096 => sg x0 x1 b.val h.val q.val (0 + j.val) := funext fun j => by
    rw [Nat.zero_add, ← v12_at x0 x1 b h q j]
    exact congrArg (val_main_v12 (F := Ideal) x0 x1) (funext fun a => by match a with | ⟨0, _⟩ => rfl | ⟨1, _⟩ => rfl | ⟨2, _⟩ => rfl | ⟨3, _⟩ => rfl)
  rw [e2, val_main_cst_1_apply]
  rw [show (FloatOps.ofBits .f32 0xFF800000#32 : Ideal .f32) = (⊥ : EReal) from negInf]
  exact (bot_sup_eq _).symm

theorem v19_at (b h : Fin 8) (q k : Fin 4096) :
    val_main_v19 (F := Ideal) x0 x1 (ix4 b h q k) = Ideal.exp (sg x0 x1 b.val h.val q.val k.val - Mx (sg x0 x1 b.val h.val q.val) 4096) := by
  rw [val_main_v19_apply, val_main_v18_apply, val_main_v17_apply, val_main_v16_apply, val_main_v15_apply, val_main_v14_apply, val_main_cst_2_apply, v12_at]
  have e : val_main_v13 (F := Ideal) x0 x1 (idx_main_v16 (idx_main_v17 (ix4 b h q k))) = Mx (sg x0 x1 b.val h.val q.val) 4096 :=
    (congrArg _ (funext fun a => by match a with | ⟨0, _⟩ => rfl | ⟨1, _⟩ => rfl | ⟨2, _⟩ => rfl)).trans (v13_at x0 x1 b h q)
  rw [e, show (FloatOps.ofBits .f32 0xFF800000#32 : Ideal .f32) = (⊥ : EReal) from negInf]
  show Ideal.exp (_ - max ⊥ _) = _
  rw [max_eq_right bot_le]

theorem v20_at (b h : Fin 8) (q : Fin 4096) (i : S8x8x4096.Idx) (hi : i = ix3 b h q) :
    val_main_v20 (F := Ideal) x0 x1 i = ∑ j ∈ Finset.range 4096, Ideal.exp (sg x0 x1 b.val h.val q.val j - Mx (sg x0 x1 b.val h.val q.val) 4096) := by
  subst hi
  have ez : val_main_cst_3 (F := Ideal) (Shape.Idx.first h_S_) = (0 : EReal) := by
    rw [val_main_cst_3_apply]
    show Ideal.ofBits FTy.f32 0#32 = 0
    simp [Ideal.ofBits, Ideal.ieee]
  rw [val_main_v20_apply, ez, Finset.sum_range]
  refine (zero_add _).trans (Finset.sum_congr rfl fun j _ => ?_)
  refine Eq.trans ?_ (v19_at x0 x1 b h q j)
  exact congrArg (val_main_v19 (F := Ideal) x0 x1) (funext fun a => by match a with | ⟨0, _⟩ => rfl | ⟨1, _⟩ => rfl | ⟨2, _⟩ => rfl | ⟨3, _⟩ => rfl)

theorem v23_at (b h : Fin 8) (q k : Fin 4096) :
    val_main_v23 (F := Ideal) x0 x1 (ix4 b h q k) = Ideal.div (Ideal.exp (sg x0 x1 b.val h.val q.val k.val - Mx (sg x0 x1 b.val h.val q.val) 4096))
      (∑ j ∈ Finset.range 4096, Ideal.exp (sg x0 x1 b.val h.val q.val j - Mx (sg x0 x1 b.val h.val q.val) 4096)) := by
  rw [val_main_v23_apply, val_main_v22_apply, val_main_v21_apply, v19_at,
    v20_at x0 x1 b h q _ (funext fun a => by match a with | ⟨0, _⟩ => rfl | ⟨1, _⟩ => rfl | ⟨2, _⟩ => rfl)]
  rfl

/-- A key's weight. -/
def wt (b h q k : ℕ) : EReal := Ideal.div (Ideal.exp (sg x0 x1 b h q k - Mx (sg x0 x1 b h q) 4096))
        (∑ j ∈ Finset.range 4096, Ideal.exp (sg x0 x1 b h q j - Mx (sg x0 x1 b h q) 4096))

/-- The reference's element of batch `b`, position `q`, head `h`, lane `d`. -/
theorem v25_at (b h : Fin 8) (q : Fin 4096) (d : Fin 128) (i : S8x4096x8x128.Idx) (hi : i = ix4 b q h d) :
    val_main_v25 (F := Ideal) x0 x1 x2 i = ∑ k ∈ Finset.range 4096, at4 x2 b.val k h.val d.val * wt x0 x1 b.val h.val q.val k := by
  subst hi
  rw [val_main_v25_apply, val_main_v24_apply, Finset.sum_range]
  refine Finset.sum_congr rfl fun k _ => ?_
  have e1 : x2 (lidx_main_v24 (idx_main_v25 (ix4 b q h d)) k) = at4 x2 b.val k.val h.val d.val := by
    rw [at4_mk x2 b k h d]
    exact congrArg x2 (funext fun a => by match a with | ⟨0, _⟩ => rfl | ⟨1, _⟩ => rfl | ⟨2, _⟩ => rfl | ⟨3, _⟩ => rfl)
  have e3 : ridx_main_v24 (idx_main_v25 (ix4 b q h d)) k = ix4 b h q k :=
    funext fun a => by match a with | ⟨0, _⟩ => rfl | ⟨1, _⟩ => rfl | ⟨2, _⟩ => rfl | ⟨3, _⟩ => rfl
  have e2 : val_main_v23 (F := Ideal) x0 x1 (ridx_main_v24 (idx_main_v25 (ix4 b q h d)) k) = wt x0 x1 b.val h.val q.val k.val := by
    rw [e3]; exact v23_at x0 x1 b h q k
  exact congrArg₂ (fun a b : EReal => a * b) e1 e2

/-- The attention's result from the arrays. -/
def GR (n j : ℕ) : EReal :=
  Ideal.div (Ax (fun k => gl (sg x0 x1 (n / 4096) (j / 128) (n % 4096) k)) (fun k => at4 x2 (n / 4096) k (j / 128) (j % 128)) 4096)
    (Lx (fun k => gl (sg x0 x1 (n / 4096) (j / 128) (n % 4096) k)) 4096)

/-- The reference's result is the attention's, everywhere. -/
theorem ref_at (h0 : Num x0) (h1 : Num x1) (y : S32768x1024.Idx) :
    val_main_v27 (F := Ideal) x0 x1 x2 y = GR x0 x1 x2 (y 0).val (y 1).val := by
  have hn : (y 0).val < 32768 := (y 0).isLt
  have hj : (y 1).val < 1024 := (y 1).isLt
  have hb : (y 0).val / 4096 < 8 := by omega
  have hh : (y 1).val / 128 < 8 := by omega
  have ei : idx_main_v26 y = ix4 (⟨(y 0).val / 4096, hb⟩ : Fin 8) (⟨(y 0).val % 4096, by omega⟩ : Fin 4096) (⟨(y 1).val / 128, hh⟩ : Fin 8) (⟨(y 1).val % 128, by omega⟩ : Fin 128) :=
    funext fun a => by
      match a with
      | ⟨0, _⟩ => exact Fin.ext (show ((y 0).val * 1024 + (y 1).val) / 4194304 = (y 0).val / 4096 by omega)
      | ⟨1, _⟩ => exact Fin.ext (show ((y 0).val * 1024 + (y 1).val) / 1024 % 4096 = (y 0).val % 4096 by omega)
      | ⟨2, _⟩ => exact Fin.ext (show ((y 0).val * 1024 + (y 1).val) / 128 % 8 = (y 1).val / 128 by omega)
      | ⟨3, _⟩ => exact Fin.ext (show ((y 0).val * 1024 + (y 1).val) % 128 = (y 1).val % 128 by omega)
  have e := v25_at x0 x1 x2 _ _ _ _ _ ei
  have e2 := softmax (fun k => at4 x2 ((y 0).val / 4096) k ((y 1).val / 128) ((y 1).val % 128))
    (sg_ok ((y 0).val / 4096) ((y 1).val / 128) ((y 0).val % 4096) h0 h1) (sg_zero ((y 0).val / 4096) ((y 1).val / 128) ((y 0).val % 4096) h0 h1)
    (N := 4096) (Nat.succ_pos _)
  rw [val_main_v27_apply, val_main_v26_apply]
  exact e.trans e2.symm

end Cert.ReferenceIdeal.Hand

end
-- ==== Proof.FlashPre.lean ====
/- The precondition, read: every element of the queries and the keys is a number. -/
module

public import proofs.«01_k».proof.Pre_finite_qk
public import proofs.«01_k».proof.Proof.FlashScore
public import Idealize.ShloMosaic.Lib.ReduceAll

@[expose] public section

set_option maxRecDepth 16384

noncomputable section

namespace Cert.Pre_finite_qk

open Idealize.ShloMosaic
open Cert.KernelIdeal.Hand (Num)

/-- The side conditions the precondition's own operations take. -/
theorem pre_facts : Facts where
  bcast_S_S8x4096x8x192 := by decide
  reducesTo_S8x4096x8x192_S_d0_1_2_3 := by decide
  h_S_ := by decide

theorem posInf : Ideal.ofBits FTy.f32 0x7F800000#32 = ⊤ := by simp [Ideal.ofBits, Ideal.ieee]

instance : Subsingleton S_.Idx := ⟨fun a b => funext fun i => i.elim0⟩

theorem num_of [Facts] (x : FVec Ideal S8x4096x8x192 .f32)
    (e : Host.reduce IntOp.andi (cmpf .olt (Host.absf x) (broadcastInDim S8x4096x8x192 ![] Facts.bcast_S_S8x4096x8x192 (constant S_ .f32 0x7F800000#32)))
      (constantI S_ 1 1#1) Facts.reducesTo_S8x4096x8x192_S_d0_1_2_3 Facts.h_S_ (fun a => a.elim0) = 1#1) : Num (s := S8x4096x8x192) x := by
  intro i
  have h := Host.reduce_andi_all _ _ _ _ _ e i
  have h2 : Ideal.cmp .olt (max (x i : EReal) (-(x i : EReal))) ⊤ = 1#1 := by
    rw [← posInf]; exact h
  have h3 : max (x i : EReal) (-(x i : EReal)) < ⊤ := by
    by_contra hn
    have : Ideal.cmp .olt (max (x i : EReal) (-(x i : EReal))) ⊤ = 0#1 := by simp only [Ideal.cmp, hn, if_false]; simp
    rw [this] at h2
    exact absurd h2 (by decide)
  have hb : (x i : EReal) ≠ ⊥ := fun hx => by
    have := (max_lt_iff.mp h3).2
    rw [hx, EReal.neg_bot] at this
    exact absurd this (lt_irrefl _)
  exact ⟨(x i : EReal).toReal, (EReal.coe_toReal (max_lt_iff.mp h3).1.ne hb).symm⟩

theorem nums [Facts] (x0 x1 : FVec Ideal S8x4096x8x192 .f32) (x2 : FVec Ideal S8x4096x8x128 .f32) (h : fn x0 x1 x2 = fun _ => 1#1) :
    Num (s := S8x4096x8x192) x0 ∧ Num (s := S8x4096x8x192) x1 := by
  have e := congrFun h (fun a => a.elim0)
  dsimp only [fn] at e
  have e2 := IntOp.andi_eq_one.1 e
  exact ⟨num_of x0 e2.1, num_of x1 e2.2⟩

end Cert.Pre_finite_qk

end
-- ==== Proof.InMath.lean ====
/- The input projection's entries as functions of its arguments at number coordinates. -/
module

public import Idealize.ShloMosaic.Lib.Claim
public import Idealize.ShloMosaic.Lib.Pointwise
public import Idealize.ShloMosaic.Lib.Pipeline.ValueKit

@[expose] public section

noncomputable section

namespace Cert.InMath

open Idealize.ShloMosaic

/-- An array at number coordinates: zero outside it. -/
def at1 {n0 : ℕ} (x : (⟨1, ![n0]⟩ : Shape).Idx → EReal) (a : ℕ) : EReal :=
  if H : a < n0 then x (ix1 ⟨a, H⟩) else 0
def at2 {n0 n1 : ℕ} (x : (⟨2, ![n0, n1]⟩ : Shape).Idx → EReal) (a b : ℕ) : EReal :=
  if H : a < n0 ∧ b < n1 then x (ix2 ⟨a, H.1⟩ ⟨b, H.2⟩) else 0
def at3 {n0 n1 n2 : ℕ} (x : (⟨3, ![n0, n1, n2]⟩ : Shape).Idx → EReal) (a b c : ℕ) : EReal :=
  if H : a < n0 ∧ b < n1 ∧ c < n2 then x (ix3 ⟨a, H.1⟩ ⟨b, H.2.1⟩ ⟨c, H.2.2⟩) else 0

theorem at1_of {n0 : ℕ} (x : (⟨1, ![n0]⟩ : Shape).Idx → EReal) (i : (⟨1, ![n0]⟩ : Shape).Idx) (a : ℕ) (ha : (i 0).val = a) : x i = at1 x a := by
  subst ha
  rw [at1, dif_pos (show (i 0).val < n0 from (i 0).isLt)]
  exact congrArg x (funext fun k => by match k with | ⟨0, _⟩ => rfl)
theorem at2_of {n0 n1 : ℕ} (x : (⟨2, ![n0, n1]⟩ : Shape).Idx → EReal) (i : (⟨2, ![n0, n1]⟩ : Shape).Idx) (a b : ℕ) (ha : (i 0).val = a) (hb : (i 1).val = b) : x i = at2 x a b := by
  subst ha; subst hb
  rw [at2, dif_pos ⟨(i 0).isLt, (i 1).isLt⟩]
  exact congrArg x (funext fun k => by match k with | ⟨0, _⟩ => rfl | ⟨1, _⟩ => rfl)
theorem at3_of {n0 n1 n2 : ℕ} (x : (⟨3, ![n0, n1, n2]⟩ : Shape).Idx → EReal) (i : (⟨3, ![n0, n1, n2]⟩ : Shape).Idx) (a b c : ℕ) (ha : (i 0).val = a) (hb : (i 1).val = b)
    (hc : (i 2).val = c) : x i = at3 x a b c := by
  subst ha; subst hb; subst hc
  rw [at3, dif_pos ⟨(i 0).isLt, (i 1).isLt, (i 2).isLt⟩]
  exact congrArg x (funext fun k => by match k with | ⟨0, _⟩ => rfl | ⟨1, _⟩ => rfl | ⟨2, _⟩ => rfl)

theorem one_bits : Ideal.ofBits FTy.f32 0x3F800000#32 = 1 := by
  rw [← EReal.coe_one]
  simp [Ideal.ofBits, Ideal.ieee, -EReal.coe_mul, -EReal.coe_one]; norm_num
theorem zero_bits : Ideal.ofBits FTy.f32 0x00000000#32 = 0 := by
  simp [Ideal.ofBits, Ideal.ieee]

/-- The column of the projection a column of the returned array is made from; 8256, outside it, for the zero columns. -/
def src (n : ℕ) : ℕ :=
  if n < 4096 then 4160 + n else if n < 8256 then n - 4096
  else if n < 8320 then 8256 else if n < 8384 then 4096 + (n - 8288) % 64 else 8256

theorem src_p0 (n : ℕ) (h : n < 2048) : src n = 4160 + n := by
  unfold src; split_ifs <;> omega
theorem src_p1 (n : ℕ) (h : 2048 ≤ n) (h' : n < 4096) : src n = 6208 + (n - 2048) := by
  unfold src; split_ifs <;> omega
theorem src_p2 (n : ℕ) (h : 4096 ≤ n) (h' : n < 5120) : src n = (n - 4096) := by
  unfold src; split_ifs <;> omega
theorem src_p3 (n : ℕ) (h : 5120 ≤ n) (h' : n < 6144) : src n = 1024 + (n - 5120) := by
  unfold src; split_ifs <;> omega
theorem src_p4 (n : ℕ) (h : 6144 ≤ n) (h' : n < 7168) : src n = 2048 + (n - 6144) := by
  unfold src; split_ifs <;> omega
theorem src_p5 (n : ℕ) (h : 7168 ≤ n) (h' : n < 7680) : src n = 3072 + (n - 7168) := by
  unfold src; split_ifs <;> omega
theorem src_p6 (n : ℕ) (h : 7680 ≤ n) (h' : n < 8192) : src n = 3584 + (n - 7680) := by
  unfold src; split_ifs <;> omega
theorem src_p7 (n : ℕ) (h : 8192 ≤ n) (h' : n < 8256) : src n = 4096 + (n - 8192) := by
  unfold src; split_ifs <;> omega
theorem src_p8 (n : ℕ) (h : 8256 ≤ n) (h' : n < 8320) : src n = 8256 := by
  unfold src; split_ifs <;> omega
theorem src_p9 (n : ℕ) (h : 8320 ≤ n) (h' : n < 8384) : src n = 4096 + ((n - 8320) + 32) % 64 := by
  unfold src; split_ifs <;> omega
theorem src_p10 (n : ℕ) (h : 8384 ≤ n) (h' : n < 8448) : src n = 8256 := by
  unfold src; split_ifs <;> omega
theorem src_p11 (n : ℕ) (h : 8448 ≤ n) : src n = 8256 := by
  unfold src; split_ifs <;> omega
theorem src_q (k : ℕ) (h : k < 512) : src (7168 + k) = 3072 + k := by
  unfold src; split_ifs <;> omega
theorem src_kv (k : ℕ) (h : k < 512) : src (7680 + k) = 3584 + k := by
  unfold src; split_ifs <;> omega

/-- What the queries are divided by. -/
def qdiv : EReal := Ideal.sqrt (Ideal.ofBits FTy.f32 0x43000000#32) * Ideal.log (Ideal.ofBits FTy.f32 0x40000000#32)

section
variable (x0 : (⟨3, ![8, 4096, 2048]⟩ : Shape).Idx → EReal) (x1 : (⟨2, ![8, 12288]⟩ : Shape).Idx → EReal)
  (x2 : (⟨2, ![2048, 8256]⟩ : Shape).Idx → EReal) (x3 : (⟨1, ![8256]⟩ : Shape).Idx → EReal)
  (x4 x5 : (⟨1, ![512]⟩ : Shape).Idx → EReal)

/-- The modulated input. -/
def hin (b s k : ℕ) : EReal := at3 x0 b s k * (1 + at2 x1 b (2048 + k)) + at2 x1 b k
/-- The projection. -/
def zin (b s n : ℕ) : EReal := (∑ k : Fin 2048, hin x0 x1 b s k.val * at2 x2 k.val n) + at1 x3 n

/-- The reciprocal root of the mean square of 512 numbers. -/
def rms (z : ℕ → EReal) : EReal :=
  Ideal.rsqrt (Ideal.div (∑ k : Fin 512, z k.val * z k.val) (Ideal.ofBits FTy.f32 0x44000000#32) + Ideal.ofBits FTy.f32 0x358637BD#32)

theorem rms_congr (z z' : ℕ → EReal) (h : ∀ k < 512, z k = z' k) : rms z = rms z' := by
  unfold rms
  refine congrArg (fun s => Ideal.rsqrt (Ideal.div s _ + _)) (Finset.sum_congr rfl fun k _ => ?_)
  rw [h k.val k.isLt]

/-- The returned array. -/
def gin (b s n : ℕ) : EReal :=
  if n < 4096 then Ideal.logistic (zin x0 x1 x2 x3 b s (src n))
  else if n < 5120 then Ideal.div (zin x0 x1 x2 x3 b s (src n)) qdiv
  else if n < 7168 then zin x0 x1 x2 x3 b s (src n)
  else if n < 7680 then zin x0 x1 x2 x3 b s (src n) * rms (fun k => zin x0 x1 x2 x3 b s (src (7168 + k))) * at1 x4 (n - 7168)
  else if n < 8192 then zin x0 x1 x2 x3 b s (src n) * rms (fun k => zin x0 x1 x2 x3 b s (src (7680 + k))) * at1 x5 (n - 7680)
  else zin x0 x1 x2 x3 b s (src n)

theorem zin_out (b s : ℕ) : zin x0 x1 x2 x3 b s 8256 = 0 := by
  have e : ∀ k : ℕ, at2 x2 k 8256 = 0 := fun k => dif_neg (by omega)
  unfold zin
  rw [show at1 x3 8256 = 0 from dif_neg (by omega), add_zero]
  exact Finset.sum_eq_zero fun k _ => by rw [e, mul_zero]
theorem gin_p0 (b s n : ℕ) (h : n < 2048) : gin x0 x1 x2 x3 x4 x5 b s n = Ideal.logistic (zin x0 x1 x2 x3 b s (4160 + n)) := by
  rw [gin, if_pos (by omega), src_p0 n h]
theorem gin_p1 (b s n : ℕ) (h : 2048 ≤ n) (h' : n < 4096) : gin x0 x1 x2 x3 x4 x5 b s n = Ideal.logistic (zin x0 x1 x2 x3 b s (6208 + (n - 2048))) := by
  rw [gin, if_pos (by omega), src_p1 n h h']
theorem gin_p2 (b s n : ℕ) (h : 4096 ≤ n) (h' : n < 5120) : gin x0 x1 x2 x3 x4 x5 b s n = Ideal.div (zin x0 x1 x2 x3 b s ((n - 4096))) qdiv := by
  rw [gin, if_neg (by omega), if_pos (by omega), src_p2 n h h']
theorem gin_p3 (b s n : ℕ) (h : 5120 ≤ n) (h' : n < 6144) : gin x0 x1 x2 x3 x4 x5 b s n = zin x0 x1 x2 x3 b s (1024 + (n - 5120)) := by
  rw [gin, if_neg (by omega), if_neg (by omega), if_pos (by omega), src_p3 n h h']
theorem gin_p4 (b s n : ℕ) (h : 6144 ≤ n) (h' : n < 7168) : gin x0 x1 x2 x3 x4 x5 b s n = zin x0 x1 x2 x3 b s (2048 + (n - 6144)) := by
  rw [gin, if_neg (by omega), if_neg (by omega), if_pos (by omega), src_p4 n h h']
theorem gin_p5 (b s n : ℕ) (h : 7168 ≤ n) (h' : n < 7680) : gin x0 x1 x2 x3 x4 x5 b s n = zin x0 x1 x2 x3 b s (3072 + (n - 7168)) * rms (fun k => zin x0 x1 x2 x3 b s (3072 + k)) * at1 x4 (n - 7168) := by
  rw [gin, if_neg (by omega), if_neg (by omega), if_neg (by omega), if_pos (by omega), src_p5 n h h']
  rw [rms_congr (fun k => zin x0 x1 x2 x3 b s (src (7168 + k))) (fun k => zin x0 x1 x2 x3 b s (3072 + k)) fun k hk => congrArg (zin x0 x1 x2 x3 b s) (src_q k hk)]
theorem gin_p6 (b s n : ℕ) (h : 7680 ≤ n) (h' : n < 8192) : gin x0 x1 x2 x3 x4 x5 b s n = zin x0 x1 x2 x3 b s (3584 + (n - 7680)) * rms (fun k => zin x0 x1 x2 x3 b s (3584 + k)) * at1 x5 (n - 7680) := by
  rw [gin, if_neg (by omega), if_neg (by omega), if_neg (by omega), if_neg (by omega), if_pos (by omega), src_p6 n h h']
  rw [rms_congr (fun k => zin x0 x1 x2 x3 b s (src (7680 + k))) (fun k => zin x0 x1 x2 x3 b s (3584 + k)) fun k hk => congrArg (zin x0 x1 x2 x3 b s) (src_kv k hk)]
theorem gin_p7 (b s n : ℕ) (h : 8192 ≤ n) (h' : n < 8256) : gin x0 x1 x2 x3 x4 x5 b s n = zin x0 x1 x2 x3 b s (4096 + (n - 8192)) := by
  rw [gin, if_neg (by omega), if_neg (by omega), if_neg (by omega), if_neg (by omega), if_neg (by omega), src_p7 n h h']
theorem gin_p8 (b s n : ℕ) (h : 8256 ≤ n) (h' : n < 8320) : gin x0 x1 x2 x3 x4 x5 b s n = 0 := by
  rw [gin, if_neg (by omega), if_neg (by omega), if_neg (by omega), if_neg (by omega), if_neg (by omega), src_p8 n h h', zin_out]
theorem gin_p9 (b s n : ℕ) (h : 8320 ≤ n) (h' : n < 8384) : gin x0 x1 x2 x3 x4 x5 b s n = zin x0 x1 x2 x3 b s (4096 + ((n - 8320) + 32) % 64) := by
  rw [gin, if_neg (by omega), if_neg (by omega), if_neg (by omega), if_neg (by omega), if_neg (by omega), src_p9 n h h']
theorem gin_p10 (b s n : ℕ) (h : 8384 ≤ n) (h' : n < 8448) : gin x0 x1 x2 x3 x4 x5 b s n = 0 := by
  rw [gin, if_neg (by omega), if_neg (by omega), if_neg (by omega), if_neg (by omega), if_neg (by omega), src_p10 n h h', zin_out]
theorem gin_p11 (b s n : ℕ) (h : 8448 ≤ n) : gin x0 x1 x2 x3 x4 x5 b s n = 0 := by
  rw [gin, if_neg (by omega), if_neg (by omega), if_neg (by omega), if_neg (by omega), if_neg (by omega), src_p11 n h, zin_out]
end

theorem bits128 : Ideal.ofBits FTy.f32 0x43000000#32 = ((128 : ℝ) : EReal) := by
  simp [Ideal.ofBits, Ideal.ieee, -EReal.coe_mul]; norm_num
theorem bits2 : Ideal.ofBits FTy.f32 0x40000000#32 = ((2 : ℝ) : EReal) := by
  simp [Ideal.ofBits, Ideal.ieee, -EReal.coe_mul]; norm_num

/-- Dividing by √128 · log 2 is multiplying by its reciprocal. -/
theorem div_qdiv (z : EReal) : Ideal.div z qdiv = z * (((Real.sqrt 128 * Real.log 2)⁻¹ : ℝ) : EReal) := by
  have e : Ideal.log ((2 : ℝ) : EReal) = ((Real.log 2 : ℝ) : EReal) := by
    show (if (2 : ℝ) ≤ 0 then ⊥ else ((Real.log 2 : ℝ) : EReal)) = _
    rw [if_neg (by norm_num)]
  have hp : 0 < Real.sqrt 128 * Real.log 2 := mul_pos (Real.sqrt_pos.mpr (by norm_num)) (Real.log_pos (by norm_num))
  have r : Ideal.sqrt ((128 : ℝ) : EReal) = ((Real.sqrt 128 : ℝ) : EReal) := by
    show (if (128 : ℝ) < 0 then ⊥ else ((Real.sqrt 128 : ℝ) : EReal)) = _
    rw [if_neg (by norm_num)]
  unfold qdiv
  rw [bits128, bits2, e, r, ← EReal.coe_mul, Ideal.div_coe hp.ne', one_div]

end Cert.InMath

end
-- ==== Proof.InWt.lean ====
/- The projection's weights and bias as the host program lays them out. -/
module

public import proofs.«01_k».proof.Proof.InMath
public import proofs.«01_k».proof.Proof.Gen.Kernel2Ideal.Frame

@[expose] public section

set_option maxRecDepth 16384

noncomputable section

namespace Cert.Kernel2Ideal.Hand

open Cert.Kernel2Ideal Cert.Kernel2Ideal.Gen Cert.InMath
open Idealize.ShloMosaic
open Idealize.ShloMosaic.TcCoe Idealize.ShloMosaic.Tactic
open Idealize.SL.Sem

variable (m : (ℓ : Loc nD τ sig) → Buf (Elt Ideal) ℓ) (c : Dev nD)

abbrev X0 : S8x4096x2048.Idx → EReal := m ((c : Thread nD τ).loc main_arg0)
abbrev X1 : S8x12288.Idx → EReal := m ((c : Thread nD τ).loc main_arg1)
abbrev X2 : S2048x8256.Idx → EReal := m ((c : Thread nD τ).loc main_arg2)
abbrev X3 : S8256.Idx → EReal := m ((c : Thread nD τ).loc main_arg3)
abbrev X4 : S512.Idx → EReal := m ((c : Thread nD τ).loc main_arg4)
abbrev X5 : S512.Idx → EReal := m ((c : Thread nD τ).loc main_arg5)

/-- The exchanged rotary key columns: the two halves of 32 in the other order. -/
def catW2 (a b : (⟨S2048x32, .f32⟩ : BufTy).Contents (Elt Ideal)) : (⟨S2048x64, .f32⟩ : BufTy).Contents (Elt Ideal) :=
  concatenate S2048x64 1 [⟨S2048x32, a⟩, ⟨S2048x32, b⟩] concatenates_S2048x32_S2048x32_S2048x64_d1

/-- The exchanged rotary key entries of the bias. -/
def catB2 (a b : (⟨S32, .f32⟩ : BufTy).Contents (Elt Ideal)) : (⟨S64, .f32⟩ : BufTy).Contents (Elt Ideal) :=
  concatenate S64 0 [⟨S32, a⟩, ⟨S32, b⟩] concatenates_S32_S32_S64_d0

/-- The weight columns laid side by side in the order of the output array. -/
def catW (u0 : (⟨S2048x2048, .f32⟩ : BufTy).Contents (Elt Ideal)) (u1 : (⟨S2048x2048, .f32⟩ : BufTy).Contents (Elt Ideal)) (u2 : (⟨S2048x1024, .f32⟩ : BufTy).Contents (Elt Ideal)) (u3 : (⟨S2048x1024, .f32⟩ : BufTy).Contents (Elt Ideal)) (u4 : (⟨S2048x1024, .f32⟩ : BufTy).Contents (Elt Ideal)) (u5 : (⟨S2048x512, .f32⟩ : BufTy).Contents (Elt Ideal)) (u6 : (⟨S2048x512, .f32⟩ : BufTy).Contents (Elt Ideal)) (u7 : (⟨S2048x64, .f32⟩ : BufTy).Contents (Elt Ideal)) (u8 : (⟨S2048x64, .f32⟩ : BufTy).Contents (Elt Ideal)) (u9 : (⟨S2048x64, .f32⟩ : BufTy).Contents (Elt Ideal)) (u10 : (⟨S2048x64, .f32⟩ : BufTy).Contents (Elt Ideal)) (u11 : (⟨S2048x256, .f32⟩ : BufTy).Contents (Elt Ideal)) : (⟨S2048x8704, .f32⟩ : BufTy).Contents (Elt Ideal) :=
  (concatenate S2048x8704 1 [⟨S2048x2048, u0⟩, ⟨S2048x2048, u1⟩, ⟨S2048x1024, u2⟩, ⟨S2048x1024, u3⟩, ⟨S2048x1024, u4⟩, ⟨S2048x512, u5⟩, ⟨S2048x512, u6⟩, ⟨S2048x64, u7⟩, ⟨S2048x64, u8⟩, ⟨S2048x64, u9⟩, ⟨S2048x64, u10⟩, ⟨S2048x256, u11⟩] concatenates_S2048x2048_S2048x2048_S2048x1024_S2048x1024_S2048x1024_S2048x512_S2048x512_S2048x64_S2048x64_S2048x64_S2048x64_S2048x256_S2048x8704_d1 : (⟨S2048x8704, .f32⟩ : BufTy).Contents (Elt Ideal))

/-- The bias entries laid end to end in the order of the output array. -/
def catB (u0 : (⟨S2048, .f32⟩ : BufTy).Contents (Elt Ideal)) (u1 : (⟨S2048, .f32⟩ : BufTy).Contents (Elt Ideal)) (u2 : (⟨S1024, .f32⟩ : BufTy).Contents (Elt Ideal)) (u3 : (⟨S1024, .f32⟩ : BufTy).Contents (Elt Ideal)) (u4 : (⟨S1024, .f32⟩ : BufTy).Contents (Elt Ideal)) (u5 : (⟨S512, .f32⟩ : BufTy).Contents (Elt Ideal)) (u6 : (⟨S512, .f32⟩ : BufTy).Contents (Elt Ideal)) (u7 : (⟨S64, .f32⟩ : BufTy).Contents (Elt Ideal)) (u8 : (⟨S64, .f32⟩ : BufTy).Contents (Elt Ideal)) (u9 : (⟨S64, .f32⟩ : BufTy).Contents (Elt Ideal)) (u10 : (⟨S64, .f32⟩ : BufTy).Contents (Elt Ideal)) (u11 : (⟨S256, .f32⟩ : BufTy).Contents (Elt Ideal)) : (⟨S8704, .f32⟩ : BufTy).Contents (Elt Ideal) :=
  (concatenate S8704 0 [⟨S2048, u0⟩, ⟨S2048, u1⟩, ⟨S1024, u2⟩, ⟨S1024, u3⟩, ⟨S1024, u4⟩, ⟨S512, u5⟩, ⟨S512, u6⟩, ⟨S64, u7⟩, ⟨S64, u8⟩, ⟨S64, u9⟩, ⟨S64, u10⟩, ⟨S256, u11⟩] concatenates_S2048_S2048_S1024_S1024_S1024_S512_S512_S64_S64_S64_S64_S256_S8704_d0 : (⟨S8704, .f32⟩ : BufTy).Contents (Elt Ideal))

theorem ops_eq : (hostOps0 (F := Ideal)) = hostOps0.take 14
    ++ (StableHlo.binary main_v10 main_v11 main_v12 catW2
    :: StableHlo.nary ![main_v6, main_v7, main_v0, main_v1, main_v2, main_v3, main_v4, main_v5, main_v8, main_v12, main_v8, main_v9] main_v13 (fun u => catW (u 0) (u 1) (u 2) (u 3) (u 4) (u 5) (u 6) (u 7) (u 8) (u 9) (u 10) (u 11))
    :: ((hostOps0.drop 16).take 17
    ++ (StableHlo.binary main_v27 main_v28 main_v29 catB2
    :: StableHlo.nary ![main_v23, main_v24, main_v17, main_v18, main_v19, main_v20, main_v21, main_v22, main_v25, main_v29, main_v25, main_v26] main_v30 (fun u => catB (u 0) (u 1) (u 2) (u 3) (u 4) (u 5) (u 6) (u 7) (u 8) (u 9) (u 10) (u 11))
    :: hostOps0.drop 35))) := rfl

theorem catW_result (σ : Valuation τ sig (Elt Ideal)) (h1 h2) :
    (StableHlo.nary ![main_v6, main_v7, main_v0, main_v1, main_v2, main_v3, main_v4, main_v5, main_v8, main_v12, main_v8, main_v9] main_v13 (fun u => catW (u 0) (u 1) (u 2) (u 3) (u 4) (u 5) (u 6) (u 7) (u 8) (u 9) (u 10) (u 11)) h1 h2 : HloOp τ sig (Elt Ideal)).result σ (Proc.tc.devRef main_v13)
      = catW (σ (Proc.tc.devRef main_v6)) (σ (Proc.tc.devRef main_v7)) (σ (Proc.tc.devRef main_v0)) (σ (Proc.tc.devRef main_v1)) (σ (Proc.tc.devRef main_v2)) (σ (Proc.tc.devRef main_v3)) (σ (Proc.tc.devRef main_v4)) (σ (Proc.tc.devRef main_v5)) (σ (Proc.tc.devRef main_v8)) (σ (Proc.tc.devRef main_v12)) (σ (Proc.tc.devRef main_v8)) (σ (Proc.tc.devRef main_v9)) := StableHlo.nary_result _ _ _ h1 h2 σ

theorem catB_result (σ : Valuation τ sig (Elt Ideal)) (h1 h2) :
    (StableHlo.nary ![main_v23, main_v24, main_v17, main_v18, main_v19, main_v20, main_v21, main_v22, main_v25, main_v29, main_v25, main_v26] main_v30 (fun u => catB (u 0) (u 1) (u 2) (u 3) (u 4) (u 5) (u 6) (u 7) (u 8) (u 9) (u 10) (u 11)) h1 h2 : HloOp τ sig (Elt Ideal)).result σ (Proc.tc.devRef main_v30)
      = catB (σ (Proc.tc.devRef main_v23)) (σ (Proc.tc.devRef main_v24)) (σ (Proc.tc.devRef main_v17)) (σ (Proc.tc.devRef main_v18)) (σ (Proc.tc.devRef main_v19)) (σ (Proc.tc.devRef main_v20)) (σ (Proc.tc.devRef main_v21)) (σ (Proc.tc.devRef main_v22)) (σ (Proc.tc.devRef main_v25)) (σ (Proc.tc.devRef main_v29)) (σ (Proc.tc.devRef main_v25)) (σ (Proc.tc.devRef main_v26)) := StableHlo.nary_result _ _ _ h1 h2 σ

theorem zero_w (x : S2048x8256.Idx → EReal) (k : ℕ) : at2 x k 8256 = 0 := dif_neg (fun h => absurd h.2 (by decide))

theorem zero_b (x : S8256.Idx → EReal) : at1 x 8256 = 0 := dif_neg (by decide)

/-- The weight columns, from the argument. -/
def wcols (x : FVec Ideal S2048x8256 .f32) : FVec Ideal S2048x8704 .f32 :=
  catW (extractStridedSlice S2048x2048 ![0, 4160] x slices_S2048x8256_S2048x2048_0_4160)
    (extractStridedSlice S2048x2048 ![0, 6208] x slices_S2048x8256_S2048x2048_0_6208)
    (extractStridedSlice S2048x1024 ![0, 0] x slices_S2048x8256_S2048x1024_0_0)
    (extractStridedSlice S2048x1024 ![0, 1024] x slices_S2048x8256_S2048x1024_0_1024)
    (extractStridedSlice S2048x1024 ![0, 2048] x slices_S2048x8256_S2048x1024_0_2048)
    (extractStridedSlice S2048x512 ![0, 3072] x slices_S2048x8256_S2048x512_0_3072)
    (extractStridedSlice S2048x512 ![0, 3584] x slices_S2048x8256_S2048x512_0_3584)
    (extractStridedSlice S2048x64 ![0, 4096] x slices_S2048x8256_S2048x64_0_4096)
    (broadcastInDim S2048x64 ![] bcast_S_S2048x64 (constant (F := Ideal) S_ .f32 0x00000000#32))
    (catW2 (extractStridedSlice S2048x32 ![0, 32] (extractStridedSlice S2048x64 ![0, 4096] x slices_S2048x8256_S2048x64_0_4096) slices_S2048x64_S2048x32_0_32) (extractStridedSlice S2048x32 ![0, 0] (extractStridedSlice S2048x64 ![0, 4096] x slices_S2048x8256_S2048x64_0_4096) slices_S2048x64_S2048x32_0_0))
    (broadcastInDim S2048x64 ![] bcast_S_S2048x64 (constant (F := Ideal) S_ .f32 0x00000000#32))
    (broadcastInDim S2048x256 ![] bcast_S_S2048x256 (constant (F := Ideal) S_ .f32 0x00000000#32))

/-- The bias entries, from the argument. -/
def bcols (x : FVec Ideal S8256 .f32) : FVec Ideal S8704 .f32 :=
  catB (extractStridedSlice S2048 ![4160] x slices_S8256_S2048_4160)
    (extractStridedSlice S2048 ![6208] x slices_S8256_S2048_6208)
    (extractStridedSlice S1024 ![0] x slices_S8256_S1024_0)
    (extractStridedSlice S1024 ![1024] x slices_S8256_S1024_1024)
    (extractStridedSlice S1024 ![2048] x slices_S8256_S1024_2048)
    (extractStridedSlice S512 ![3072] x slices_S8256_S512_3072)
    (extractStridedSlice S512 ![3584] x slices_S8256_S512_3584)
    (extractStridedSlice S64 ![4096] x slices_S8256_S64_4096)
    (broadcastInDim S64 ![] bcast_S_S64 (constant (F := Ideal) S_ .f32 0x00000000#32))
    (catB2 (extractStridedSlice S32 ![32] (extractStridedSlice S64 ![4096] x slices_S8256_S64_4096) slices_S64_S32_32) (extractStridedSlice S32 ![0] (extractStridedSlice S64 ![4096] x slices_S8256_S64_4096) slices_S64_S32_0))
    (broadcastInDim S64 ![] bcast_S_S64 (constant (F := Ideal) S_ .f32 0x00000000#32))
    (broadcastInDim S256 ![] bcast_S_S256 (constant (F := Ideal) S_ .f32 0x00000000#32))

set_option maxHeartbeats 1600000 in
theorem V_w_eq : (V m c main_v16 : S17x2048x512.Idx → EReal) = transpose S17x2048x512 [1, 0, 2] (shapeCast S2048x17x512 (truncf (F := Ideal) .bf16 (wcols (X2 m c)) bitsLt_bf16_f32) shapeCasts_S2048x8704_S2048x17x512) transposes_S2048x17x512_S17x2048x512_1_0_2 := by
  unfold V
  rw [ops_eq]
  simp only [StableHlo.after_append, List.take, List.drop, StableHlo.after_cons, StableHlo.after_nil]
  generalize hσ : HloOp.result (StableHlo.nary ![main_v6, main_v7, main_v0, main_v1, main_v2, main_v3, main_v4, main_v5, main_v8, main_v12, main_v8, main_v9] main_v13 _ _ _) _ = σ
  after_results_simp
  rw [← hσ, catW_result]
  after_results_simp
  rfl

set_option maxHeartbeats 1600000 in
theorem V_b_eq : (V m c main_v31 : S1x8704.Idx → EReal) = shapeCast S1x8704 (bcols (X3 m c)) shapeCasts_S8704_S1x8704 := by
  unfold V
  rw [ops_eq]
  simp only [StableHlo.after_append, List.take, List.drop, StableHlo.after_cons, StableHlo.after_nil]
  generalize hρ : HloOp.result (StableHlo.nary ![main_v23, main_v24, main_v17, main_v18, main_v19, main_v20, main_v21, main_v22, main_v25, main_v29, main_v25, main_v26] main_v30 _ _ _) _ = ρ
  after_results_simp
  rw [← hρ, catB_result]
  generalize hσ : HloOp.result (StableHlo.nary ![main_v6, main_v7, main_v0, main_v1, main_v2, main_v3, main_v4, main_v5, main_v8, main_v12, main_v8, main_v9] main_v13 _ _ _) _ = σ
  after_results_simp
  have e3 : σ (Proc.tc.devRef main_arg3) = X3 m c := by
    rw [← hσ]
    after_results_simp
  rw [e3]
  rfl

set_option maxHeartbeats 1600000 in
theorem wcols_at (x : FVec Ideal S2048x8256 .f32) (k : Fin 2048) (n : Fin 8704) : wcols x (ix2 k n) = at2 x k.val (src n.val) := by
  unfold wcols catW catW2
  pointwise
  obtain ⟨N, hN'⟩ := n
  dsimp only
  by_cases c0 : N < 2048
  · rw [dif_pos (by omega), src_p0 N (by omega)]
    exact at2_of x _ _ _ rfl (by dsimp only [ix2]; try omega)
  by_cases c1 : N < 4096
  · rw [dif_neg (by omega), dif_pos (by omega), src_p1 N (by omega) (by omega)]
    exact at2_of x _ _ _ rfl (by dsimp only [ix2]; try omega)
  by_cases c2 : N < 5120
  · rw [dif_neg (by omega), dif_neg (by omega), dif_pos (by omega), src_p2 N (by omega) (by omega)]
    exact at2_of x _ _ _ rfl (by dsimp only [ix2]; try omega)
  by_cases c3 : N < 6144
  · rw [dif_neg (by omega), dif_neg (by omega), dif_neg (by omega), dif_pos (by omega), src_p3 N (by omega) (by omega)]
    exact at2_of x _ _ _ rfl (by dsimp only [ix2]; try omega)
  by_cases c4 : N < 7168
  · rw [dif_neg (by omega), dif_neg (by omega), dif_neg (by omega), dif_neg (by omega), dif_pos (by omega), src_p4 N (by omega) (by omega)]
    exact at2_of x _ _ _ rfl (by dsimp only [ix2]; try omega)
  by_cases c5 : N < 7680
  · rw [dif_neg (by omega), dif_neg (by omega), dif_neg (by omega), dif_neg (by omega), dif_neg (by omega), dif_pos (by omega), src_p5 N (by omega) (by omega)]
    exact at2_of x _ _ _ rfl (by dsimp only [ix2]; try omega)
  by_cases c6 : N < 8192
  · rw [dif_neg (by omega), dif_neg (by omega), dif_neg (by omega), dif_neg (by omega), dif_neg (by omega), dif_neg (by omega), dif_pos (by omega), src_p6 N (by omega) (by omega)]
    exact at2_of x _ _ _ rfl (by dsimp only [ix2]; try omega)
  by_cases c7 : N < 8256
  · rw [dif_neg (by omega), dif_neg (by omega), dif_neg (by omega), dif_neg (by omega), dif_neg (by omega), dif_neg (by omega), dif_neg (by omega), dif_pos (by omega), src_p7 N (by omega) (by omega)]
    exact at2_of x _ _ _ rfl (by dsimp only [ix2]; try omega)
  by_cases c8 : N < 8320
  · rw [dif_neg (by omega), dif_neg (by omega), dif_neg (by omega), dif_neg (by omega), dif_neg (by omega), dif_neg (by omega), dif_neg (by omega), dif_neg (by omega), dif_pos (by omega), src_p8 N (by omega) (by omega)]
    exact (zero_w x k.val).symm
  by_cases c9 : N < 8384
  · rw [dif_neg (by omega), dif_neg (by omega), dif_neg (by omega), dif_neg (by omega), dif_neg (by omega), dif_neg (by omega), dif_neg (by omega), dif_neg (by omega), dif_neg (by omega), dif_pos (by omega), src_p9 N (by omega) (by omega)]
    by_cases c : N < 8352
    · rw [dif_pos (by omega)]
      exact at2_of x _ _ _ rfl (by dsimp only [ix2]; try omega)
    · rw [dif_neg (by omega)]
      exact at2_of x _ _ _ rfl (by dsimp only [ix2]; try omega)
  by_cases c10 : N < 8448
  · rw [dif_neg (by omega), dif_neg (by omega), dif_neg (by omega), dif_neg (by omega), dif_neg (by omega), dif_neg (by omega), dif_neg (by omega), dif_neg (by omega), dif_neg (by omega), dif_neg (by omega), dif_pos (by omega), src_p10 N (by omega) (by omega)]
    exact (zero_w x k.val).symm
  rw [dif_neg (by omega), dif_neg (by omega), dif_neg (by omega), dif_neg (by omega), dif_neg (by omega), dif_neg (by omega), dif_neg (by omega), dif_neg (by omega), dif_neg (by omega), dif_neg (by omega), dif_neg (by omega), src_p11 N (by omega)]
  exact (zero_w x k.val).symm

set_option maxHeartbeats 1600000 in
theorem catB_at (x : FVec Ideal S8256 .f32) (a0 a1 : FVec Ideal S2048 .f32) (a2 a3 a4 : FVec Ideal S1024 .f32) (a5 a6 : FVec Ideal S512 .f32) (a7 a8 a9 a10 : FVec Ideal S64 .f32) (a11 : FVec Ideal S256 .f32)
    (h0 : ∀ j, a0 j = at1 x (4160 + (j 0).val))
    (h1 : ∀ j, a1 j = at1 x (6208 + (j 0).val))
    (h2 : ∀ j, a2 j = at1 x (0 + (j 0).val))
    (h3 : ∀ j, a3 j = at1 x (1024 + (j 0).val))
    (h4 : ∀ j, a4 j = at1 x (2048 + (j 0).val))
    (h5 : ∀ j, a5 j = at1 x (3072 + (j 0).val))
    (h6 : ∀ j, a6 j = at1 x (3584 + (j 0).val))
    (h7 : ∀ j, a7 j = at1 x (4096 + (j 0).val))
    (h8 : ∀ j, a8 j = 0)
    (h9 : ∀ j, a9 j = at1 x (4096 + ((j 0).val + 32) % 64))
    (h10 : ∀ j, a10 j = 0)
    (h11 : ∀ j, a11 j = 0) (i : S8704.Idx) :
    catB a0 a1 a2 a3 a4 a5 a6 a7 a8 a9 a10 a11 i = at1 x (src (i 0).val) := by
  have hN' : (i 0).val < 8704 := (i 0).isLt
  unfold catB
  pointwise
  by_cases c0 : (i 0).val < 2048
  · rw [dif_pos (by omega), src_p0 (i 0).val (by omega)]
    exact (h0 _).trans (congrArg (at1 x) (by dsimp only [ix1]; try omega))
  by_cases c1 : (i 0).val < 4096
  · rw [dif_neg (by omega), dif_pos (by omega), src_p1 (i 0).val (by omega) (by omega)]
    exact (h1 _).trans (congrArg (at1 x) (by dsimp only [ix1]; try omega))
  by_cases c2 : (i 0).val < 5120
  · rw [dif_neg (by omega), dif_neg (by omega), dif_pos (by omega), src_p2 (i 0).val (by omega) (by omega)]
    exact (h2 _).trans (congrArg (at1 x) (by dsimp only [ix1]; try omega))
  by_cases c3 : (i 0).val < 6144
  · rw [dif_neg (by omega), dif_neg (by omega), dif_neg (by omega), dif_pos (by omega), src_p3 (i 0).val (by omega) (by omega)]
    exact (h3 _).trans (congrArg (at1 x) (by dsimp only [ix1]; try omega))
  by_cases c4 : (i 0).val < 7168
  · rw [dif_neg (by omega), dif_neg (by omega), dif_neg (by omega), dif_neg (by omega), dif_pos (by omega), src_p4 (i 0).val (by omega) (by omega)]
    exact (h4 _).trans (congrArg (at1 x) (by dsimp only [ix1]; try omega))
  by_cases c5 : (i 0).val < 7680
  · rw [dif_neg (by omega), dif_neg (by omega), dif_neg (by omega), dif_neg (by omega), dif_neg (by omega), dif_pos (by omega), src_p5 (i 0).val (by omega) (by omega)]
    exact (h5 _).trans (congrArg (at1 x) (by dsimp only [ix1]; try omega))
  by_cases c6 : (i 0).val < 8192
  · rw [dif_neg (by omega), dif_neg (by omega), dif_neg (by omega), dif_neg (by omega), dif_neg (by omega), dif_neg (by omega), dif_pos (by omega), src_p6 (i 0).val (by omega) (by omega)]
    exact (h6 _).trans (congrArg (at1 x) (by dsimp only [ix1]; try omega))
  by_cases c7 : (i 0).val < 8256
  · rw [dif_neg (by omega), dif_neg (by omega), dif_neg (by omega), dif_neg (by omega), dif_neg (by omega), dif_neg (by omega), dif_neg (by omega), dif_pos (by omega), src_p7 (i 0).val (by omega) (by omega)]
    exact (h7 _).trans (congrArg (at1 x) (by dsimp only [ix1]; try omega))
  by_cases c8 : (i 0).val < 8320
  · rw [dif_neg (by omega), dif_neg (by omega), dif_neg (by omega), dif_neg (by omega), dif_neg (by omega), dif_neg (by omega), dif_neg (by omega), dif_neg (by omega), dif_pos (by omega), src_p8 (i 0).val (by omega) (by omega)]
    exact (h8 _).trans (zero_b x).symm
  by_cases c9 : (i 0).val < 8384
  · rw [dif_neg (by omega), dif_neg (by omega), dif_neg (by omega), dif_neg (by omega), dif_neg (by omega), dif_neg (by omega), dif_neg (by omega), dif_neg (by omega), dif_neg (by omega), dif_pos (by omega), src_p9 (i 0).val (by omega) (by omega)]
    exact (h9 _).trans (congrArg (at1 x) (by dsimp only [ix1]; try omega))
  by_cases c10 : (i 0).val < 8448
  · rw [dif_neg (by omega), dif_neg (by omega), dif_neg (by omega), dif_neg (by omega), dif_neg (by omega), dif_neg (by omega), dif_neg (by omega), dif_neg (by omega), dif_neg (by omega), dif_neg (by omega), dif_pos (by omega), src_p10 (i 0).val (by omega) (by omega)]
    exact (h10 _).trans (zero_b x).symm
  rw [dif_neg (by omega), dif_neg (by omega), dif_neg (by omega), dif_neg (by omega), dif_neg (by omega), dif_neg (by omega), dif_neg (by omega), dif_neg (by omega), dif_neg (by omega), dif_neg (by omega), dif_neg (by omega), src_p11 (i 0).val (by omega)]
  exact (h11 _).trans (zero_b x).symm

theorem catB2_at (x : FVec Ideal S8256 .f32) (i : S64.Idx) :
    catB2 (extractStridedSlice S32 ![32] (extractStridedSlice S64 ![4096] x slices_S8256_S64_4096) slices_S64_S32_32)
      (extractStridedSlice S32 ![0] (extractStridedSlice S64 ![4096] x slices_S8256_S64_4096) slices_S64_S32_0) i
      = at1 x (4096 + ((i 0).val + 32) % 64) := by
  have hi : (i 0).val < 64 := (i 0).isLt
  unfold catB2
  pointwise
  by_cases c : (i 0).val < 32
  · rw [dif_pos c]
    exact at1_of x _ _ (by dsimp only [ix1]; try omega)
  · rw [dif_neg c]
    exact at1_of x _ _ (by dsimp only [ix1]; try omega)

theorem bcols_at (x : FVec Ideal S8256 .f32) (i : S8704.Idx) : bcols x i = at1 x (src (i 0).val) := by
  unfold bcols
  refine catB_at x _ _ _ _ _ _ _ _ _ _ _ _ ?_ ?_ ?_ ?_ ?_ ?_ ?_ ?_ ?_ (catB2_at x) ?_ ?_ i
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise; exact at1_of x _ _ (by dsimp only [ix1]; try omega)
  · intro j; pointwise
  · intro j; pointwise
  · intro j; pointwise

theorem V_w (j : Fin 17) (k : Fin 2048) (d : Fin 512) : (V m c main_v16 : S17x2048x512.Idx → EReal) (ix3 j k d) = at2 (X2 m c) k.val (src (j.val * 512 + d.val)) := by
  rw [V_w_eq]
  refine Eq.trans ?_ (wcols_at (X2 m c) k ⟨j.val * 512 + d.val, by omega⟩)
  pointwise

theorem V_b (n : Fin 8704) : (V m c main_v31 : S1x8704.Idx → EReal) (ix2 0 n) = at1 (X3 m c) (src n.val) := by
  rw [V_b_eq]
  refine Eq.trans ?_ (bcols_at (X3 m c) (ix1 n))
  pointwise

end Cert.Kernel2Ideal.Hand

end
-- ==== Proof.InPay.lean ====
/- What the projection's payloads hold, entry by entry. -/
module

public import proofs.«01_k».proof.Proof.InMath
public import proofs.«01_k».proof.Proof.Gen.Kernel2Ideal.Skeleton

@[expose] public section

set_option maxRecDepth 16384

noncomputable section

namespace Cert.Kernel2Ideal.Hand

open Cert.Kernel2Ideal Cert.Kernel2Ideal.Gen Cert.InMath
open Idealize.ShloMosaic
open Idealize.ShloMosaic.TcCoe Idealize.ShloMosaic.Tactic

/-- The modulated rows. -/
theorem pay2_at (x : Vec Ideal S1024x2048 .f32) (a b : Vec Ideal S1x1x1x2048 .f32) (r : Fin 1024) (k : Fin 2048) :
    k0_pay2 (F := Ideal) x a b (ix2 r k) = x (ix2 r k) * ((1 : EReal) + a (ix4 0 0 0 k)) + b (ix4 0 0 0 k) := by
  pointwise [k0_pay2]

/-- The product with the weights, and the bias. -/
theorem pay3_at (h : Vec Ideal S1024x2048 .bf16) (w : Vec Ideal S1x2048x512 .bf16) (b : Vec Ideal S1x512 .f32) (r : Fin 1024) (d : Fin 512) :
    k0_pay3 (F := Ideal) h w b (ix2 r d) = (∑ k : Fin 2048, (h (ix2 r k) * w (ix3 0 k d) : EReal)) + b (ix2 0 d) := by
  pointwise [k0_pay3]

theorem pay4_at (h : Vec Ideal S1024x2048 .bf16) (w : Vec Ideal S1x2048x512 .bf16) (b : Vec Ideal S1x512 .f32) (i : S1024x512.Idx) :
    k0_pay4 (F := Ideal) h w b i = Ideal.logistic (k0_pay3 (F := Ideal) h w b i) := rfl

theorem qscale_eq : (Named.named κ "qscale" 0x3E0293EE#32 : Ideal FTy.f32) = (((Real.sqrt 128 * Real.log 2)⁻¹ : ℝ) : EReal) := rfl

theorem pay5_at (h : Vec Ideal S1024x2048 .bf16) (w : Vec Ideal S1x2048x512 .bf16) (b : Vec Ideal S1x512 .f32) (i : S1024x512.Idx) :
    k0_pay5 (F := Ideal) h w b i = Ideal.div (k0_pay3 (F := Ideal) h w b i) qdiv := by
  rw [div_qdiv]
  rfl

theorem pay6_at (h : Vec Ideal S1024x2048 .bf16) (w : Vec Ideal S1x2048x512 .bf16) (b : Vec Ideal S1x512 .f32) (i : S1024x512.Idx) :
    k0_pay6 (F := Ideal) h w b i = k0_pay3 (F := Ideal) h w b i := rfl

theorem pay7_eq (h : Vec Ideal S1024x2048 .bf16) (w : Vec Ideal S1x2048x512 .bf16) (b g : Vec Ideal S1x512 .f32) :
    k0_pay7 (F := Ideal) h w b g = k0_pay1 (F := Ideal) (k0_pay3 (F := Ideal) h w b) g := rfl

/-- A row over the root of its mean square, scaled. -/
theorem pay1_at (v : FVec Ideal S1024x512 .f32) (g : Vec Ideal S1x512 .f32) (r : Fin 1024) (d : Fin 512) (z : ℕ → EReal)
    (hz : ∀ k : Fin 512, v (ix2 r k) = z k.val) :
    k0_pay1 (F := Ideal) v g (ix2 r d) = (v (ix2 r d) * rms z * g (ix2 0 d) : EReal) := by
  unfold rms
  simp only [← hz]
  pointwise [k0_pay1]

end Cert.Kernel2Ideal.Hand

end
-- ==== Proof.InBlk.lean ====
/- The blocks the projection's points read and write: where each lies in its array, and what the host program put there. -/
module

public import proofs.«01_k».proof.Proof.InWt
public import proofs.«01_k».proof.Proof.InPay
public import proofs.«01_k».proof.Proof.Gen.Kernel2Ideal.Frame

@[expose] public section

set_option maxRecDepth 16384

noncomputable section

namespace Cert.Kernel2Ideal.Hand

open Cert.Kernel2Ideal Cert.Kernel2Ideal.Gen Cert.InMath
open Idealize.ShloMosaic
open Idealize.ShloMosaic.TcCoe Idealize.ShloMosaic.Tactic
open Idealize.SL.Sem

theorem win_idx : ∀ t : Fin grid0.N,
    (cfg0.win 0).index t = ![t.val / 17, 0]
    ∧ (cfg0.win 1).index t = ![t.val / 68, 1, 0, 0]
    ∧ (cfg0.win 2).index t = ![t.val / 68, 0, 0, 0]
    ∧ (cfg0.win 3).index t = ![t.val % 17, 0, 0]
    ∧ (cfg0.win 4).index t = ![0, t.val % 17]
    ∧ (cfg0.win 5).index t = ![0, 0]
    ∧ (cfg0.win 6).index t = ![0, 0]
    ∧ (cfg0.win 7).index t = ![t.val / 17, t.val % 17] := by decide +kernel

theorem covers7 : (cfg0.win 7).Covers := by decide +kernel
theorem flush7 : ∀ t : Fin grid0.N, (cfg0.win 7).flush t = true := by decide +kernel

variable (m : (ℓ : Loc nD τ sig) → Buf (Elt Ideal) ℓ) (c : Dev nD)

set_option maxHeartbeats 1600000 in
theorem V_x (r : Fin 32768) (k : Fin 2048) : (V m c main_v32 : S32768x2048.Idx → EReal) (ix2 r k) = at3 (X0 m c) (r.val / 4096) (r.val % 4096) k.val := by
  entry_read
  pointwise
  exact at3_of (X0 m c) _ _ _ _ rfl rfl rfl

set_option maxHeartbeats 1600000 in
theorem V_m (b : Fin 8) (p : Fin 6) (k : Fin 2048) : (V m c main_v33 : S8x6x1x2048.Idx → EReal) (ix4 b p 0 k) = at2 (X1 m c) b.val (p.val * 2048 + k.val) := by
  entry_read
  pointwise
  exact at2_of (X1 m c) _ _ _ rfl rfl

theorem V_q (d : Fin 512) : (V m c main_v34 : S1x512.Idx → EReal) (ix2 0 d) = at1 (X4 m c) d.val := by
  entry_read
  pointwise
  exact at1_of (X4 m c) _ _ rfl

theorem V_kv (d : Fin 512) : (V m c main_v35 : S1x512.Idx → EReal) (ix2 0 d) = at1 (X5 m c) d.val := by
  entry_read
  pointwise
  exact at1_of (X5 m c) _ _ rfl

/-! ## The blocks from the arguments -/

theorem tlt (t : Fin cfg0.N) : t.val < 544 := t.isLt

theorem x_blk (t : Fin cfg0.N) (r : Fin 1024) (k : Fin 2048) :
    (iblk m c 0 t : Vec Ideal S1024x2048 .f32) (ix2 r k) = at3 (X0 m c) (t.val / 68) (t.val / 17 % 4 * 1024 + r.val) k.val := by
  have ht := tlt t
  have hr := r.isLt
  have e : (iblk m c 0 t : Vec Ideal S1024x2048 .f32) (ix2 r k) = V m c main_v32 (ix2 ⟨t.val / 17 * 1024 + r.val, by omega⟩ k) := by
    blk_ext [iblk, win_idx t]
  refine (e.trans (V_x m c _ _)).trans ?_
  dsimp only
  rw [show (t.val / 17 * 1024 + r.val) / 4096 = t.val / 68 by omega, show (t.val / 17 * 1024 + r.val) % 4096 = t.val / 17 % 4 * 1024 + r.val by omega]

theorem sc_blk (t : Fin cfg0.N) (k : Fin 2048) :
    (iblk m c 1 t : Vec Ideal S1x1x1x2048 .f32) (ix4 0 0 0 k) = at2 (X1 m c) (t.val / 68) (2048 + k.val) := by
  have ht := tlt t
  have e : (iblk m c 1 t : Vec Ideal S1x1x1x2048 .f32) (ix4 0 0 0 k) = V m c main_v33 (ix4 ⟨t.val / 68, by omega⟩ 1 0 k) := by
    blk_ext [iblk, win_idx t]
  refine (e.trans (V_m m c _ _ _)).trans ?_
  rfl

theorem sh_blk (t : Fin cfg0.N) (k : Fin 2048) :
    (iblk m c 2 t : Vec Ideal S1x1x1x2048 .f32) (ix4 0 0 0 k) = at2 (X1 m c) (t.val / 68) k.val := by
  have ht := tlt t
  have e : (iblk m c 2 t : Vec Ideal S1x1x1x2048 .f32) (ix4 0 0 0 k) = V m c main_v33 (ix4 ⟨t.val / 68, by omega⟩ 0 0 k) := by
    blk_ext [iblk, win_idx t]
  refine (e.trans (V_m m c _ _ _)).trans ?_
  exact congrArg (at2 (X1 m c) (t.val / 68)) (show 0 * 2048 + k.val = k.val by omega)

theorem w_blk (t : Fin cfg0.N) (k : Fin 2048) (d : Fin 512) :
    (iblk m c 3 t : Vec Ideal S1x2048x512 .bf16) (ix3 0 k d) = at2 (X2 m c) k.val (src (t.val % 17 * 512 + d.val)) := by
  have ht := tlt t
  have e : (iblk m c 3 t : Vec Ideal S1x2048x512 .bf16) (ix3 0 k d) = V m c main_v16 (ix3 ⟨t.val % 17, by omega⟩ k d) := by
    blk_ext [iblk, win_idx t]
  exact e.trans (V_w m c _ _ _)

theorem b_blk (t : Fin cfg0.N) (d : Fin 512) :
    (iblk m c 4 t : Vec Ideal S1x512 .f32) (ix2 0 d) = at1 (X3 m c) (src (t.val % 17 * 512 + d.val)) := by
  have ht := tlt t
  have hd := d.isLt
  have e : (iblk m c 4 t : Vec Ideal S1x512 .f32) (ix2 0 d) = V m c main_v31 (ix2 0 ⟨t.val % 17 * 512 + d.val, by omega⟩) := by
    blk_ext [iblk, win_idx t]
  exact e.trans (V_b m c _)

theorem q_blk (t : Fin cfg0.N) (d : Fin 512) : (iblk m c 5 t : Vec Ideal S1x512 .f32) (ix2 0 d) = at1 (X4 m c) d.val := by
  have e : (iblk m c 5 t : Vec Ideal S1x512 .f32) (ix2 0 d) = V m c main_v34 (ix2 0 d) := by
    blk_ext [iblk, win_idx t]
  exact e.trans (V_q m c _)

theorem kv_blk (t : Fin cfg0.N) (d : Fin 512) : (iblk m c 6 t : Vec Ideal S1x512 .f32) (ix2 0 d) = at1 (X5 m c) d.val := by
  have e : (iblk m c 6 t : Vec Ideal S1x512 .f32) (ix2 0 d) = V m c main_v35 (ix2 0 d) := by
    blk_ext [iblk, win_idx t]
  exact e.trans (V_kv m c _)

/-- The modulated rows a point would compute. -/
theorem h_blk (t : Fin cfg0.N) (r : Fin 1024) (k : Fin 2048) :
    k0_pay2 (F := Ideal) (iblk m c 0 t) (iblk m c 1 t) (iblk m c 2 t) (ix2 r k) = hin (X0 m c) (X1 m c) (t.val / 68) (t.val / 17 % 4 * 1024 + r.val) k.val := by
  rw [pay2_at, x_blk, sc_blk, sh_blk]
  rfl

end Cert.Kernel2Ideal.Hand

end
-- ==== Proof.InBody.lean ====
/- What each case of the projection's body leaves, from the point's blocks and the kept modulated rows. -/
module

public import proofs.«01_k».proof.Proof.Gen.Kernel2Ideal.Frame
public import Idealize.ShloMosaic.Lib.VecWindow

@[expose] public section

set_option maxRecDepth 16384

noncomputable section

namespace Cert.Kernel2Ideal.Hand

open Cert.Kernel2Ideal Cert.Kernel2Ideal.Gen
open Idealize.ShloMosaic
open Idealize.ShloMosaic.TcCoe Idealize.ShloMosaic.Tactic
open Idealize.SL.Sem

variable {F : FTy → Type} [FloatOps F] [Named F]

theorem l_h (M : Memref sig .tc .vmem S1024x2048 .bf16) (hM : M.IsWhole) (x : Vec F S1024x2048 .bf16) (h) :
    View.readAt (Elt F) M.view (Rect.unit (s := S1024x2048) ![0, 0] ![1024, 2048] h).toLoadRect (hM.unread x) = x := (View.readAt_full _ _ h).trans (hM.read_unread x)
theorem l_x (M : Memref sig .tc .vmem S1024x2048 .f32) (hM : M.IsWhole) (x : Vec F S1024x2048 .f32) (h) :
    View.readAt (Elt F) M.view (Rect.unit (s := S1024x2048) ![0, 0] ![1024, 2048] h).toLoadRect (hM.unread x) = x := (View.readAt_full _ _ h).trans (hM.read_unread x)
theorem l_m (M : Memref sig .tc .vmem S1x1x1x2048 .f32) (hM : M.IsWhole) (x : Vec F S1x1x1x2048 .f32) (h) :
    View.readAt (Elt F) M.view (Rect.unit (s := S1x1x1x2048) ![0, 0, 0, 0] ![1, 1, 1, 2048] h).toLoadRect (hM.unread x) = x := (View.readAt_full _ _ h).trans (hM.read_unread x)
theorem l_w (M : Memref sig .tc .vmem S1x2048x512 .bf16) (hM : M.IsWhole) (x : Vec F S1x2048x512 .bf16) (h) :
    View.readAt (Elt F) M.view (Rect.unit (s := S1x2048x512) ![0, 0, 0] ![1, 2048, 512] h).toLoadRect (hM.unread x) = x := (View.readAt_full _ _ h).trans (hM.read_unread x)
theorem l_b (M : Memref sig .tc .vmem S1x512 .f32) (hM : M.IsWhole) (x : Vec F S1x512 .f32) (h) :
    View.readAt (Elt F) M.view (Rect.unit (s := S1x512) ![0, 0] ![1, 512] h).toLoadRect (hM.unread x) = x := (View.readAt_full _ _ h).trans (hM.read_unread x)
theorem l_c (v : View sig .tc .vmem S1024x2048 .bf16) (x : Vec F S1024x2048 .bf16) (h) (h') :
    v.readCov [⟨Rect.unit (s := S1024x2048) ![0, 0] ![1024, 2048] h, x⟩] (Rect.unit (s := S1024x2048) ![0, 0] ![1024, 2048] h').toLoadRect = x := View.readCov_full v _ _ _ _

variable (c : Dev nD) (i : grid0.Coords) (arg2 : Memref sig .tc .vmem S1024x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x2048 .bf16) (harg10 : arg10.IsWhole)
    (x0 : Vec F S1024x2048 .f32) (x1 : Vec F S1x1x1x2048 .f32) (x2 : Vec F S1x1x1x2048 .f32) (x3 : Vec F S1x2048x512 .bf16) (x4 : Vec F S1x512 .f32) (x5 : Vec F S1x512 .f32) (x6 : Vec F S1x512 .f32) (xs0 : Vec F S1024x2048 .bf16)

theorem outA (hc0 : cond0_0 i) (hc1 : cond0_1 i) (hc2 : ¬cond0_2 i) (hc3 : ¬cond0_3 i) (hc4 : ¬cond0_4 i) (hc5 : ¬cond0_5 i) :
    out0_A_7 c i arg2 harg2 arg3 harg3 arg4 harg4 arg5 harg5 arg6 harg6 arg7 harg7 arg8 harg8 arg9 harg9 arg10 harg10 hc0 hc1 hc2 hc3 hc4 hc5 x0 x1 x2 x3 x4 x5 x6 = k0_pay4 (k0_pay2 x0 x1 x2) x3 x4 := by
  unfold out0_A_7 kernelRun0_A
  dsimp only
  refine (View.read_writes_full _ _ _ _ _).trans ?_
  simp only [kernelRun0_A.sl.v3, kernelRun0_A.sl.HS0_1, l_h, l_x, l_m, l_w, l_b, l_c]

theorem scrA (hc0 : cond0_0 i) (hc1 : cond0_1 i) (hc2 : ¬cond0_2 i) (hc3 : ¬cond0_3 i) (hc4 : ¬cond0_4 i) (hc5 : ¬cond0_5 i) :
    sout0_A_0 c i arg2 harg2 arg3 harg3 arg4 harg4 arg5 harg5 arg6 harg6 arg7 harg7 arg8 harg8 arg9 harg9 arg10 harg10 hc0 hc1 hc2 hc3 hc4 hc5 x0 x1 x2 x3 x4 x5 x6 = k0_pay2 x0 x1 x2 := by
  unfold sout0_A_0 kernelRun0_A
  dsimp only
  refine (View.read_writes_full _ _ _ _ _).trans ?_
  simp only [l_h, l_x, l_m, l_w, l_b, l_c]

theorem outB (hc0 : ¬cond0_0 i) (hc1 : cond0_1 i) (hc2 : ¬cond0_2 i) (hc3 : ¬cond0_3 i) (hc4 : ¬cond0_4 i) (hc5 : ¬cond0_5 i) :
    out0_B_7 c i arg2 harg2 arg3 harg3 arg4 harg4 arg5 harg5 arg6 harg6 arg7 harg7 arg8 harg8 arg9 harg9 arg10 harg10 hc0 hc1 hc2 hc3 hc4 hc5 x0 x1 x2 x3 x4 x5 x6 xs0 = k0_pay4 xs0 x3 x4 := by
  unfold out0_B_7 kernelRun0_B
  dsimp only
  refine (View.read_writes_full _ _ _ _ _).trans ?_
  simp only [l_h, l_x, l_m, l_w, l_b, l_c]

theorem outC (hc0 : ¬cond0_0 i) (hc1 : ¬cond0_1 i) (hc2 : cond0_2 i) (hc3 : ¬cond0_3 i) (hc4 : ¬cond0_4 i) (hc5 : ¬cond0_5 i) :
    out0_C_7 c i arg2 harg2 arg3 harg3 arg4 harg4 arg5 harg5 arg6 harg6 arg7 harg7 arg8 harg8 arg9 harg9 arg10 harg10 hc0 hc1 hc2 hc3 hc4 hc5 x0 x1 x2 x3 x4 x5 x6 xs0 = k0_pay5 xs0 x3 x4 := by
  unfold out0_C_7 kernelRun0_C
  dsimp only
  refine (View.read_writes_full _ _ _ _ _).trans ?_
  simp only [l_h, l_x, l_m, l_w, l_b, l_c]

theorem outD (hc0 : ¬cond0_0 i) (hc1 : ¬cond0_1 i) (hc2 : ¬cond0_2 i) (hc3 : cond0_3 i) (hc4 : ¬cond0_4 i) (hc5 : ¬cond0_5 i) :
    out0_D_7 c i arg2 harg2 arg3 harg3 arg4 harg4 arg5 harg5 arg6 harg6 arg7 harg7 arg8 harg8 arg9 harg9 arg10 harg10 hc0 hc1 hc2 hc3 hc4 hc5 x0 x1 x2 x3 x4 x5 x6 xs0 = k0_pay6 xs0 x3 x4 := by
  unfold out0_D_7 kernelRun0_D
  dsimp only
  refine (View.read_writes_full _ _ _ _ _).trans ?_
  simp only [l_h, l_x, l_m, l_w, l_b, l_c]

theorem outE (hc0 : ¬cond0_0 i) (hc1 : ¬cond0_1 i) (hc2 : ¬cond0_2 i) (hc3 : ¬cond0_3 i) (hc4 : cond0_4 i) (hc5 : ¬cond0_5 i) :
    out0_E_7 c i arg2 harg2 arg3 harg3 arg4 harg4 arg5 harg5 arg6 harg6 arg7 harg7 arg8 harg8 arg9 harg9 arg10 harg10 hc0 hc1 hc2 hc3 hc4 hc5 x0 x1 x2 x3 x4 x5 x6 xs0 = k0_pay7 xs0 x3 x4 x5 := by
  unfold out0_E_7 kernelRun0_E
  dsimp only
  refine (View.read_writes_full _ _ _ _ _).trans ?_
  simp only [l_h, l_x, l_m, l_w, l_b, l_c]

theorem outF (hc0 : ¬cond0_0 i) (hc1 : ¬cond0_1 i) (hc2 : ¬cond0_2 i) (hc3 : ¬cond0_3 i) (hc4 : ¬cond0_4 i) (hc5 : cond0_5 i) :
    out0_F_7 c i arg2 harg2 arg3 harg3 arg4 harg4 arg5 harg5 arg6 harg6 arg7 harg7 arg8 harg8 arg9 harg9 arg10 harg10 hc0 hc1 hc2 hc3 hc4 hc5 x0 x1 x2 x3 x4 x5 x6 xs0 = k0_pay1 (k0_pay3 xs0 x3 x4) x6 := by
  unfold out0_F_7 kernelRun0_F
  dsimp only
  refine (View.read_writes_full _ _ _ _ _).trans ?_
  simp only [kernelRun0_F.sl.r, l_h, l_x, l_m, l_w, l_b, l_c]

end Cert.Kernel2Ideal.Hand

end
-- ==== Proof.InInv.lean ====
/- The projection's returned array, from the arguments: the kept modulated rows by induction over the points, then each point's block. -/
module

public import proofs.«01_k».proof.Proof.InBlk
public import proofs.«01_k».proof.Proof.InPay
public import proofs.«01_k».proof.Proof.InBody

@[expose] public section

set_option maxRecDepth 16384

noncomputable section

namespace Cert.Kernel2Ideal.Hand

open Cert.Kernel2Ideal Cert.Kernel2Ideal.Gen Cert.InMath
open Idealize.ShloMosaic
open Idealize.ShloMosaic.TcCoe Idealize.ShloMosaic.Tactic
open Idealize.SL.Sem

variable (m : (ℓ : Loc nD τ sig) → Buf (Elt Ideal) ℓ) (c : Dev nD)

/-- A point past the first of its row block keeps the rows. -/
theorem scr_prev (t : Fin cfg0.N) (h0 : ¬t.val % 17 = 0) :
    (outsAt0 m c t.val t.isLt).2 = (outsAt0 m c (t.val - 1) (Nat.lt_of_le_of_lt (Nat.sub_le _ _) t.isLt)).2 := by
  by_cases h1 : t.val % 17 ≤ 7
  · rw [outsAt0_B m c t h0 h1 (by omega) (by omega) (by omega) (by omega)]
    rfl
  by_cases h2 : 8 ≤ t.val % 17 ∧ t.val % 17 ≤ 9
  · rw [outsAt0_C m c t h0 h1 h2 (by omega) (by omega) (by omega)]
    rfl
  by_cases h3 : t.val % 17 = 10 ∨ t.val % 17 = 11 ∨ t.val % 17 = 12 ∨ t.val % 17 = 13 ∨ t.val % 17 = 16
  · rw [outsAt0_D m c t h0 h1 h2 h3 (by omega) (by omega)]
    rfl
  by_cases h4 : t.val % 17 = 14
  · rw [outsAt0_E m c t h0 h1 h2 h3 h4 (by omega)]
    rfl
  · rw [outsAt0_F m c t h0 h1 h2 h3 h4 (by omega)]
    rfl

/-- The first point of a row block computes them. -/
theorem scr_first (t : Fin cfg0.N) (h0 : t.val % 17 = 0) :
    (outsAt0 m c t.val t.isLt).2 = k0_pay2 (iblk m c 0 t) (iblk m c 1 t) (iblk m c 2 t) := by
  rw [outsAt0_A m c t h0 (by omega) (by omega) (by omega) (by omega) (by omega)]
  dsimp only
  exact scrA (F := Ideal) _ _ _ _ _ _ _ _ _ _ _ _ _ _ _ _ _ _ _ _ _ _ _ _ _ _ _ _ _ _ _ _ _

/-- The kept rows are the modulated input's. -/
theorem scr_at : ∀ (n : ℕ) (hn : n < cfg0.N) (r : Fin 1024) (k : Fin 2048),
    (outsAt0 m c n hn).2 (ix2 r k) = hin (X0 m c) (X1 m c) (n / 68) (n / 17 % 4 * 1024 + r.val) k.val := by
  intro n
  induction n with
  | zero =>
    intro hn r k
    have e := congrFun (scr_first m c ⟨0, hn⟩ rfl) (ix2 r k)
    exact e.trans (h_blk m c ⟨0, hn⟩ r k)
  | succ n ih =>
    intro hn r k
    by_cases h0 : (n + 1) % 17 = 0
    · have e := congrFun (scr_first m c ⟨n + 1, hn⟩ h0) (ix2 r k)
      exact e.trans (h_blk m c ⟨n + 1, hn⟩ r k)
    · have e := congrFun (scr_prev m c ⟨n + 1, hn⟩ h0) (ix2 r k)
      refine e.trans ((ih (by omega) r k).trans ?_)
      rw [show (n + 1) / 68 = n / 68 by omega, show (n + 1) / 17 = n / 17 by omega]

/-- The point's product: its rows and columns of the projection. -/
def acc (t : Fin cfg0.N) : FVec Ideal S1024x512 .f32 := k0_pay3 (F := Ideal) (outsAt0 m c t.val t.isLt).2 (iblk m c 3 t) (iblk m c 4 t)

theorem acc_at (t : Fin cfg0.N) (r : Fin 1024) (d : Fin 512) :
    acc m c t (ix2 r d) = zin (X0 m c) (X1 m c) (X2 m c) (X3 m c) (t.val / 68) (t.val / 17 % 4 * 1024 + r.val) (src (t.val % 17 * 512 + d.val)) := by
  unfold acc
  rw [pay3_at, b_blk]
  unfold zin
  refine congrArg (· + _) (Finset.sum_congr rfl fun k _ => ?_)
  rw [scr_at, w_blk]

/-- The block a point writes. -/
theorem out_at (t : Fin cfg0.N) (r : Fin 1024) (d : Fin 512) :
    (outsAt0 m c t.val t.isLt).1 (ix2 r d)
      = gin (X0 m c) (X1 m c) (X2 m c) (X3 m c) (X4 m c) (X5 m c) (t.val / 68) (t.val / 17 % 4 * 1024 + r.val) (t.val % 17 * 512 + d.val) := by
  have hd := d.isLt
  have ha := acc_at m c t r d
  by_cases h0 : t.val % 17 = 0
  · have e : (outsAt0 m c t.val t.isLt).1 = k0_pay4 (F := Ideal) (outsAt0 m c t.val t.isLt).2 (iblk m c 3 t) (iblk m c 4 t) := by
      rw [scr_first m c t h0]
      rw [outsAt0_A m c t h0 (by omega) (by omega) (by omega) (by omega) (by omega)]
      dsimp only
      exact outA (F := Ideal) _ _ _ _ _ _ _ _ _ _ _ _ _ _ _ _ _ _ _ _ _ _ _ _ _ _ _ _ _ _ _ _ _
    rw [e, pay4_at, gin, if_pos (by omega)]
    exact congrArg Ideal.logistic ha
  have es := scr_prev m c t h0
  by_cases h1 : t.val % 17 ≤ 7
  · have e : (outsAt0 m c t.val t.isLt).1 = k0_pay4 (F := Ideal) (outsAt0 m c t.val t.isLt).2 (iblk m c 3 t) (iblk m c 4 t) := by
      rw [es]
      rw [outsAt0_B m c t h0 h1 (by omega) (by omega) (by omega) (by omega)]
      dsimp only
      exact outB (F := Ideal) _ _ _ _ _ _ _ _ _ _ _ _ _ _ _ _ _ _ _ _ _ _ _ _ _ _ _ _ _ _ _ _ _ _
    rw [e, pay4_at, gin, if_pos (by omega)]
    exact congrArg Ideal.logistic ha
  by_cases h2 : 8 ≤ t.val % 17 ∧ t.val % 17 ≤ 9
  · have e : (outsAt0 m c t.val t.isLt).1 = k0_pay5 (F := Ideal) (outsAt0 m c t.val t.isLt).2 (iblk m c 3 t) (iblk m c 4 t) := by
      rw [es]
      rw [outsAt0_C m c t h0 h1 h2 (by omega) (by omega) (by omega)]
      dsimp only
      exact outC (F := Ideal) _ _ _ _ _ _ _ _ _ _ _ _ _ _ _ _ _ _ _ _ _ _ _ _ _ _ _ _ _ _ _ _ _ _
    rw [e, pay5_at, gin, if_neg (by omega), if_pos (by omega)]
    exact congrArg (fun z => Ideal.div z qdiv) ha
  by_cases h3 : t.val % 17 = 10 ∨ t.val % 17 = 11 ∨ t.val % 17 = 12 ∨ t.val % 17 = 13 ∨ t.val % 17 = 16
  · have e : (outsAt0 m c t.val t.isLt).1 = k0_pay6 (F := Ideal) (outsAt0 m c t.val t.isLt).2 (iblk m c 3 t) (iblk m c 4 t) := by
      rw [es]
      rw [outsAt0_D m c t h0 h1 h2 h3 (by omega) (by omega)]
      dsimp only
      exact outD (F := Ideal) _ _ _ _ _ _ _ _ _ _ _ _ _ _ _ _ _ _ _ _ _ _ _ _ _ _ _ _ _ _ _ _ _ _
    rw [e, pay6_at]
    refine Eq.trans ha ?_
    by_cases h5 : t.val % 17 = 16
    · rw [gin, if_neg (by omega), if_neg (by omega), if_neg (by omega), if_neg (by omega), if_neg (by omega)]
    · rw [gin, if_neg (by omega), if_neg (by omega), if_pos (by omega)]
  by_cases h4 : t.val % 17 = 14
  · have e : (outsAt0 m c t.val t.isLt).1 = k0_pay1 (F := Ideal) (acc m c t) (iblk m c 5 t) := by
      unfold acc
      rw [es, ← pay7_eq]
      rw [outsAt0_E m c t h0 h1 h2 h3 h4 (by omega)]
      dsimp only
      exact outE (F := Ideal) _ _ _ _ _ _ _ _ _ _ _ _ _ _ _ _ _ _ _ _ _ _ _ _ _ _ _ _ _ _ _ _ _ _
    rw [e, pay1_at _ _ _ _ (fun k => zin (X0 m c) (X1 m c) (X2 m c) (X3 m c) (t.val / 68) (t.val / 17 % 4 * 1024 + r.val) (src (7168 + k)))
      (fun k => by rw [acc_at, h4]), ha, q_blk, gin, if_neg (by omega), if_neg (by omega), if_neg (by omega), if_pos (by omega), h4, show 14 * 512 + d.val - 7168 = d.val by omega]
  · have h5 : t.val % 17 = 15 := by omega
    have e : (outsAt0 m c t.val t.isLt).1 = k0_pay1 (F := Ideal) (acc m c t) (iblk m c 6 t) := by
      unfold acc
      rw [es]
      rw [outsAt0_F m c t h0 h1 h2 h3 h4 h5]
      dsimp only
      exact outF (F := Ideal) _ _ _ _ _ _ _ _ _ _ _ _ _ _ _ _ _ _ _ _ _ _ _ _ _ _ _ _ _ _ _ _ _ _
    rw [e, pay1_at _ _ _ _ (fun k => zin (X0 m c) (X1 m c) (X2 m c) (X3 m c) (t.val / 68) (t.val / 17 % 4 * 1024 + r.val) (src (7680 + k)))
      (fun k => by rw [acc_at, h5]), ha, kv_blk, gin, if_neg (by omega), if_neg (by omega), if_neg (by omega), if_neg (by omega), if_pos (by omega), h5, show 15 * 512 + d.val - 7680 = d.val by omega]

/-- The returned array, everywhere. -/
theorem final7' : (dats m 0 c).arrAt 7 cfg0.N = fun y : S32768x8704.Idx => gin (X0 m c) (X1 m c) (X2 m c) (X3 m c) (X4 m c) (X5 m c) ((y 0).val / 4096) ((y 0).val % 4096) (y 1).val := by
  refine (dats m 0 c).arrAt_eq_of_covers 7 _ covers7 (fun t hflush y => ?_)
  blk_simp
  have key := out_at m c t (y 0) (y 1)
  have ey : (y : S1024x512.Idx) = ix2 (y 0) (y 1) := funext fun a => by match a with | ⟨0, _⟩ => rfl | ⟨1, _⟩ => rfl
  have e0 : (cfg0.win 7).index t 0 = t.val / 17 := by rw [(win_idx t).2.2.2.2.2.2.2]; rfl
  have e1 : (cfg0.win 7).index t 1 = t.val % 17 := by rw [(win_idx t).2.2.2.2.2.2.2]; rfl
  have hy : (y 0).val < 1024 := (y 0).isLt
  rw [after0_7]
  rw [e0, e1, show (t.val / 17 * 1024 + (y 0).val) / 4096 = t.val / 68 by omega, show (t.val / 17 * 1024 + (y 0).val) % 4096 = t.val / 17 % 4 * 1024 + (y 0).val by omega]
  exact (congrArg (outsAt0 m c t.val t.isLt).1 ey).trans key

end Cert.Kernel2Ideal.Hand

end
-- ==== Proof.InRef.lean ====
/- The reference's projection, read element by element. -/
module

public import proofs.«01_k».proof.Proof.InMath
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Cert.InMath
open Idealize.ShloMosaic Idealize.ShloMosaic.TcCoe Idealize.ShloMosaic.Tactic

variable (x0 : S8x4096x2048.Idx → EReal) (x1 : S8x12288.Idx → EReal) (x2 : S2048x8256.Idx → EReal) (x3 : S8256.Idx → EReal) (x4 x5 : S512.Idx → EReal)

theorem sc_at (i : S8x1x2048.Idx) : val_main_v6 (F := Ideal) x1 i = at2 x1 (i 0).val (2048 + (i 2).val) := by
  rw [val_main_v6_apply, val_main_v5_apply, val_main_v4_apply, val_main_v0_apply]
  have h0 : (i 0).val < 8 := (i 0).isLt
  have h1 : (i 1).val < 1 := (i 1).isLt
  have h2 : (i 2).val < 2048 := (i 2).isLt
  refine at2_of x1 _ _ _ ?_ ?_
  · simp only [idx_main_v0, idx_main_v4, idx_main_v5, idx_main_v6]; omega
  · simp only [idx_main_v0, idx_main_v4, idx_main_v5, idx_main_v6]; omega

theorem sh_at (i : S8x1x2048.Idx) : val_main_v3 (F := Ideal) x1 i = at2 x1 (i 0).val (i 2).val := by
  rw [val_main_v3_apply, val_main_v2_apply, val_main_v1_apply, val_main_v0_apply]
  have h0 : (i 0).val < 8 := (i 0).isLt
  have h1 : (i 1).val < 1 := (i 1).isLt
  have h2 : (i 2).val < 2048 := (i 2).isLt
  refine at2_of x1 _ _ _ ?_ ?_
  · simp only [idx_main_v0, idx_main_v1, idx_main_v2, idx_main_v3]; omega
  · simp only [idx_main_v0, idx_main_v1, idx_main_v2, idx_main_v3]; omega

theorem h_at (i : S8x4096x2048.Idx) : val_main_v12 (F := Ideal) x0 x1 i = hin x0 x1 (i 0).val (i 1).val (i 2).val := by
  rw [val_main_v12_apply, val_main_v10_apply, val_main_v9_apply, val_main_v8_apply, val_main_v7_apply, val_main_cst_apply, val_main_v11_apply, sc_at, sh_at]
  show x0 i * (Ideal.ofBits FTy.f32 0x3F800000#32 + at2 x1 (i 0).val (2048 + (i 2).val)) + at2 x1 (i 0).val (i 2).val = _
  rw [one_bits, at3_of x0 i _ _ _ rfl rfl rfl]; rfl

theorem z_at (i : S8x4096x8256.Idx) : val_main_v16 (F := Ideal) x0 x1 x2 x3 i = zin x0 x1 x2 x3 (i 0).val (i 1).val (i 2).val := by
  rw [val_main_v16_apply, val_main_v13_apply, val_main_v15_apply, val_main_v14_apply]
  show (∑ k : Fin 2048, val_main_v12 (F := Ideal) x0 x1 (lidx_main_v13 i k) * x2 (ridx_main_v13 i k)) + x3 (idx_main_v14 (idx_main_v15 i)) = _
  unfold zin
  rw [at1_of x3 (idx_main_v14 (idx_main_v15 i)) (i 2).val rfl]
  refine congrArg (· + _) (Finset.sum_congr rfl fun k _ => ?_)
  rw [h_at, at2_of x2 (ridx_main_v13 i k) k.val (i 2).val rfl rfl]

theorem sgA_at (i : S8x4096x2048.Idx) : val_main_v38 (F := Ideal) x0 x1 x2 x3 i = Ideal.logistic (zin x0 x1 x2 x3 (i 0).val (i 1).val (4160 + (i 2).val)) := by
  rw [val_main_v38_apply, val_main_v37_apply, val_main_v36_apply, val_main_v35_apply, val_main_v34_apply, val_main_v33_apply, val_main_v23_apply, val_main_cst_2_apply, val_main_cst_3_apply, z_at]
  show Ideal.div (Ideal.ofBits FTy.f32 0x3F800000#32) (Ideal.ofBits FTy.f32 0x3F800000#32 + Ideal.exp (-(zin x0 x1 x2 x3 (i 0).val (i 1).val (4160 + (i 2).val)))) = _
  rw [one_bits]; rfl

theorem sgB_at (i : S8x4096x2048.Idx) : val_main_v44 (F := Ideal) x0 x1 x2 x3 i = Ideal.logistic (zin x0 x1 x2 x3 (i 0).val (i 1).val (6208 + (i 2).val)) := by
  rw [val_main_v44_apply, val_main_v43_apply, val_main_v42_apply, val_main_v41_apply, val_main_v40_apply, val_main_v39_apply, val_main_v24_apply, val_main_cst_4_apply, val_main_cst_5_apply, z_at]
  show Ideal.div (Ideal.ofBits FTy.f32 0x3F800000#32) (Ideal.ofBits FTy.f32 0x3F800000#32 + Ideal.exp (-(zin x0 x1 x2 x3 (i 0).val (i 1).val (6208 + (i 2).val)))) = _
  rw [one_bits]; rfl

theorem qa_at (i : S8x4096x1024.Idx) : val_main_v29 (F := Ideal) x0 x1 x2 x3 i = Ideal.div (zin x0 x1 x2 x3 (i 0).val (i 1).val (i 2).val) qdiv := by
  rw [val_main_v29_apply, val_main_v28_apply, val_main_v27_apply, val_main_v25_apply, val_main_v26_apply, val_main_cst_0_apply, val_main_cst_1_apply, val_main_v17_apply, z_at]
  rfl

theorem ka_at (i : S8x4096x1024.Idx) : val_main_v18 (F := Ideal) x0 x1 x2 x3 i = zin x0 x1 x2 x3 (i 0).val (i 1).val (1024 + (i 2).val) := by
  rw [val_main_v18_apply, z_at]
theorem va_at (i : S8x4096x1024.Idx) : val_main_v19 (F := Ideal) x0 x1 x2 x3 i = zin x0 x1 x2 x3 (i 0).val (i 1).val (2048 + (i 2).val) := by
  rw [val_main_v19_apply, z_at]
theorem cq_at (i : S8x4096x512.Idx) : val_main_v20 (F := Ideal) x0 x1 x2 x3 i = zin x0 x1 x2 x3 (i 0).val (i 1).val (3072 + (i 2).val) := by
  rw [val_main_v20_apply, z_at]
theorem ckv_at (i : S8x4096x512.Idx) : val_main_v21 (F := Ideal) x0 x1 x2 x3 i = zin x0 x1 x2 x3 (i 0).val (i 1).val (3584 + (i 2).val) := by
  rw [val_main_v21_apply, z_at]
theorem kr_at (i : S8x4096x64.Idx) : val_main_v22 (F := Ideal) x0 x1 x2 x3 i = zin x0 x1 x2 x3 (i 0).val (i 1).val (4096 + (i 2).val) := by
  rw [val_main_v22_apply, z_at]

theorem swap_at (i : S8x4096x64.Idx) : val_main_v32 (F := Ideal) x0 x1 x2 x3 i = zin x0 x1 x2 x3 (i 0).val (i 1).val (4096 + ((i 2).val + 32) % 64) := by
  have h2 : (i 2).val < 64 := (i 2).isLt
  unfold val_main_v32
  pointwise
  by_cases h : (i 2).val < 32
  · rw [dif_pos h, val_main_v30_apply, kr_at]
    have e : 4096 + (32 + (i 2).val) = 4096 + ((i 2).val + 32) % 64 := by omega
    exact congrArg (zin x0 x1 x2 x3 (i 0).val (i 1).val) e
  · rw [dif_neg h, val_main_v31_apply, kr_at]
    have e : 4096 + ((i 2).val - 32) = 4096 + ((i 2).val + 32) % 64 := by omega
    exact congrArg (zin x0 x1 x2 x3 (i 0).val (i 1).val) e

theorem rq_at (i : S8x4096x512.Idx) : val_main_v57 (F := Ideal) x0 x1 x2 x3 x4 i
    = zin x0 x1 x2 x3 (i 0).val (i 1).val (3072 + (i 2).val) * rms (fun k => zin x0 x1 x2 x3 (i 0).val (i 1).val (3072 + k)) * at1 x4 (i 2).val := by
  rw [val_main_v57_apply, val_main_v54_apply, val_main_v53_apply, val_main_v52_apply, val_main_v51_apply, val_main_v50_apply, val_main_v49_apply, val_main_v48_apply, val_main_v47_apply,
    val_main_v46_apply, val_main_v56_apply, val_main_v55_apply, val_main_cst_6_apply, val_main_cst_7_apply, val_main_cst_8_apply, cq_at, at1_of x4 (idx_main_v55 (idx_main_v56 i)) (i 2).val rfl]
  show _ * Ideal.rsqrt (Ideal.div (Ideal.ofBits FTy.f32 0x00000000#32 + ∑ k : Fin 512, val_main_v45 (F := Ideal) x0 x1 x2 x3 (idx_main_v46 (idx_main_v47 (idx_main_v53 i)) k)) (Ideal.ofBits FTy.f32 0x44000000#32) + Ideal.ofBits FTy.f32 0x358637BD#32) * _ = _
  rw [zero_bits, zero_add]
  unfold rms
  refine congrArg (fun s => zin x0 x1 x2 x3 (i 0).val (i 1).val (3072 + (i 2).val) * Ideal.rsqrt (Ideal.div s _ + _) * at1 x4 (i 2).val) (Finset.sum_congr rfl fun k _ => ?_)
  rw [val_main_v45_apply, cq_at]; rfl

theorem rkv_at (i : S8x4096x512.Idx) : val_main_v70 (F := Ideal) x0 x1 x2 x3 x5 i
    = zin x0 x1 x2 x3 (i 0).val (i 1).val (3584 + (i 2).val) * rms (fun k => zin x0 x1 x2 x3 (i 0).val (i 1).val (3584 + k)) * at1 x5 (i 2).val := by
  rw [val_main_v70_apply, val_main_v67_apply, val_main_v66_apply, val_main_v65_apply, val_main_v64_apply, val_main_v63_apply, val_main_v62_apply, val_main_v61_apply, val_main_v60_apply,
    val_main_v59_apply, val_main_v69_apply, val_main_v68_apply, val_main_cst_9_apply, val_main_cst_10_apply, val_main_cst_11_apply, ckv_at, at1_of x5 (idx_main_v68 (idx_main_v69 i)) (i 2).val rfl]
  show _ * Ideal.rsqrt (Ideal.div (Ideal.ofBits FTy.f32 0x00000000#32 + ∑ k : Fin 512, val_main_v58 (F := Ideal) x0 x1 x2 x3 (idx_main_v59 (idx_main_v60 (idx_main_v66 i)) k)) (Ideal.ofBits FTy.f32 0x44000000#32) + Ideal.ofBits FTy.f32 0x358637BD#32) * _ = _
  rw [zero_bits, zero_add]
  unfold rms
  refine congrArg (fun s => zin x0 x1 x2 x3 (i 0).val (i 1).val (3584 + (i 2).val) * Ideal.rsqrt (Ideal.div s _ + _) * at1 x5 (i 2).val) (Finset.sum_congr rfl fun k _ => ?_)
  rw [val_main_v58_apply, ckv_at]; rfl

theorem z64_at (i : S8x4096x64.Idx) : val_main_v71 (F := Ideal) i = (0 : EReal) := by
  rw [val_main_v71_apply, val_main_cst_12_apply]; exact zero_bits
theorem z64'_at (i : S8x4096x64.Idx) : val_main_v72 (F := Ideal) i = (0 : EReal) := by
  rw [val_main_v72_apply, val_main_cst_13_apply]; exact zero_bits
theorem z256_at (i : S8x4096x256.Idx) : val_main_v73 (F := Ideal) i = (0 : EReal) := by
  rw [val_main_v73_apply, val_main_cst_14_apply]; exact zero_bits

/-- The parts side by side. -/
theorem cat_at (i : S8x4096x8704.Idx) : val_main_v74 (F := Ideal) x0 x1 x2 x3 x4 x5 i = gin x0 x1 x2 x3 x4 x5 (i 0).val (i 1).val (i 2).val := by
  have h2 : (i 2).val < 8704 := (i 2).isLt
  unfold val_main_v74
  pointwise
  by_cases c0 : (i 2).val < 2048
  · refine Eq.trans ?_ (gin_p0 x0 x1 x2 x3 x4 x5 (i 0).val (i 1).val (i 2).val (by omega)).symm
    rw [dif_pos (by omega), sgA_at]
    rfl
  by_cases c1 : (i 2).val < 4096
  · refine Eq.trans ?_ (gin_p1 x0 x1 x2 x3 x4 x5 (i 0).val (i 1).val (i 2).val (by omega) (by omega)).symm
    rw [dif_neg (by omega), dif_pos (by omega), sgB_at]
    simp only [Nat.sub_sub, Nat.reduceAdd]
    rfl
  by_cases c2 : (i 2).val < 5120
  · refine Eq.trans ?_ (gin_p2 x0 x1 x2 x3 x4 x5 (i 0).val (i 1).val (i 2).val (by omega) (by omega)).symm
    rw [dif_neg (by omega), dif_neg (by omega), dif_pos (by omega), qa_at]
    simp only [Nat.sub_sub, Nat.reduceAdd]
    rfl
  by_cases c3 : (i 2).val < 6144
  · refine Eq.trans ?_ (gin_p3 x0 x1 x2 x3 x4 x5 (i 0).val (i 1).val (i 2).val (by omega) (by omega)).symm
    rw [dif_neg (by omega), dif_neg (by omega), dif_neg (by omega), dif_pos (by omega), ka_at]
    simp only [Nat.sub_sub, Nat.reduceAdd]
    rfl
  by_cases c4 : (i 2).val < 7168
  · refine Eq.trans ?_ (gin_p4 x0 x1 x2 x3 x4 x5 (i 0).val (i 1).val (i 2).val (by omega) (by omega)).symm
    rw [dif_neg (by omega), dif_neg (by omega), dif_neg (by omega), dif_neg (by omega), dif_pos (by omega), va_at]
    simp only [Nat.sub_sub, Nat.reduceAdd]
    rfl
  by_cases c5 : (i 2).val < 7680
  · refine Eq.trans ?_ (gin_p5 x0 x1 x2 x3 x4 x5 (i 0).val (i 1).val (i 2).val (by omega) (by omega)).symm
    rw [dif_neg (by omega), dif_neg (by omega), dif_neg (by omega), dif_neg (by omega), dif_neg (by omega), dif_pos (by omega), rq_at]
    simp only [Nat.sub_sub, Nat.reduceAdd]
    rfl
  by_cases c6 : (i 2).val < 8192
  · refine Eq.trans ?_ (gin_p6 x0 x1 x2 x3 x4 x5 (i 0).val (i 1).val (i 2).val (by omega) (by omega)).symm
    rw [dif_neg (by omega), dif_neg (by omega), dif_neg (by omega), dif_neg (by omega), dif_neg (by omega), dif_neg (by omega), dif_pos (by omega), rkv_at]
    simp only [Nat.sub_sub, Nat.reduceAdd]
    rfl
  by_cases c7 : (i 2).val < 8256
  · refine Eq.trans ?_ (gin_p7 x0 x1 x2 x3 x4 x5 (i 0).val (i 1).val (i 2).val (by omega) (by omega)).symm
    rw [dif_neg (by omega), dif_neg (by omega), dif_neg (by omega), dif_neg (by omega), dif_neg (by omega), dif_neg (by omega), dif_neg (by omega), dif_pos (by omega), kr_at]
    simp only [Nat.sub_sub, Nat.reduceAdd]
    rfl
  by_cases c8 : (i 2).val < 8320
  · refine Eq.trans ?_ (gin_p8 x0 x1 x2 x3 x4 x5 (i 0).val (i 1).val (i 2).val (by omega) (by omega)).symm
    rw [dif_neg (by omega), dif_neg (by omega), dif_neg (by omega), dif_neg (by omega), dif_neg (by omega), dif_neg (by omega), dif_neg (by omega), dif_neg (by omega), dif_pos (by omega), z64_at]
  by_cases c9 : (i 2).val < 8384
  · refine Eq.trans ?_ (gin_p9 x0 x1 x2 x3 x4 x5 (i 0).val (i 1).val (i 2).val (by omega) (by omega)).symm
    rw [dif_neg (by omega), dif_neg (by omega), dif_neg (by omega), dif_neg (by omega), dif_neg (by omega), dif_neg (by omega), dif_neg (by omega), dif_neg (by omega), dif_neg (by omega), dif_pos (by omega), swap_at]
    simp only [Nat.sub_sub, Nat.reduceAdd]
    rfl
  by_cases c10 : (i 2).val < 8448
  · refine Eq.trans ?_ (gin_p10 x0 x1 x2 x3 x4 x5 (i 0).val (i 1).val (i 2).val (by omega) (by omega)).symm
    rw [dif_neg (by omega), dif_neg (by omega), dif_neg (by omega), dif_neg (by omega), dif_neg (by omega), dif_neg (by omega), dif_neg (by omega), dif_neg (by omega), dif_neg (by omega), dif_neg (by omega), dif_pos (by omega), z64'_at]
  refine Eq.trans ?_ (gin_p11 x0 x1 x2 x3 x4 x5 (i 0).val (i 1).val (i 2).val (by omega)).symm
  rw [dif_neg (by omega), dif_neg (by omega), dif_neg (by omega), dif_neg (by omega), dif_neg (by omega), dif_neg (by omega), dif_neg (by omega), dif_neg (by omega), dif_neg (by omega), dif_neg (by omega), dif_neg (by omega), z256_at]

/-- The returned array, at a row and a column. -/
theorem res_at (r : Fin 32768) (n : Fin 8704) : val_main_v76 (F := Ideal) x0 x1 x2 x3 x4 x5 (ix2 r n) = gin x0 x1 x2 x3 x4 x5 (r.val / 4096) (r.val % 4096) n.val := by
  rw [val_main_v76_apply, val_main_v75_apply]
  refine (cat_at x0 x1 x2 x3 x4 x5 (idx_main_v75 (ix2 r n))).trans ?_
  have hr := r.isLt
  have hn := n.isLt
  have e0 : (idx_main_v75 (ix2 r n) 0).val = r.val / 4096 := by
    show (r.val * 8704 + n.val) / 35651584 = _
    omega
  have e1 : (idx_main_v75 (ix2 r n) 1).val = r.val % 4096 := by
    show (r.val * 8704 + n.val) / 8704 % 4096 = _
    omega
  have e2 : (idx_main_v75 (ix2 r n) 2).val = n.val := by
    show (r.val * 8704 + n.val) % 8704 = _
    omega
  rw [e0, e1, e2]

end Cert.Reference2Ideal.Hand

end
-- ==== Proof.OutMath.lean ====
/- The output projection's entries as functions of its arguments at number coordinates. -/
module

public import proofs.«01_k».proof.Proof.InMath

@[expose] public section

noncomputable section

namespace Cert.OutMath

open Idealize.ShloMosaic Cert.InMath

/-- The mean of 2048 numbers. -/
def mean (z : ℕ → EReal) : EReal := Ideal.div (∑ k : Fin 2048, z k.val) (Ideal.ofBits FTy.f32 0x45000000#32)

theorem mean_congr (z z' : ℕ → EReal) (h : ∀ k < 2048, z k = z' k) : mean z = mean z' := by
  unfold mean
  refine congrArg (fun s => Ideal.div s _) (Finset.sum_congr rfl fun k _ => ?_)
  rw [h k.val k.isLt]

/-- A row less its mean, over the root of its variance. -/
def nrm (z : ℕ → EReal) (n : ℕ) : EReal :=
  (z n - mean z) * Ideal.rsqrt (mean (fun k => (z k - mean z) * (z k - mean z)) + Ideal.ofBits FTy.f32 0x3727C5AC#32)

section
variable (x0 x1 : (⟨2, ![32768, 1024]⟩ : Shape).Idx → EReal) (x2 : (⟨2, ![32768, 8704]⟩ : Shape).Idx → EReal) (x3 : (⟨3, ![8, 4096, 2048]⟩ : Shape).Idx → EReal)
  (x4 : (⟨2, ![8, 12288]⟩ : Shape).Idx → EReal) (x5 x6 : (⟨2, ![1024, 2048]⟩ : Shape).Idx → EReal) (x7 : (⟨2, ![2048, 2048]⟩ : Shape).Idx → EReal)
  (x8 x9 : (⟨1, ![2048]⟩ : Shape).Idx → EReal)

/-- The two mixers' results, each projected and gated, added. -/
def mix (r d : ℕ) : EReal :=
  at2 x2 r d * (∑ k : Fin 1024, at2 x0 r k.val * at2 x5 k.val d) + at2 x2 r (2048 + d) * (∑ k : Fin 1024, at2 x1 r k.val * at2 x6 k.val d)

/-- The scaled input and the gated product: what the norm is taken of. -/
def res (b s n : ℕ) : EReal :=
  Ideal.ofBits FTy.f32 0x3F9837F0#32 * at3 x3 b s n + at2 x4 b (4096 + n) * (∑ d : Fin 2048, mix x0 x1 x2 x5 x6 (b * 4096 + s) d.val * at2 x7 d.val n)

/-- The first returned array: the norm. -/
def gx (b s n : ℕ) : EReal := nrm (res x0 x1 x2 x3 x4 x5 x6 x7 b s) n * at1 x8 n + at1 x9 n

/-- The second: the norm, modulated. -/
def gh (b s n : ℕ) : EReal := gx x0 x1 x2 x3 x4 x5 x6 x7 x8 x9 b s n * (1 + at2 x4 b (8192 + n)) + at2 x4 b (6144 + n)

end

end Cert.OutMath

end
-- ==== Proof.OutPay.lean ====
/- What the output projection's payloads hold, entry by entry, and what a step leaves. -/
module

public import proofs.«01_k».proof.Proof.OutMath
public import proofs.«01_k».proof.Proof.Gen.Kernel3Ideal.Frame
public import Idealize.ShloMosaic.Lib.VecWindow

@[expose] public section

set_option maxRecDepth 16384

noncomputable section

namespace Cert.Kernel3Ideal.Hand

open Cert.Kernel3Ideal Cert.Kernel3Ideal.Gen Cert.InMath Cert.OutMath
open Idealize.ShloMosaic
open Idealize.ShloMosaic.TcCoe Idealize.ShloMosaic.Tactic
open Idealize.SL.Sem

/-- The two gated products, their product with the output weights, gated once more, and the scaled input. -/
theorem pay3_at (ya : Vec Ideal S512x1024 .bf16) (wa : Vec Ideal S1024x2048 .bf16) (yb : Vec Ideal S512x1024 .bf16) (wb : Vec Ideal S1024x2048 .bf16)
    (ga gb : Vec Ideal S512x2048 .bf16) (wo : Vec Ideal S2048x2048 .bf16) (x : Vec Ideal S512x2048 .f32) (g : Vec Ideal S1x1x1x2048 .f32) (r : Fin 512) (n : Fin 2048) :
    k0_pay3 (F := Ideal) ya wa yb wb ga gb wo x g (ix2 r n)
      = Ideal.ofBits FTy.f32 0x3F9837F0#32 * x (ix2 r n)
        + g (ix4 0 0 0 n) * (∑ d : Fin 2048, ((ga (ix2 r d) * (∑ k : Fin 1024, (ya (ix2 r k) * wa (ix2 k d) : EReal)) + gb (ix2 r d) * (∑ k : Fin 1024, (yb (ix2 r k) * wb (ix2 k d) : EReal)) : EReal) * wo (ix2 d n) : EReal)) := by
  pointwise [k0_pay3]

/-- A row's norm, scaled and shifted. -/
theorem pay1_at (v : FVec Ideal S512x2048 .f32) (g b : Vec Ideal S1x2048 .f32) (r : Fin 512) (n : Fin 2048) (z : ℕ → EReal)
    (hz : ∀ k : Fin 2048, v (ix2 r k) = z k.val) :
    k0_pay1 (F := Ideal) v g b (ix2 r n) = (nrm z n.val * g (ix2 0 n) + b (ix2 0 n) : EReal) := by
  unfold nrm mean
  simp only [← hz]
  pointwise [k0_pay1]

/-- The norm, modulated. -/
theorem pay2_at (v : FVec Ideal S512x2048 .f32) (g b : Vec Ideal S1x2048 .f32) (sc sh : Vec Ideal S1x1x1x2048 .f32) (r : Fin 512) (n : Fin 2048) :
    k0_pay2 (F := Ideal) v g b sc sh (ix2 r n) = (k0_pay1 (F := Ideal) v g b (ix2 r n) * ((1 : EReal) + sc (ix4 0 0 0 n)) + sh (ix4 0 0 0 n) : EReal) := by
  generalize hy : k0_pay1 (F := Ideal) v g b = y
  unfold k0_pay2
  rw [hy]
  pointwise

end Cert.Kernel3Ideal.Hand

end
-- ==== Proof.OutBlk.lean ====
/- The blocks the output projection's points read and write: where each lies in its array, and what the host program put there. -/
module

public import proofs.«01_k».proof.Proof.OutPay

@[expose] public section

set_option maxRecDepth 16384

noncomputable section

namespace Cert.Kernel3Ideal.Hand

open Cert.Kernel3Ideal Cert.Kernel3Ideal.Gen Cert.InMath Cert.OutMath
open Idealize.ShloMosaic
open Idealize.ShloMosaic.TcCoe Idealize.ShloMosaic.Tactic
open Idealize.SL.Sem

theorem win_idx : ∀ t : Fin grid0.N,
    (cfg0.win 0).index t = ![t.val, 0]
    ∧ (cfg0.win 1).index t = ![t.val, 0]
    ∧ (cfg0.win 2).index t = ![t.val, 0]
    ∧ (cfg0.win 3).index t = ![t.val, 1]
    ∧ (cfg0.win 4).index t = ![t.val, 0]
    ∧ (cfg0.win 5).index t = ![t.val / 8, 2, 0, 0]
    ∧ (cfg0.win 6).index t = ![t.val / 8, 4, 0, 0]
    ∧ (cfg0.win 7).index t = ![t.val / 8, 3, 0, 0]
    ∧ (cfg0.win 8).index t = ![0, 0]
    ∧ (cfg0.win 9).index t = ![0, 0]
    ∧ (cfg0.win 10).index t = ![0, 0]
    ∧ (cfg0.win 11).index t = ![0, 0]
    ∧ (cfg0.win 12).index t = ![0, 0]
    ∧ (cfg0.win 13).index t = ![t.val, 0]
    ∧ (cfg0.win 14).index t = ![t.val, 0] := by decide +kernel

theorem covers13 : (cfg0.win 13).Covers := by decide +kernel
theorem covers14 : (cfg0.win 14).Covers := by decide +kernel

variable (m : (ℓ : Loc nD τ sig) → Buf (Elt Ideal) ℓ) (c : Dev nD)

abbrev X0 : S32768x1024.Idx → EReal := m ((c : Thread nD τ).loc main_arg0)
abbrev X1 : S32768x1024.Idx → EReal := m ((c : Thread nD τ).loc main_arg1)
abbrev X2 : S32768x8704.Idx → EReal := m ((c : Thread nD τ).loc main_arg2)
abbrev X3 : S8x4096x2048.Idx → EReal := m ((c : Thread nD τ).loc main_arg3)
abbrev X4 : S8x12288.Idx → EReal := m ((c : Thread nD τ).loc main_arg4)
abbrev X5 : S1024x2048.Idx → EReal := m ((c : Thread nD τ).loc main_arg5)
abbrev X6 : S1024x2048.Idx → EReal := m ((c : Thread nD τ).loc main_arg6)
abbrev X7 : S2048x2048.Idx → EReal := m ((c : Thread nD τ).loc main_arg7)
abbrev X8 : S2048.Idx → EReal := m ((c : Thread nD τ).loc main_arg8)
abbrev X9 : S2048.Idx → EReal := m ((c : Thread nD τ).loc main_arg9)

/-! ## What the host program put in the arrays -/

theorem V_ya (r : Fin 32768) (k : Fin 1024) : (V m c main_v0 : S32768x1024.Idx → EReal) (ix2 r k) = at2 (X0 m c) r.val k.val := by
  entry_read
  pointwise
  exact at2_of (X0 m c) _ _ _ rfl rfl

theorem V_yb (r : Fin 32768) (k : Fin 1024) : (V m c main_v1 : S32768x1024.Idx → EReal) (ix2 r k) = at2 (X1 m c) r.val k.val := by
  entry_read
  pointwise
  exact at2_of (X1 m c) _ _ _ rfl rfl

theorem V_z (r : Fin 32768) (k : Fin 8704) : (V m c main_v2 : S32768x8704.Idx → EReal) (ix2 r k) = at2 (X2 m c) r.val k.val := by
  entry_read
  pointwise
  exact at2_of (X2 m c) _ _ _ rfl rfl

set_option maxHeartbeats 1600000 in
theorem V_x (r : Fin 32768) (k : Fin 2048) : (V m c main_v3 : S32768x2048.Idx → EReal) (ix2 r k) = at3 (X3 m c) (r.val / 4096) (r.val % 4096) k.val := by
  entry_read
  pointwise
  exact at3_of (X3 m c) _ _ _ _ rfl rfl rfl

set_option maxHeartbeats 1600000 in
theorem V_m (b : Fin 8) (p : Fin 6) (k : Fin 2048) : (V m c main_v4 : S8x6x1x2048.Idx → EReal) (ix4 b p 0 k) = at2 (X4 m c) b.val (p.val * 2048 + k.val) := by
  entry_read
  pointwise
  exact at2_of (X4 m c) _ _ _ rfl rfl

theorem V_wa (r : Fin 1024) (k : Fin 2048) : (V m c main_v5 : S1024x2048.Idx → EReal) (ix2 r k) = at2 (X5 m c) r.val k.val := by
  entry_read
  pointwise
  exact at2_of (X5 m c) _ _ _ rfl rfl

theorem V_wb (r : Fin 1024) (k : Fin 2048) : (V m c main_v6 : S1024x2048.Idx → EReal) (ix2 r k) = at2 (X6 m c) r.val k.val := by
  entry_read
  pointwise
  exact at2_of (X6 m c) _ _ _ rfl rfl

theorem V_wo (r : Fin 2048) (k : Fin 2048) : (V m c main_v7 : S2048x2048.Idx → EReal) (ix2 r k) = at2 (X7 m c) r.val k.val := by
  entry_read
  pointwise
  exact at2_of (X7 m c) _ _ _ rfl rfl

theorem V_g (d : Fin 2048) : (V m c main_v8 : S1x2048.Idx → EReal) (ix2 0 d) = at1 (X8 m c) d.val := by
  entry_read
  pointwise
  exact at1_of (X8 m c) _ _ rfl

theorem V_b (d : Fin 2048) : (V m c main_v9 : S1x2048.Idx → EReal) (ix2 0 d) = at1 (X9 m c) d.val := by
  entry_read
  pointwise
  exact at1_of (X9 m c) _ _ rfl

/-! ## The blocks from the arguments -/

theorem tlt (t : Fin cfg0.N) : t.val < 64 := t.isLt

theorem ya_blk (t : Fin cfg0.N) (r : Fin 512) (k : Fin 1024) : (iblk m c 0 t : Vec Ideal S512x1024 .bf16) (ix2 r k) = at2 (X0 m c) (t.val * 512 + r.val) k.val := by
  have ht := tlt t
  have hr := r.isLt
  have e : (iblk m c 0 t : Vec Ideal S512x1024 .bf16) (ix2 r k) = V m c main_v0 (ix2 ⟨t.val * 512 + r.val, by omega⟩ k) := by
    blk_ext [iblk, win_idx t]
  exact e.trans (V_ya m c _ _)

theorem yb_blk (t : Fin cfg0.N) (r : Fin 512) (k : Fin 1024) : (iblk m c 1 t : Vec Ideal S512x1024 .bf16) (ix2 r k) = at2 (X1 m c) (t.val * 512 + r.val) k.val := by
  have ht := tlt t
  have hr := r.isLt
  have e : (iblk m c 1 t : Vec Ideal S512x1024 .bf16) (ix2 r k) = V m c main_v1 (ix2 ⟨t.val * 512 + r.val, by omega⟩ k) := by
    blk_ext [iblk, win_idx t]
  exact e.trans (V_yb m c _ _)

/-- The gate blocks lie inside the array, so all of a buffer is what was fetched. -/
theorem ga_blk (t : Fin cfg0.N) (r : Fin 512) (k : Fin 2048) : (X0_2 m c t : Vec Ideal S512x2048 .bf16) (ix2 r k) = at2 (X2 m c) (t.val * 512 + r.val) k.val := by
  have ht := tlt t
  have hr := r.isLt
  have hk := k.isLt
  have e : (X0_2 m c t : Vec Ideal S512x2048 .bf16) (ix2 r k) = V m c main_v2 (ix2 ⟨t.val * 512 + r.val, by omega⟩ ⟨k.val, by omega⟩) := by
    unfold X0_2 Pipeline.Window.fill
    rw [dif_pos (moved0_2 t _)]
    blk_ext [iblk, win_idx t]
  exact e.trans (V_z m c _ _)

theorem gb_blk (t : Fin cfg0.N) (r : Fin 512) (k : Fin 2048) : (X0_3 m c t : Vec Ideal S512x2048 .bf16) (ix2 r k) = at2 (X2 m c) (t.val * 512 + r.val) (2048 + k.val) := by
  have ht := tlt t
  have hr := r.isLt
  have hk := k.isLt
  have e : (X0_3 m c t : Vec Ideal S512x2048 .bf16) (ix2 r k) = V m c main_v2 (ix2 ⟨t.val * 512 + r.val, by omega⟩ ⟨2048 + k.val, by omega⟩) := by
    unfold X0_3 Pipeline.Window.fill
    rw [dif_pos (moved0_3 t _)]
    blk_ext [iblk, win_idx t]
  exact e.trans (V_z m c _ _)

theorem x_blk (t : Fin cfg0.N) (r : Fin 512) (k : Fin 2048) :
    (iblk m c 4 t : Vec Ideal S512x2048 .f32) (ix2 r k) = at3 (X3 m c) ((t.val * 512 + r.val) / 4096) ((t.val * 512 + r.val) % 4096) k.val := by
  have ht := tlt t
  have hr := r.isLt
  have e : (iblk m c 4 t : Vec Ideal S512x2048 .f32) (ix2 r k) = V m c main_v3 (ix2 ⟨t.val * 512 + r.val, by omega⟩ k) := by
    blk_ext [iblk, win_idx t]
  exact e.trans (V_x m c _ _)

theorem g1_blk (t : Fin cfg0.N) (k : Fin 2048) : (iblk m c 5 t : Vec Ideal S1x1x1x2048 .f32) (ix4 0 0 0 k) = at2 (X4 m c) (t.val / 8) (4096 + k.val) := by
  have ht := tlt t
  have e : (iblk m c 5 t : Vec Ideal S1x1x1x2048 .f32) (ix4 0 0 0 k) = V m c main_v4 (ix4 ⟨t.val / 8, by omega⟩ 2 0 k) := by
    blk_ext [iblk, win_idx t]
  exact e.trans (V_m m c _ _ _)

theorem sc_blk (t : Fin cfg0.N) (k : Fin 2048) : (iblk m c 6 t : Vec Ideal S1x1x1x2048 .f32) (ix4 0 0 0 k) = at2 (X4 m c) (t.val / 8) (8192 + k.val) := by
  have ht := tlt t
  have e : (iblk m c 6 t : Vec Ideal S1x1x1x2048 .f32) (ix4 0 0 0 k) = V m c main_v4 (ix4 ⟨t.val / 8, by omega⟩ 4 0 k) := by
    blk_ext [iblk, win_idx t]
  exact e.trans (V_m m c _ _ _)

theorem sh_blk (t : Fin cfg0.N) (k : Fin 2048) : (iblk m c 7 t : Vec Ideal S1x1x1x2048 .f32) (ix4 0 0 0 k) = at2 (X4 m c) (t.val / 8) (6144 + k.val) := by
  have ht := tlt t
  have e : (iblk m c 7 t : Vec Ideal S1x1x1x2048 .f32) (ix4 0 0 0 k) = V m c main_v4 (ix4 ⟨t.val / 8, by omega⟩ 3 0 k) := by
    blk_ext [iblk, win_idx t]
  exact e.trans (V_m m c _ _ _)

theorem wa_blk (t : Fin cfg0.N) (k : Fin 1024) (d : Fin 2048) : (iblk m c 8 t : Vec Ideal S1024x2048 .bf16) (ix2 k d) = at2 (X5 m c) k.val d.val := by
  have e : (iblk m c 8 t : Vec Ideal S1024x2048 .bf16) (ix2 k d) = V m c main_v5 (ix2 k d) := by
    blk_ext [iblk, win_idx t]
  exact e.trans (V_wa m c _ _)

theorem wb_blk (t : Fin cfg0.N) (k : Fin 1024) (d : Fin 2048) : (iblk m c 9 t : Vec Ideal S1024x2048 .bf16) (ix2 k d) = at2 (X6 m c) k.val d.val := by
  have e : (iblk m c 9 t : Vec Ideal S1024x2048 .bf16) (ix2 k d) = V m c main_v6 (ix2 k d) := by
    blk_ext [iblk, win_idx t]
  exact e.trans (V_wb m c _ _)

theorem wo_blk (t : Fin cfg0.N) (k : Fin 2048) (d : Fin 2048) : (iblk m c 10 t : Vec Ideal S2048x2048 .bf16) (ix2 k d) = at2 (X7 m c) k.val d.val := by
  have e : (iblk m c 10 t : Vec Ideal S2048x2048 .bf16) (ix2 k d) = V m c main_v7 (ix2 k d) := by
    blk_ext [iblk, win_idx t]
  exact e.trans (V_wo m c _ _)

theorem g_blk (t : Fin cfg0.N) (d : Fin 2048) : (iblk m c 11 t : Vec Ideal S1x2048 .f32) (ix2 0 d) = at1 (X8 m c) d.val := by
  have e : (iblk m c 11 t : Vec Ideal S1x2048 .f32) (ix2 0 d) = V m c main_v8 (ix2 0 d) := by
    blk_ext [iblk, win_idx t]
  exact e.trans (V_g m c _)

theorem b_blk (t : Fin cfg0.N) (d : Fin 2048) : (iblk m c 12 t : Vec Ideal S1x2048 .f32) (ix2 0 d) = at1 (X9 m c) d.val := by
  have e : (iblk m c 12 t : Vec Ideal S1x2048 .f32) (ix2 0 d) = V m c main_v9 (ix2 0 d) := by
    blk_ext [iblk, win_idx t]
  exact e.trans (V_b m c _)

end Cert.Kernel3Ideal.Hand

end
-- ==== Proof.OutBody.lean ====
/- What the output projection's body leaves, from the point's blocks. -/
module

public import proofs.«01_k».proof.Proof.Gen.Kernel3Ideal.Frame
public import Idealize.ShloMosaic.Lib.VecWindow

@[expose] public section

set_option maxRecDepth 16384

noncomputable section

namespace Cert.Kernel3Ideal.Hand

open Cert.Kernel3Ideal Cert.Kernel3Ideal.Gen
open Idealize.ShloMosaic
open Idealize.ShloMosaic.TcCoe Idealize.ShloMosaic.Tactic
open Idealize.SL.Sem

variable {F : FTy → Type} [FloatOps F]

theorem l_h (M : Memref sig .tc .vmem S512x1024 .bf16) (hM : M.IsWhole) (x : Vec F S512x1024 .bf16) (h) :
    View.readAt (Elt F) M.view (Rect.unit (s := S512x1024) ![0, 0] ![512, 1024] h).toLoadRect (hM.unread x) = x := (View.readAt_full _ _ h).trans (hM.read_unread x)
theorem l_g (M : Memref sig .tc .vmem S512x2048 .bf16) (hM : M.IsWhole) (x : Vec F S512x2048 .bf16) (h) :
    View.readAt (Elt F) M.view (Rect.unit (s := S512x2048) ![0, 0] ![512, 2048] h).toLoadRect (hM.unread x) = x := (View.readAt_full _ _ h).trans (hM.read_unread x)
theorem l_x (M : Memref sig .tc .vmem S512x2048 .f32) (hM : M.IsWhole) (x : Vec F S512x2048 .f32) (h) :
    View.readAt (Elt F) M.view (Rect.unit (s := S512x2048) ![0, 0] ![512, 2048] h).toLoadRect (hM.unread x) = x := (View.readAt_full _ _ h).trans (hM.read_unread x)
theorem l_m (M : Memref sig .tc .vmem S1x1x1x2048 .f32) (hM : M.IsWhole) (x : Vec F S1x1x1x2048 .f32) (h) :
    View.readAt (Elt F) M.view (Rect.unit (s := S1x1x1x2048) ![0, 0, 0, 0] ![1, 1, 1, 2048] h).toLoadRect (hM.unread x) = x := (View.readAt_full _ _ h).trans (hM.read_unread x)
theorem l_w (M : Memref sig .tc .vmem S1024x2048 .bf16) (hM : M.IsWhole) (x : Vec F S1024x2048 .bf16) (h) :
    View.readAt (Elt F) M.view (Rect.unit (s := S1024x2048) ![0, 0] ![1024, 2048] h).toLoadRect (hM.unread x) = x := (View.readAt_full _ _ h).trans (hM.read_unread x)
theorem l_o (M : Memref sig .tc .vmem S2048x2048 .bf16) (hM : M.IsWhole) (x : Vec F S2048x2048 .bf16) (h) :
    View.readAt (Elt F) M.view (Rect.unit (s := S2048x2048) ![0, 0] ![2048, 2048] h).toLoadRect (hM.unread x) = x := (View.readAt_full _ _ h).trans (hM.read_unread x)
theorem l_b (M : Memref sig .tc .vmem S1x2048 .f32) (hM : M.IsWhole) (x : Vec F S1x2048 .f32) (h) :
    View.readAt (Elt F) M.view (Rect.unit (s := S1x2048) ![0, 0] ![1, 2048] h).toLoadRect (hM.unread x) = x := (View.readAt_full _ _ h).trans (hM.read_unread x)

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1024x2048 .bf16) (harg9 : arg9.IsWhole) (arg10 : Memref sig .tc .vmem S1024x2048 .bf16) (harg10 : arg10.IsWhole) (arg11 : Memref sig .tc .vmem S2048x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S512x2048 .f32) (harg14 : arg14.IsWhole) (arg15 : Memref sig .tc .vmem S512x2048 .bf16) (harg15 : arg15.IsWhole)
    (x0 : Vec F S512x1024 .bf16) (x1 : Vec F S512x1024 .bf16) (x2 : Vec F S512x2048 .bf16) (x3 : Vec F S512x2048 .bf16) (x4 : Vec F S512x2048 .f32) (x5 : Vec F S1x1x1x2048 .f32) (x6 : Vec F S1x1x1x2048 .f32) (x7 : Vec F S1x1x1x2048 .f32) (x8 : Vec F S1024x2048 .bf16) (x9 : Vec F S1024x2048 .bf16) (x10 : Vec F S2048x2048 .bf16) (x11 : Vec F S1x2048 .f32) (x12 : Vec F S1x2048 .f32)

theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = k0_pay1 (k0_pay3 x0 x8 x1 x9 x2 x3 x10 x4 x5) x11 x12 := by
  unfold out0_A_13 kernelRun0_A
  dsimp only
  refine (View.read_writes_full _ _ _ _ _).trans ?_
  simp only [kernelRun0_A.sl.r, kernelRun0_A.sl.r_1, kernelRun0_A.sl.v57, kernelRun0_A.sl.v63, l_h, l_g, l_x, l_m, l_w, l_o, l_b]

theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = k0_pay2 (k0_pay3 x0 x8 x1 x9 x2 x3 x10 x4 x5) x11 x12 x6 x7 := by
  unfold out0_A_14 kernelRun0_A
  dsimp only
  refine (View.read_writes_full _ _ _ _ _).trans ?_
  simp only [kernelRun0_A.sl.r, kernelRun0_A.sl.r_1, kernelRun0_A.sl.v57, kernelRun0_A.sl.v63, l_h, l_g, l_x, l_m, l_w, l_o, l_b]

end Cert.Kernel3Ideal.Hand

end
-- ==== Proof.OutInv.lean ====
/- The output projection's two returned arrays. -/
module

public import proofs.«01_k».proof.Proof.OutBlk
public import proofs.«01_k».proof.Proof.OutBody
public import proofs.«01_k».proof.Proof.Gen.Kernel3Ideal.Value

@[expose] public section

set_option maxRecDepth 16384

noncomputable section

namespace Cert.Kernel3Ideal.Hand

open Cert.Kernel3Ideal Cert.Kernel3Ideal.Gen Cert.InMath Cert.OutMath
open Idealize.ShloMosaic
open Idealize.ShloMosaic.TcCoe Idealize.ShloMosaic.Tactic
open Idealize.SL.Sem

variable (m : (ℓ : Loc nD τ sig) → Buf (Elt Ideal) ℓ) (c : Dev nD)

/-- The point's rows, before the norm. -/
def acc (t : Fin cfg0.N) : FVec Ideal S512x2048 .f32 :=
  k0_pay3 (F := Ideal) (iblk m c 0 t) (iblk m c 8 t) (iblk m c 1 t) (iblk m c 9 t) (X0_2 m c t) (X0_3 m c t) (iblk m c 10 t) (iblk m c 4 t) (iblk m c 5 t)

theorem acc_at (t : Fin cfg0.N) (r : Fin 512) (n : Fin 2048) : acc m c t (ix2 r n)
    = res (X0 m c) (X1 m c) (X2 m c) (X3 m c) (X4 m c) (X5 m c) (X6 m c) (X7 m c) ((t.val * 512 + r.val) / 4096) ((t.val * 512 + r.val) % 4096) n.val := by
  have hr := r.isLt
  unfold acc res
  rw [pay3_at, x_blk, g1_blk, show (t.val * 512 + r.val) / 4096 = t.val / 8 by omega, show t.val / 8 * 4096 + (t.val * 512 + r.val) % 4096 = t.val * 512 + r.val by omega]
  refine congrArg (fun s => _ + _ * s) (Finset.sum_congr rfl fun d _ => ?_)
  rw [ga_blk, gb_blk, wo_blk]
  unfold mix
  refine congrArg (· * _) (congrArg₂ (fun s s' => _ * s + _ * s') (Finset.sum_congr rfl fun k _ => ?_) (Finset.sum_congr rfl fun k _ => ?_))
  · rw [ya_blk, wa_blk]
  · rw [yb_blk, wb_blk]

/-- A point's rows of the first array. -/
theorem x_at (t : Fin cfg0.N) (r : Fin 512) (n : Fin 2048) : (outsAt0 m c t).1 (ix2 r n)
    = gx (X0 m c) (X1 m c) (X2 m c) (X3 m c) (X4 m c) (X5 m c) (X6 m c) (X7 m c) (X8 m c) (X9 m c) ((t.val * 512 + r.val) / 4096) ((t.val * 512 + r.val) % 4096) n.val := by
  have e : (outsAt0 m c t).1 = k0_pay1 (F := Ideal) (acc m c t) (iblk m c 11 t) (iblk m c 12 t) := by
    unfold outsAt0 acc
    dsimp only
    exact out13 (F := Ideal) ..
  rw [e, pay1_at _ _ _ _ _ (res (X0 m c) (X1 m c) (X2 m c) (X3 m c) (X4 m c) (X5 m c) (X6 m c) (X7 m c) ((t.val * 512 + r.val) / 4096) ((t.val * 512 + r.val) % 4096)) (fun k => acc_at m c t r k), g_blk, b_blk]
  rfl

/-- And of the second. -/
theorem h_at (t : Fin cfg0.N) (r : Fin 512) (n : Fin 2048) : (outsAt0 m c t).2 (ix2 r n)
    = gh (X0 m c) (X1 m c) (X2 m c) (X3 m c) (X4 m c) (X5 m c) (X6 m c) (X7 m c) (X8 m c) (X9 m c) ((t.val * 512 + r.val) / 4096) ((t.val * 512 + r.val) % 4096) n.val := by
  have hr := r.isLt
  have e : (outsAt0 m c t).2 = k0_pay2 (F := Ideal) (acc m c t) (iblk m c 11 t) (iblk m c 12 t) (iblk m c 6 t) (iblk m c 7 t) := by
    unfold outsAt0 acc
    dsimp only
    exact out14 (F := Ideal) ..
  rw [e, pay2_at, pay1_at _ _ _ _ _ (res (X0 m c) (X1 m c) (X2 m c) (X3 m c) (X4 m c) (X5 m c) (X6 m c) (X7 m c) ((t.val * 512 + r.val) / 4096) ((t.val * 512 + r.val) % 4096)) (fun k => acc_at m c t r k), g_blk, b_blk, sc_blk, sh_blk,
    gh, gx, show (t.val * 512 + r.val) / 4096 = t.val / 8 by omega]

/-- The first returned array, everywhere. -/
theorem final13' : (dats m 0 c).arrAt 13 cfg0.N = fun y : S32768x2048.Idx =>
    gx (X0 m c) (X1 m c) (X2 m c) (X3 m c) (X4 m c) (X5 m c) (X6 m c) (X7 m c) (X8 m c) (X9 m c) ((y 0).val / 4096) ((y 0).val % 4096) (y 1).val := by
  refine (dats m 0 c).arrAt_eq_of_covers 13 _ covers13 (fun t hflush y => ?_)
  blk_simp
  have key := x_at m c t (y 0) (y 1)
  have ey : (y : S512x2048.Idx) = ix2 (y 0) (y 1) := funext fun a => by match a with | ⟨0, _⟩ => rfl | ⟨1, _⟩ => rfl
  obtain ⟨_, _, _, _, _, _, _, _, _, _, _, _, _, w13, _⟩ := win_idx t
  have e0 : (cfg0.win 13).index t 0 = t.val := by rw [w13]; rfl
  have e1 : (cfg0.win 13).index t 1 = 0 := by rw [w13]; rfl
  rw [after0_13]
  rw [e0, e1, show 0 * 2048 + (y 1).val = (y 1).val by omega]
  exact (congrArg (outsAt0 m c t).1 ey).trans key

/-- The second, everywhere. -/
theorem final14' : (dats m 0 c).arrAt 14 cfg0.N = fun y : S32768x2048.Idx =>
    gh (X0 m c) (X1 m c) (X2 m c) (X3 m c) (X4 m c) (X5 m c) (X6 m c) (X7 m c) (X8 m c) (X9 m c) ((y 0).val / 4096) ((y 0).val % 4096) (y 1).val := by
  refine (dats m 0 c).arrAt_eq_of_covers 14 _ covers14 (fun t hflush y => ?_)
  blk_simp
  have key := h_at m c t (y 0) (y 1)
  have ey : (y : S512x2048.Idx) = ix2 (y 0) (y 1) := funext fun a => by match a with | ⟨0, _⟩ => rfl | ⟨1, _⟩ => rfl
  obtain ⟨_, _, _, _, _, _, _, _, _, _, _, _, _, _, w14⟩ := win_idx t
  have e0 : (cfg0.win 14).index t 0 = t.val := by rw [w14]; rfl
  have e1 : (cfg0.win 14).index t 1 = 0 := by rw [w14]; rfl
  rw [after0_14]
  rw [e0, e1, show 0 * 2048 + (y 1).val = (y 1).val by omega]
  exact (congrArg (outsAt0 m c t).2 ey).trans key

end Cert.Kernel3Ideal.Hand

end
-- ==== Proof.OutRef.lean ====
/- The reference's output projection, read element by element. -/
module

public import proofs.«01_k».proof.Proof.OutMath
public import proofs.«01_k».proof.Proof.Gen.Reference3Ideal.Read

@[expose] public section

set_option maxRecDepth 16384

noncomputable section

namespace Cert.Reference3Ideal.Hand

open Cert.Reference3Ideal Cert.Reference3Ideal.Gen Cert.Reference3Ideal.Read Cert.InMath Cert.OutMath
open Idealize.ShloMosaic Idealize.ShloMosaic.TcCoe Idealize.ShloMosaic.Tactic

variable (x0 x1 : S32768x1024.Idx → EReal) (x2 : S32768x8704.Idx → EReal) (x3 : S8x4096x2048.Idx → EReal) (x4 : S8x12288.Idx → EReal)
  (x5 x6 : S1024x2048.Idx → EReal) (x7 : S2048x2048.Idx → EReal) (x8 x9 : S2048.Idx → EReal)

theorem g1_at (i : S8x1x2048.Idx) : val_main_v3 (F := Ideal) x4 i = at2 x4 (i 0).val (4096 + (i 2).val) := by
  rw [val_main_v3_apply, val_main_v2_apply, val_main_v1_apply, val_main_v0_apply]
  have h0 : (i 0).val < 8 := (i 0).isLt
  have h2 : (i 2).val < 2048 := (i 2).isLt
  refine at2_of x4 _ _ _ ?_ ?_ <;> simp only [idx_main_v0, idx_main_v1, idx_main_v2, idx_main_v3] <;> omega

theorem sh2_at (i : S8x1x2048.Idx) : val_main_v6 (F := Ideal) x4 i = at2 x4 (i 0).val (6144 + (i 2).val) := by
  rw [val_main_v6_apply, val_main_v5_apply, val_main_v4_apply, val_main_v0_apply]
  have h0 : (i 0).val < 8 := (i 0).isLt
  have h2 : (i 2).val < 2048 := (i 2).isLt
  refine at2_of x4 _ _ _ ?_ ?_ <;> simp only [idx_main_v0, idx_main_v4, idx_main_v5, idx_main_v6] <;> omega

theorem sc2_at (i : S8x1x2048.Idx) : val_main_v9 (F := Ideal) x4 i = at2 x4 (i 0).val (8192 + (i 2).val) := by
  rw [val_main_v9_apply, val_main_v8_apply, val_main_v7_apply, val_main_v0_apply]
  have h0 : (i 0).val < 8 := (i 0).isLt
  have h2 : (i 2).val < 2048 := (i 2).isLt
  refine at2_of x4 _ _ _ ?_ ?_ <;> simp only [idx_main_v0, idx_main_v7, idx_main_v8, idx_main_v9] <;> omega

theorem ga_at (i : S8x4096x2048.Idx) : val_main_v11 (F := Ideal) x2 i = at2 x2 ((i 0).val * 4096 + (i 1).val) (i 2).val := by
  rw [val_main_v11_apply, val_main_v10_apply]
  have h2 : (i 2).val < 2048 := (i 2).isLt
  refine at2_of x2 _ _ _ ?_ ?_ <;> simp only [idx_main_v10, idx_main_v11] <;> omega

theorem gb_at (i : S8x4096x2048.Idx) : val_main_v12 (F := Ideal) x2 i = at2 x2 ((i 0).val * 4096 + (i 1).val) (2048 + (i 2).val) := by
  rw [val_main_v12_apply, val_main_v10_apply]
  have h2 : (i 2).val < 2048 := (i 2).isLt
  refine at2_of x2 _ _ _ ?_ ?_ <;> simp only [idx_main_v10, idx_main_v12] <;> omega

theorem ya_at (i : S8x4096x1024.Idx) : val_main_v13 (F := Ideal) x0 i = at2 x0 ((i 0).val * 4096 + (i 1).val) (i 2).val := by
  rw [val_main_v13_apply]
  have h2 : (i 2).val < 1024 := (i 2).isLt
  refine at2_of x0 _ _ _ ?_ ?_ <;> simp only [idx_main_v13] <;> omega

theorem yb_at (i : S8x4096x1024.Idx) : val_main_v15 (F := Ideal) x1 i = at2 x1 ((i 0).val * 4096 + (i 1).val) (i 2).val := by
  rw [val_main_v15_apply]
  have h2 : (i 2).val < 1024 := (i 2).isLt
  refine at2_of x1 _ _ _ ?_ ?_ <;> simp only [idx_main_v15] <;> omega

theorem ta_at (i : S8x4096x2048.Idx) :
    val_main_v14 (F := Ideal) x0 x5 i = ∑ k : Fin 1024, at2 x0 ((i 0).val * 4096 + (i 1).val) k.val * at2 x5 k.val (i 2).val := by
  rw [val_main_v14_apply]
  refine Finset.sum_congr rfl fun k _ => ?_
  rw [ya_at, at2_of x5 (ridx_main_v14 i k) k.val (i 2).val rfl rfl]

theorem tb_at (i : S8x4096x2048.Idx) :
    val_main_v16 (F := Ideal) x1 x6 i = ∑ k : Fin 1024, at2 x1 ((i 0).val * 4096 + (i 1).val) k.val * at2 x6 k.val (i 2).val := by
  rw [val_main_v16_apply]
  refine Finset.sum_congr rfl fun k _ => ?_
  rw [yb_at, at2_of x6 (ridx_main_v16 i k) k.val (i 2).val rfl rfl]

theorem mix_at (i : S8x4096x2048.Idx) : val_main_v19 (F := Ideal) x0 x1 x2 x5 x6 i = mix x0 x1 x2 x5 x6 ((i 0).val * 4096 + (i 1).val) (i 2).val := by
  rw [val_main_v19_apply, val_main_v17_apply, val_main_v18_apply, ga_at, gb_at, ta_at, tb_at]
  rfl

theorem y_at (i : S8x4096x2048.Idx) : val_main_v20 (F := Ideal) x0 x1 x2 x5 x6 x7 i
    = ∑ d : Fin 2048, mix x0 x1 x2 x5 x6 ((i 0).val * 4096 + (i 1).val) d.val * at2 x7 d.val (i 2).val := by
  rw [val_main_v20_apply]
  refine Finset.sum_congr rfl fun k _ => ?_
  rw [mix_at, at2_of x7 (ridx_main_v20 i k) k.val (i 2).val rfl rfl]

theorem r_at (i : S8x4096x2048.Idx) : val_main_v25 (F := Ideal) x0 x1 x2 x3 x4 x5 x6 x7 i = res x0 x1 x2 x3 x4 x5 x6 x7 (i 0).val (i 1).val (i 2).val := by
  rw [val_main_v25_apply, val_main_v22_apply, val_main_v21_apply, val_main_cst_apply, val_main_v24_apply, val_main_v23_apply, g1_at, y_at, at3_of x3 i _ _ _ rfl rfl rfl]
  rfl

/-- The mean of a row. -/
theorem mu_at (i : S8x4096x1.Idx) : val_main_v29 (F := Ideal) x0 x1 x2 x3 x4 x5 x6 x7 i = mean (res x0 x1 x2 x3 x4 x5 x6 x7 (i 0).val (i 1).val) := by
  rw [val_main_v29_apply, val_main_v27_apply, val_main_v26_apply, val_main_v28_apply, val_main_cst_0_apply, val_main_cst_1_apply]
  show Ideal.div (Ideal.ofBits FTy.f32 0x00000000#32 + ∑ k : Fin 2048, val_main_v25 (F := Ideal) x0 x1 x2 x3 x4 x5 x6 x7 (idx_main_v26 (idx_main_v27 i) k)) (Ideal.ofBits FTy.f32 0x45000000#32) = _
  rw [zero_bits, zero_add]
  unfold mean
  refine congrArg (fun s => Ideal.div s _) (Finset.sum_congr rfl fun k _ => ?_)
  rw [r_at]

/-- The variance of a row. -/
theorem var_at (i : S8x4096x1.Idx) : val_main_v36 (F := Ideal) x0 x1 x2 x3 x4 x5 x6 x7 i
    = mean (fun k => (res x0 x1 x2 x3 x4 x5 x6 x7 (i 0).val (i 1).val k - mean (res x0 x1 x2 x3 x4 x5 x6 x7 (i 0).val (i 1).val))
        * (res x0 x1 x2 x3 x4 x5 x6 x7 (i 0).val (i 1).val k - mean (res x0 x1 x2 x3 x4 x5 x6 x7 (i 0).val (i 1).val))) := by
  rw [val_main_v36_apply, val_main_v34_apply, val_main_v33_apply, val_main_v35_apply, val_main_cst_2_apply, val_main_cst_3_apply]
  show Ideal.div (Ideal.ofBits FTy.f32 0x00000000#32 + ∑ k : Fin 2048, val_main_v32 (F := Ideal) x0 x1 x2 x3 x4 x5 x6 x7 (idx_main_v33 (idx_main_v34 i) k)) (Ideal.ofBits FTy.f32 0x45000000#32) = _
  rw [zero_bits, zero_add]
  conv_rhs => unfold mean
  refine congrArg (fun s => Ideal.div s _) (Finset.sum_congr rfl fun k _ => ?_)
  rw [val_main_v32_apply, val_main_v31_apply, val_main_v30_apply, mu_at, r_at]
  rfl

theorem x_at (i : S8x4096x2048.Idx) : val_main_v49 (F := Ideal) x0 x1 x2 x3 x4 x5 x6 x7 x8 x9 i = gx x0 x1 x2 x3 x4 x5 x6 x7 x8 x9 (i 0).val (i 1).val (i 2).val := by
  rw [val_main_v49_apply, val_main_v46_apply, val_main_v43_apply, val_main_v38_apply, val_main_v37_apply, val_main_v42_apply, val_main_v41_apply, val_main_v40_apply,
    val_main_v39_apply, val_main_cst_4_apply, val_main_v45_apply, val_main_v44_apply, val_main_v48_apply, val_main_v47_apply, mu_at, var_at, r_at,
    at1_of x8 (idx_main_v44 (idx_main_v45 i)) (i 2).val rfl, at1_of x9 (idx_main_v47 (idx_main_v48 i)) (i 2).val rfl]
  rfl

theorem h_at (i : S8x4096x2048.Idx) : val_main_v55 (F := Ideal) x0 x1 x2 x3 x4 x5 x6 x7 x8 x9 i = gh x0 x1 x2 x3 x4 x5 x6 x7 x8 x9 (i 0).val (i 1).val (i 2).val := by
  rw [val_main_v55_apply, val_main_v53_apply, val_main_v52_apply, val_main_v51_apply, val_main_v50_apply, val_main_cst_5_apply, val_main_v54_apply, sc2_at, sh2_at, x_at]
  show gx x0 x1 x2 x3 x4 x5 x6 x7 x8 x9 (i 0).val (i 1).val (i 2).val * (Ideal.ofBits FTy.f32 0x3F800000#32 + at2 x4 (i 0).val (8192 + (i 2).val)) + at2 x4 (i 0).val (6144 + (i 2).val) = _
  rw [one_bits]
  rfl

/-- The first returned array, at a row and a column. -/
theorem res_x (r : Fin 32768) (n : Fin 2048) : val_main_v56 (F := Ideal) x0 x1 x2 x3 x4 x5 x6 x7 x8 x9 (ix2 r n)
    = gx x0 x1 x2 x3 x4 x5 x6 x7 x8 x9 (r.val / 4096) (r.val % 4096) n.val := by
  rw [val_main_v56_apply]
  refine (x_at x0 x1 x2 x3 x4 x5 x6 x7 x8 x9 (idx_main_v56 (ix2 r n))).trans ?_
  have hr := r.isLt
  have hn := n.isLt
  have e0 : (idx_main_v56 (ix2 r n) 0).val = r.val / 4096 := by
    show (r.val * 2048 + n.val) / 8388608 = _
    omega
  have e1 : (idx_main_v56 (ix2 r n) 1).val = r.val % 4096 := by
    show (r.val * 2048 + n.val) / 2048 % 4096 = _
    omega
  have e2 : (idx_main_v56 (ix2 r n) 2).val = n.val := by
    show (r.val * 2048 + n.val) % 2048 = _
    omega
  rw [e0, e1, e2]

/-- The second, at a row and a column. -/
theorem res_h (r : Fin 32768) (n : Fin 2048) : val_main_v58 (F := Ideal) x0 x1 x2 x3 x4 x5 x6 x7 x8 x9 (ix2 r n)
    = gh x0 x1 x2 x3 x4 x5 x6 x7 x8 x9 (r.val / 4096) (r.val % 4096) n.val := by
  rw [val_main_v58_apply, val_main_v57_apply]
  refine (h_at x0 x1 x2 x3 x4 x5 x6 x7 x8 x9 (idx_main_v57 (ix2 r n))).trans ?_
  have hr := r.isLt
  have hn := n.isLt
  have e0 : (idx_main_v57 (ix2 r n) 0).val = r.val / 4096 := by
    show (r.val * 2048 + n.val) / 8388608 = _
    omega
  have e1 : (idx_main_v57 (ix2 r n) 1).val = r.val % 4096 := by
    show (r.val * 2048 + n.val) / 2048 % 4096 = _
    omega
  have e2 : (idx_main_v57 (ix2 r n) 2).val = n.val := by
    show (r.val * 2048 + n.val) % 2048 = _
    omega
  rw [e0, e1, e2]

end Cert.Reference3Ideal.Hand

end
-- ==== Proof.UpMath.lean ====
/- The entries of the queries, keys and values made from the latents, as functions of the arguments at number coordinates. -/
module

public import proofs.«01_k».proof.Proof.InMath

@[expose] public section

noncomputable section

namespace Cert.UpMath

open Idealize.ShloMosaic Cert.InMath

/-- What the queries are divided by. -/
def bdiv : EReal := Ideal.sqrt (Ideal.ofBits FTy.f32 0x43400000#32) * Ideal.log (Ideal.ofBits FTy.f32 0x40000000#32)

theorem bits192 : Ideal.ofBits FTy.f32 0x43400000#32 = ((192 : ℝ) : EReal) := by
  simp [Ideal.ofBits, Ideal.ieee, -EReal.coe_mul]; norm_num

/-- Dividing by √192 · log 2 is multiplying by its reciprocal. -/
theorem div_bdiv (z : EReal) : Ideal.div z bdiv = z * (((Real.sqrt 192 * Real.log 2)⁻¹ : ℝ) : EReal) := by
  have e : Ideal.log ((2 : ℝ) : EReal) = ((Real.log 2 : ℝ) : EReal) := by
    show (if (2 : ℝ) ≤ 0 then ⊥ else ((Real.log 2 : ℝ) : EReal)) = _
    rw [if_neg (by norm_num)]
  have hp : 0 < Real.sqrt 192 * Real.log 2 := mul_pos (Real.sqrt_pos.mpr (by norm_num)) (Real.log_pos (by norm_num))
  have r : Ideal.sqrt ((192 : ℝ) : EReal) = ((Real.sqrt 192 : ℝ) : EReal) := by
    show (if (192 : ℝ) < 0 then ⊥ else ((Real.sqrt 192 : ℝ) : EReal)) = _
    rw [if_neg (by norm_num)]
  unfold bdiv
  rw [bits192, bits2, e, r, ← EReal.coe_mul, Ideal.div_coe hp.ne', one_div]

/-- Outside its columns an array at number coordinates is zero. -/
theorem at2_out {n0 n1 : ℕ} (x : (⟨2, ![n0, n1]⟩ : Shape).Idx → EReal) (a b : ℕ) (h : n1 ≤ b) : at2 x a b = 0 :=
  dif_neg (fun H => absurd H.2 (by omega))

/-- The columns of the first product's weights: a head's 192, then 64 of zero. -/
def s1 (n : ℕ) : ℕ := if n % 256 < 192 then n / 256 * 192 + n % 256 else 1536
/-- The columns of the second's: a head's 64 rotated ones, the halves of 32 exchanged, then 64 of zero. -/
def s2 (n : ℕ) : ℕ := if n % 128 < 64 then n / 128 * 192 + 128 + (n % 128 + 32) % 64 else 1536
/-- The column of the cosines and of the sines that stands at a column of a rotated part. -/
def sc (j : ℕ) : ℕ := if j < 64 then j % 32 else 32
/-- The column of the key's rotated part that stands at a column of its exchanged copy. -/
def sk (j : ℕ) : ℕ := if j < 64 then (j + 32) % 64 else 64

section
variable (x0 x1 : (⟨2, ![32768, 512]⟩ : Shape).Idx → EReal) (x2 : (⟨2, ![32768, 64]⟩ : Shape).Idx → EReal) (x3 x4 : (⟨2, ![32768, 32]⟩ : Shape).Idx → EReal)
  (x5 : (⟨2, ![512, 1536]⟩ : Shape).Idx → EReal) (x6 : (⟨2, ![512, 2048]⟩ : Shape).Idx → EReal)

/-- The queries' projection. -/
def qu (r n : ℕ) : EReal := ∑ k : Fin 512, at2 x0 r k.val * at2 x5 k.val n
/-- The keys' and values'. -/
def ku (r n : ℕ) : EReal := ∑ k : Fin 512, at2 x1 r k.val * at2 x6 k.val n

/-- The rotation of 64 numbers, by a row of cosines and sines; zero after them. -/
def rot (z : ℕ → EReal) (r j : ℕ) : EReal :=
  if j < 32 then z j * at2 x3 r j - z (32 + j) * at2 x4 r j
  else if j < 64 then z (j - 32) * at2 x4 r (j - 32) + z j * at2 x3 r (j - 32) else 0

/-- The queries: of the group's two heads 128 columns, 64 rotated ones and 64 of zero each. -/
def gq (g r c : ℕ) : EReal :=
  if c % 256 < 128 then Ideal.div (qu x0 x5 r ((2 * g + c / 256) * 192 + c % 256)) bdiv
  else if c % 256 < 192 then Ideal.div (rot x3 x4 (fun i => qu x0 x5 r ((2 * g + c / 256) * 192 + (128 + i))) r (c % 256 - 128)) bdiv else 0
/-- The keys. -/
def gk (g r c : ℕ) : EReal :=
  if c % 256 < 128 then ku x1 x6 r ((2 * g + c / 256) * 256 + c % 256)
  else if c % 256 < 192 then rot x3 x4 (fun i => at2 x2 r i) r (c % 256 - 128) else 0
/-- The values. -/
def gv (g r c : ℕ) : EReal := ku x1 x6 r ((2 * g + c / 128) * 256 + (128 + c % 128))

/-- The sines with the sign that the rotation takes them with. -/
def sgn (r j : ℕ) : EReal := if j < 32 then -at2 x4 r j else at2 x4 r (j - 32)

theorem qu_out (r n : ℕ) (h : 1536 ≤ n) : qu x0 x5 r n = 0 :=
  Finset.sum_eq_zero fun k _ => by rw [at2_out x5 _ _ h, mul_zero]

/-- The rotation from a number and the one exchanged for it. -/
theorem rot_eq (A W : EReal) (z : ℕ → EReal) (r j : ℕ) (hA : j < 64 → A = z j) (hW : j < 64 → W = z ((j + 32) % 64)) (hA' : 64 ≤ j → A = 0) (hW' : 64 ≤ j → W = 0) :
    A * at2 x3 r (sc j) + W * sgn x4 r j = rot x3 x4 z r j := by
  unfold rot sc sgn
  by_cases h : j < 32
  · rw [if_pos h, if_pos (by omega), if_pos h, hA (by omega), hW (by omega), show (j + 32) % 64 = 32 + j by omega, show j % 32 = j by omega, mul_neg, ← sub_eq_add_neg]
  by_cases h' : j < 64
  · rw [if_neg h, if_pos h', if_pos h', if_neg h, hA h', hW h', show (j + 32) % 64 = j - 32 by omega, show j % 32 = j - 32 by omega, add_comm]
  · rw [hA' (by omega), hW' (by omega), zero_mul, zero_mul, add_zero, if_neg h, if_neg h']

theorem rot_out (z : ℕ → EReal) (r j : ℕ) (h : 64 ≤ j) : rot x3 x4 z r j = 0 := by
  unfold rot
  rw [if_neg (by omega), if_neg (by omega)]

end

end Cert.UpMath

end
-- ==== Proof.UpOps.lean ====
/- The blocks the points read and write: where each lies in its array, and what the host program put there. -/
module

public import proofs.«01_k».proof.Proof.UpMath
public import proofs.«01_k».proof.Proof.Gen.Kernel4Ideal.Frame
public import Idealize.ShloMosaic.Lib.VecWindow

@[expose] public section

set_option maxRecDepth 16384

noncomputable section

namespace Cert.Kernel4Ideal.Hand

open Cert.Kernel4Ideal Cert.Kernel4Ideal.Gen Cert.InMath Cert.UpMath
open Idealize.ShloMosaic
open Idealize.ShloMosaic.TcCoe Idealize.ShloMosaic.Tactic
open Idealize.SL.Sem

variable (m : (ℓ : Loc nD τ sig) → Buf (Elt Ideal) ℓ) (c : Dev nD)

abbrev X0 : S32768x512.Idx → EReal := m ((c : Thread nD τ).loc main_arg0)
abbrev X1 : S32768x512.Idx → EReal := m ((c : Thread nD τ).loc main_arg1)
abbrev X2 : S32768x64.Idx → EReal := m ((c : Thread nD τ).loc main_arg2)
abbrev X3 : S32768x32.Idx → EReal := m ((c : Thread nD τ).loc main_arg3)
abbrev X4 : S32768x32.Idx → EReal := m ((c : Thread nD τ).loc main_arg4)
abbrev X5 : S512x1536.Idx → EReal := m ((c : Thread nD τ).loc main_arg5)
abbrev X6 : S512x2048.Idx → EReal := m ((c : Thread nD τ).loc main_arg6)

/-- The halves of 32 of the key's rotated part, exchanged. -/
def catK2 (a b : FVec Ideal S32768x32 .f32) : FVec Ideal S32768x64 .f32 :=
  concatenate S32768x64 1 [⟨S32768x32, a⟩, ⟨S32768x32, b⟩] concatenates_S32768x32_S32768x32_S32768x64_d1

/-- The latents and the key's rotated part, in the columns that `in_proj` leaves them in. -/
def catX (u0 : FVec Ideal S32768x7168 .f32) (u1 u2 : FVec Ideal S32768x512 .f32) (u3 u4 u5 u6 : FVec Ideal S32768x64 .f32) (u7 : FVec Ideal S32768x256 .f32) : FVec Ideal S32768x8704 .f32 :=
  concatenate S32768x8704 1 [⟨S32768x7168, u0⟩, ⟨S32768x512, u1⟩, ⟨S32768x512, u2⟩, ⟨S32768x64, u3⟩, ⟨S32768x64, u4⟩, ⟨S32768x64, u5⟩, ⟨S32768x64, u6⟩, ⟨S32768x256, u7⟩] concatenates_S32768x7168_S32768x512_S32768x512_S32768x64_S32768x64_S32768x64_S32768x64_S32768x256_S32768x8704_d1

/-- A row of the rotation's table. -/
def catT (u0 u1 : FVec Ideal S32768x32 .f32) (u2 : FVec Ideal S32768x64 .f32) : FVec Ideal S32768x128 .f32 :=
  concatenate S32768x128 1 [⟨S32768x32, u0⟩, ⟨S32768x32, u1⟩, ⟨S32768x64, u2⟩] concatenates_S32768x32_S32768x32_S32768x64_S32768x128_d1

/-- A head's columns, padded. -/
def catQ (u0 : FVec Ideal S512x8x128 .f32) (u1 u2 : FVec Ideal S512x8x64 .f32) : FVec Ideal S512x8x256 .f32 :=
  concatenate S512x8x256 2 [⟨S512x8x128, u0⟩, ⟨S512x8x64, u1⟩, ⟨S512x8x64, u2⟩] concatenates_S512x8x128_S512x8x64_S512x8x64_S512x8x256_d2

/-- The columns of zero beside a table. -/
def zt : FVec Ideal S32768x64 .f32 := broadcastInDim S32768x64 ![] bcast_S_S32768x64 (constant (F := Ideal) S_ .f32 0x00000000#32)

theorem ops_eq : (hostOps0 (F := Ideal)) = hostOps0.take 6
    ++ (StableHlo.binary main_v2 main_v3 main_v4 catK2
    :: ((hostOps0.drop 7).take 4
    ++ (StableHlo.nary ![main_v0, main_arg0, main_arg1, main_arg2, main_v1, main_v4, main_v5, main_v6] main_v7 (fun u => catX (u 0) (u 1) (u 2) (u 3) (u 4) (u 5) (u 6) (u 7))
    :: ((hostOps0.drop 12).take 2
    ++ (StableHlo.nary ![main_arg3, main_arg3, main_v8] main_v9 (fun u => catT (u 0) (u 1) (u 2))
    :: ((hostOps0.drop 15).take 1
    ++ (StableHlo.nary ![main_v10, main_arg4, main_v8] main_v11 (fun u => catT (u 0) (u 1) (u 2))
    :: ((hostOps0.drop 17).take 5
    ++ (StableHlo.nary ![main_v13, main_v14, main_v15] main_v16 (fun u => catQ (u 0) (u 1) (u 2))
    :: hostOps0.drop 23))))))))) := rfl

theorem r7 (σ : Valuation τ sig (Elt Ideal)) (h1 h2) :
    (StableHlo.nary ![main_v0, main_arg0, main_arg1, main_arg2, main_v1, main_v4, main_v5, main_v6] main_v7 (fun u => catX (u 0) (u 1) (u 2) (u 3) (u 4) (u 5) (u 6) (u 7)) h1 h2 : HloOp τ sig (Elt Ideal)).result σ (Proc.tc.devRef main_v7)
      = catX (σ (Proc.tc.devRef main_v0)) (σ (Proc.tc.devRef main_arg0)) (σ (Proc.tc.devRef main_arg1)) (σ (Proc.tc.devRef main_arg2)) (σ (Proc.tc.devRef main_v1)) (σ (Proc.tc.devRef main_v4)) (σ (Proc.tc.devRef main_v5)) (σ (Proc.tc.devRef main_v6)) := StableHlo.nary_result _ _ _ h1 h2 σ

theorem r9 (σ : Valuation τ sig (Elt Ideal)) (h1 h2) :
    (StableHlo.nary ![main_arg3, main_arg3, main_v8] main_v9 (fun u => catT (u 0) (u 1) (u 2)) h1 h2 : HloOp τ sig (Elt Ideal)).result σ (Proc.tc.devRef main_v9)
      = catT (σ (Proc.tc.devRef main_arg3)) (σ (Proc.tc.devRef main_arg3)) (σ (Proc.tc.devRef main_v8)) := StableHlo.nary_result _ _ _ h1 h2 σ

theorem r11 (σ : Valuation τ sig (Elt Ideal)) (h1 h2) :
    (StableHlo.nary ![main_v10, main_arg4, main_v8] main_v11 (fun u => catT (u 0) (u 1) (u 2)) h1 h2 : HloOp τ sig (Elt Ideal)).result σ (Proc.tc.devRef main_v11)
      = catT (σ (Proc.tc.devRef main_v10)) (σ (Proc.tc.devRef main_arg4)) (σ (Proc.tc.devRef main_v8)) := StableHlo.nary_result _ _ _ h1 h2 σ

theorem r16 (σ : Valuation τ sig (Elt Ideal)) (h1 h2) :
    (StableHlo.nary ![main_v13, main_v14, main_v15] main_v16 (fun u => catQ (u 0) (u 1) (u 2)) h1 h2 : HloOp τ sig (Elt Ideal)).result σ (Proc.tc.devRef main_v16)
      = catQ (σ (Proc.tc.devRef main_v13)) (σ (Proc.tc.devRef main_v14)) (σ (Proc.tc.devRef main_v15)) := StableHlo.nary_result _ _ _ h1 h2 σ

end Cert.Kernel4Ideal.Hand

end
-- ==== Proof.UpHost.lean ====
/- What the host program puts in the operands of the projections up from the latents. -/
module

public import proofs.«01_k».proof.Proof.UpOps
public import proofs.«01_k».proof.Proof.Gen.Kernel4Ideal.Frame
public import Idealize.ShloMosaic.Lib.VecWindow

@[expose] public section

set_option maxRecDepth 16384

noncomputable section

namespace Cert.Kernel4Ideal.Hand

open Cert.Kernel4Ideal Cert.Kernel4Ideal.Gen Cert.InMath Cert.UpMath
open Idealize.ShloMosaic
open Idealize.ShloMosaic.TcCoe Idealize.ShloMosaic.Tactic
open Idealize.SL.Sem

variable (m : (ℓ : Loc nD τ sig) → Buf (Elt Ideal) ℓ) (c : Dev nD)

set_option maxHeartbeats 1600000 in
theorem V_cos_eq : (V m c main_v9 : S32768x128.Idx → EReal) = catT (X3 m c) (X3 m c) zt := by
  unfold V
  rw [ops_eq]
  simp only [StableHlo.after_append, List.take, List.drop, StableHlo.after_cons, StableHlo.after_nil]
  generalize hσ : HloOp.result (StableHlo.nary ![main_arg3, main_arg3, main_v8] main_v9 _ _ _) _ = σ
  after_results_simp
  rw [← hσ, r9]
  after_results_simp
  rfl

set_option maxHeartbeats 1600000 in
theorem V_sin_eq : (V m c main_v11 : S32768x128.Idx → EReal) = catT (Host.negf (X4 m c)) (X4 m c) zt := by
  unfold V
  rw [ops_eq]
  simp only [StableHlo.after_append, List.take, List.drop, StableHlo.after_cons, StableHlo.after_nil]
  generalize hσ : HloOp.result (StableHlo.nary ![main_v10, main_arg4, main_v8] main_v11 _ _ _) _ = σ
  after_results_simp
  rw [← hσ, r11]
  after_results_simp
  rfl

set_option maxHeartbeats 1600000 in
theorem V_w1_eq : (V m c main_v28 : S512x2048.Idx → EReal) = truncf .bf16 (shapeCast S512x2048 (catQ (extractStridedSlice S512x8x128 ![0, 0, 0] (shapeCast S512x8x192 (X5 m c) shapeCasts_S512x1536_S512x8x192) slices_S512x8x192_S512x8x128_0_0_0) (extractStridedSlice S512x8x64 ![0, 0, 128] (shapeCast S512x8x192 (X5 m c) shapeCasts_S512x1536_S512x8x192) slices_S512x8x192_S512x8x64_0_0_128) (broadcastInDim S512x8x64 ![] bcast_S_S512x8x64 (constant (F := Ideal) S_ .f32 0x00000000#32))) shapeCasts_S512x8x256_S512x2048) bitsLt_bf16_f32 := by
  unfold V
  rw [ops_eq]
  simp only [StableHlo.after_append, List.take, List.drop, StableHlo.after_cons, StableHlo.after_nil]
  generalize hσ : HloOp.result (StableHlo.nary ![main_v13, main_v14, main_v15] main_v16 _ _ _) _ = σ
  after_results_simp
  rw [← hσ, r16]
  generalize hρ : HloOp.result (StableHlo.nary ![main_v10, main_arg4, main_v8] main_v11 _ _ _) _ = ρ
  after_results_simp
  have e : ρ (Proc.tc.devRef main_arg5) = X5 m c := by
    rw [← hρ]
    after_results_simp
  rw [e]
  rfl

set_option maxHeartbeats 1600000 in
theorem V_x_eq : (V m c main_v32 : S32768x8704.Idx → EReal) = truncf .bf16 (catX (broadcastInDim S32768x7168 ![] bcast_S_S32768x7168 (constant (F := Ideal) S_ .f32 0x00000000#32)) (X0 m c) (X1 m c) (X2 m c) zt
    (catK2 (extractStridedSlice S32768x32 ![0, 32] (X2 m c) slices_S32768x64_S32768x32_0_32) (extractStridedSlice S32768x32 ![0, 0] (X2 m c) slices_S32768x64_S32768x32_0_0)) zt
    (broadcastInDim S32768x256 ![] bcast_S_S32768x256 (constant (F := Ideal) S_ .f32 0x00000000#32))) bitsLt_bf16_f32 := by
  unfold V
  rw [ops_eq]
  simp only [StableHlo.after_append, List.take, List.drop, StableHlo.after_cons, StableHlo.after_nil]
  generalize hσ : HloOp.result (StableHlo.nary ![main_v0, main_arg0, main_arg1, main_arg2, main_v1, main_v4, main_v5, main_v6] main_v7 _ _ _) _ = σ
  after_results_simp
  rw [← hσ, r7]
  after_results_simp
  rfl

theorem catT_at (a b : FVec Ideal S32768x32 .f32) (r : Fin 32768) (j : Fin 128) :
    catT a b zt (ix2 r j) = if j.val < 32 then at2 a r.val j.val else at2 b r.val (j.val - 32) := by
  unfold catT zt
  pointwise
  have hj := j.isLt
  by_cases c : j.val < 32
  · rw [dif_pos (by omega), if_pos c]
    exact at2_of a _ _ _ rfl (by dsimp only [ix2]; try omega)
  rw [dif_neg (by omega), if_neg c]
  by_cases c' : j.val < 64
  · rw [dif_pos (by omega)]
    exact at2_of b _ _ _ rfl (by dsimp only [ix2]; try omega)
  · rw [dif_neg (by omega)]
    exact (at2_out b _ _ (by omega)).symm

theorem V_cos (r : Fin 32768) (j : Fin 128) : (V m c main_v9 : S32768x128.Idx → EReal) (ix2 r j) = at2 (X3 m c) r.val (sc j.val) := by
  rw [V_cos_eq, catT_at]
  unfold sc
  by_cases c1 : j.val < 32
  · rw [if_pos c1, if_pos (by omega), Nat.mod_eq_of_lt c1]
  rw [if_neg c1]
  by_cases c2 : j.val < 64
  · rw [if_pos c2, show j.val % 32 = j.val - 32 by omega]
  · rw [if_neg c2, at2_out _ _ _ (by omega), at2_out _ _ _ (by omega)]

theorem V_sin (r : Fin 32768) (j : Fin 128) : (V m c main_v11 : S32768x128.Idx → EReal) (ix2 r j) = sgn (X4 m c) r.val j.val := by
  rw [V_sin_eq, catT_at]
  unfold sgn
  by_cases c1 : j.val < 32
  · rw [if_pos c1, if_pos c1]
    have e := at2_of (X4 m c) (ix2 r ⟨j.val, c1⟩) r.val j.val rfl rfl
    rw [← e]
    refine Eq.trans (at2_of _ (ix2 r ⟨j.val, c1⟩) _ _ rfl rfl).symm ?_
    rfl
  · rw [if_neg c1, if_neg c1]

set_option maxHeartbeats 1600000 in
theorem V_w1 (k : Fin 512) (n : Fin 2048) : (V m c main_v28 : S512x2048.Idx → EReal) (ix2 k n) = at2 (X5 m c) k.val (s1 n.val) := by
  rw [V_w1_eq]
  unfold catQ
  pointwise
  have hn := n.isLt
  by_cases c1 : n.val % 256 < 128
  · refine (dif_pos c1).trans (at2_of (X5 m c) _ _ _ rfl ?_)
    show n.val / 256 * 192 + n.val % 256 = s1 n.val
    unfold s1
    rw [if_pos (by omega)]
  by_cases c2 : n.val % 256 < 192
  · refine (dif_neg c1).trans ((dif_pos (by omega)).trans (at2_of (X5 m c) _ _ _ rfl ?_))
    show n.val / 256 * 192 + (128 + (n.val % 256 - 128)) = s1 n.val
    unfold s1
    rw [if_pos c2]
    omega
  · refine (dif_neg c1).trans ((dif_neg (by omega)).trans (at2_out (X5 m c) _ _ ?_).symm)
    unfold s1
    rw [if_neg c2]

set_option maxHeartbeats 1600000 in
theorem V_w2 (k : Fin 512) (n : Fin 1024) : (V m c main_v29 : S512x1024.Idx → EReal) (ix2 k n) = at2 (X5 m c) k.val (s2 n.val) := by
  entry_read
  pointwise
  have hn := n.isLt
  by_cases c1 : n.val % 128 < 64
  · by_cases c2 : n.val % 128 < 32
    · refine (dif_pos c1).trans ((dif_pos c2).trans (at2_of (X5 m c) _ _ _ rfl ?_))
      show n.val / 128 * 192 + (128 + (32 + n.val % 128)) = s2 n.val
      unfold s2
      rw [if_pos c1]
      omega
    · refine (dif_pos c1).trans ((dif_neg c2).trans (at2_of (X5 m c) _ _ _ rfl ?_))
      show n.val / 128 * 192 + (128 + (n.val % 128 - 32)) = s2 n.val
      unfold s2
      rw [if_pos c1]
      omega
  · refine (dif_neg c1).trans (at2_out (X5 m c) _ _ ?_).symm
    unfold s2
    rw [if_neg c1]

set_option maxHeartbeats 1600000 in
theorem V_k (k : Fin 512) (n : Fin 1024) : (V m c main_v30 : S512x1024.Idx → EReal) (ix2 k n) = at2 (X6 m c) k.val (n.val / 128 * 256 + n.val % 128) := by
  entry_read
  pointwise
  exact at2_of (X6 m c) _ _ _ rfl rfl

set_option maxHeartbeats 1600000 in
theorem V_v (k : Fin 512) (n : Fin 1024) : (V m c main_v31 : S512x1024.Idx → EReal) (ix2 k n) = at2 (X6 m c) k.val (n.val / 128 * 256 + (128 + n.val % 128)) := by
  entry_read
  pointwise
  exact at2_of (X6 m c) _ _ _ rfl rfl

/-- What stands in the operand's columns. -/
def xs (r n : ℕ) : EReal :=
  if n < 7168 then 0 else if n < 7680 then at2 (X0 m c) r (n - 7168) else if n < 8192 then at2 (X1 m c) r (n - 7680)
  else if n < 8256 then at2 (X2 m c) r (n - 8192) else if n < 8320 then 0 else if n < 8384 then at2 (X2 m c) r ((n - 8320 + 32) % 64) else 0

set_option maxHeartbeats 1600000 in
theorem V_x (r : Fin 32768) (n : Fin 8704) : (V m c main_v32 : S32768x8704.Idx → EReal) (ix2 r n) = xs m c r.val n.val := by
  rw [V_x_eq]
  unfold catX catK2 zt
  pointwise
  obtain ⟨N, hN⟩ := n
  unfold xs
  dsimp only
  by_cases c0 : N < 7168
  · rw [dif_pos (by omega), if_pos c0]
  rw [dif_neg (by omega), if_neg c0]
  by_cases c1 : N < 7680
  · rw [dif_pos (by omega), if_pos c1]
    exact at2_of (X0 m c) _ _ _ rfl (by dsimp only [ix2]; try omega)
  rw [dif_neg (by omega), if_neg c1]
  by_cases c2 : N < 8192
  · rw [dif_pos (by omega), if_pos c2]
    exact at2_of (X1 m c) _ _ _ rfl (by dsimp only [ix2]; try omega)
  rw [dif_neg (by omega), if_neg c2]
  by_cases c3 : N < 8256
  · rw [dif_pos (by omega), if_pos c3]
    exact at2_of (X2 m c) _ _ _ rfl (by dsimp only [ix2]; try omega)
  rw [dif_neg (by omega), if_neg c3]
  by_cases c4 : N < 8320
  · rw [dif_pos (by omega), if_pos c4]
  rw [dif_neg (by omega), if_neg c4]
  by_cases c5 : N < 8384
  · rw [dif_pos (by omega), if_pos c5]
    by_cases c6 : N < 8352
    · rw [dif_pos (by omega)]
      exact at2_of (X2 m c) _ _ _ rfl (by dsimp only [ix2]; try omega)
    · rw [dif_neg (by omega)]
      exact at2_of (X2 m c) _ _ _ rfl (by dsimp only [ix2]; try omega)
  rw [dif_neg (by omega), if_neg c5]
  by_cases c6 : N < 8448
  · rw [dif_pos (by omega)]
  · rw [dif_neg (by omega)]

end Cert.Kernel4Ideal.Hand

end
-- ==== Proof.UpBlk.lean ====
/- The blocks the points read and write: where each lies in its array, and what the host program put there. -/
module

public import proofs.«01_k».proof.Proof.UpHost
public import proofs.«01_k».proof.Proof.Gen.Kernel4Ideal.Frame
public import Idealize.ShloMosaic.Lib.VecWindow

@[expose] public section

set_option maxRecDepth 16384

noncomputable section

namespace Cert.Kernel4Ideal.Hand

open Cert.Kernel4Ideal Cert.Kernel4Ideal.Gen Cert.InMath Cert.UpMath
open Idealize.ShloMosaic
open Idealize.ShloMosaic.TcCoe Idealize.ShloMosaic.Tactic
open Idealize.SL.Sem

variable (m : (ℓ : Loc nD τ sig) → Buf (Elt Ideal) ℓ) (c : Dev nD)

theorem win_idx : ∀ t : Fin grid0.N,
    (cfg0.win 0).index t = ![t.val, 14]
    ∧ (cfg0.win 1).index t = ![t.val, 15]
    ∧ (cfg0.win 2).index t = ![t.val, 64]
    ∧ (cfg0.win 3).index t = ![t.val, 65]
    ∧ (cfg0.win 4).index t = ![t.val, 0]
    ∧ (cfg0.win 5).index t = ![t.val, 0]
    ∧ (cfg0.win 6).index t = ![0, 0]
    ∧ (cfg0.win 7).index t = ![0, 0]
    ∧ (cfg0.win 8).index t = ![0, 0]
    ∧ (cfg0.win 9).index t = ![0, 0]
    ∧ (cfg0.win 10).index t = ![0, t.val, 0]
    ∧ (cfg0.win 11).index t = ![0, t.val, 0]
    ∧ (cfg0.win 12).index t = ![0, t.val, 0] := by decide +kernel

theorem covers10 : (cfg0.win 10).Covers := by decide +kernel
theorem covers11 : (cfg0.win 11).Covers := by decide +kernel
theorem covers12 : (cfg0.win 12).Covers := by decide +kernel

theorem tlt (t : Fin cfg0.N) : t.val < 64 := t.isLt

theorem x_blk (t : Fin cfg0.N) (r : Fin 512) (k : Fin 512) : (iblk m c 0 t : Vec Ideal S512x512 .bf16) (ix2 r k) = at2 (X0 m c) (t.val * 512 + r.val) k.val := by
  have ht := tlt t
  have hr := r.isLt
  have hk := k.isLt
  have e : (iblk m c 0 t : Vec Ideal S512x512 .bf16) (ix2 r k) = V m c main_v32 (ix2 ⟨t.val * 512 + r.val, by omega⟩ ⟨7168 + k.val, by omega⟩) := by
    blk_ext [iblk, win_idx t]
  refine e.trans ((V_x m c _ _).trans ?_)
  show xs m c (t.val * 512 + r.val) (7168 + k.val) = _
  unfold xs
  rw [if_neg (by omega), if_pos (by omega), show 7168 + k.val - 7168 = k.val by omega]

theorem y_blk (t : Fin cfg0.N) (r : Fin 512) (k : Fin 512) : (iblk m c 1 t : Vec Ideal S512x512 .bf16) (ix2 r k) = at2 (X1 m c) (t.val * 512 + r.val) k.val := by
  have ht := tlt t
  have hr := r.isLt
  have hk := k.isLt
  have e : (iblk m c 1 t : Vec Ideal S512x512 .bf16) (ix2 r k) = V m c main_v32 (ix2 ⟨t.val * 512 + r.val, by omega⟩ ⟨7680 + k.val, by omega⟩) := by
    blk_ext [iblk, win_idx t]
  refine e.trans ((V_x m c _ _).trans ?_)
  show xs m c (t.val * 512 + r.val) (7680 + k.val) = _
  unfold xs
  rw [if_neg (by omega), if_neg (by omega), if_pos (by omega), show 7680 + k.val - 7680 = k.val by omega]

theorem ka_blk (t : Fin cfg0.N) (r : Fin 512) (k : Fin 128) : (iblk m c 2 t : Vec Ideal S512x128 .bf16) (ix2 r k) = at2 (X2 m c) (t.val * 512 + r.val) k.val := by
  have ht := tlt t
  have hr := r.isLt
  have hk := k.isLt
  have e : (iblk m c 2 t : Vec Ideal S512x128 .bf16) (ix2 r k) = V m c main_v32 (ix2 ⟨t.val * 512 + r.val, by omega⟩ ⟨8192 + k.val, by omega⟩) := by
    blk_ext [iblk, win_idx t]
  refine e.trans ((V_x m c _ _).trans ?_)
  show xs m c (t.val * 512 + r.val) (8192 + k.val) = _
  unfold xs
  rw [if_neg (by omega), if_neg (by omega), if_neg (by omega)]
  by_cases h : k.val < 64
  · rw [if_pos (by omega), show 8192 + k.val - 8192 = k.val by omega]
  · rw [if_neg (by omega), if_pos (by omega), at2_out (X2 m c) _ _ (by omega)]

theorem kb_blk (t : Fin cfg0.N) (r : Fin 512) (k : Fin 128) : (iblk m c 3 t : Vec Ideal S512x128 .bf16) (ix2 r k) = at2 (X2 m c) (t.val * 512 + r.val) (sk k.val) := by
  have ht := tlt t
  have hr := r.isLt
  have hk := k.isLt
  have e : (iblk m c 3 t : Vec Ideal S512x128 .bf16) (ix2 r k) = V m c main_v32 (ix2 ⟨t.val * 512 + r.val, by omega⟩ ⟨8320 + k.val, by omega⟩) := by
    blk_ext [iblk, win_idx t]
  refine e.trans ((V_x m c _ _).trans ?_)
  show xs m c (t.val * 512 + r.val) (8320 + k.val) = _
  unfold xs
  unfold sk
  rw [if_neg (by omega), if_neg (by omega), if_neg (by omega), if_neg (by omega), if_neg (by omega)]
  by_cases h : k.val < 64
  · rw [if_pos (by omega), if_pos h, show 8320 + k.val - 8320 + 32 = k.val + 32 by omega]
  · rw [if_neg (by omega), if_neg h, at2_out (X2 m c) _ _ (by omega)]

theorem co_blk (t : Fin cfg0.N) (r : Fin 512) (j : Fin 128) : (iblk m c 4 t : Vec Ideal S512x128 .f32) (ix2 r j) = at2 (X3 m c) (t.val * 512 + r.val) (sc j.val) := by
  have ht := tlt t
  have hr := r.isLt
  have e : (iblk m c 4 t : Vec Ideal S512x128 .f32) (ix2 r j) = V m c main_v9 (ix2 ⟨t.val * 512 + r.val, by omega⟩ j) := by
    blk_ext [iblk, win_idx t]
  exact e.trans (V_cos m c _ _)

theorem si_blk (t : Fin cfg0.N) (r : Fin 512) (j : Fin 128) : (iblk m c 5 t : Vec Ideal S512x128 .f32) (ix2 r j) = sgn (X4 m c) (t.val * 512 + r.val) j.val := by
  have ht := tlt t
  have hr := r.isLt
  have e : (iblk m c 5 t : Vec Ideal S512x128 .f32) (ix2 r j) = V m c main_v11 (ix2 ⟨t.val * 512 + r.val, by omega⟩ j) := by
    blk_ext [iblk, win_idx t]
  exact e.trans (V_sin m c _ _)

theorem w1_blk (t : Fin cfg0.N) (k : Fin 512) (n : Fin 2048) : (iblk m c 6 t : Vec Ideal S512x2048 .bf16) (ix2 k n) = at2 (X5 m c) k.val (s1 n.val) := by
  have e : (iblk m c 6 t : Vec Ideal S512x2048 .bf16) (ix2 k n) = V m c main_v28 (ix2 k n) := by
    blk_ext [iblk, win_idx t]
  exact e.trans (V_w1 m c _ _)

theorem w2_blk (t : Fin cfg0.N) (k : Fin 512) (n : Fin 1024) : (iblk m c 7 t : Vec Ideal S512x1024 .bf16) (ix2 k n) = at2 (X5 m c) k.val (s2 n.val) := by
  have e : (iblk m c 7 t : Vec Ideal S512x1024 .bf16) (ix2 k n) = V m c main_v29 (ix2 k n) := by
    blk_ext [iblk, win_idx t]
  exact e.trans (V_w2 m c _ _)

theorem wk_blk (t : Fin cfg0.N) (k : Fin 512) (n : Fin 1024) : (iblk m c 8 t : Vec Ideal S512x1024 .bf16) (ix2 k n) = at2 (X6 m c) k.val (n.val / 128 * 256 + n.val % 128) := by
  have e : (iblk m c 8 t : Vec Ideal S512x1024 .bf16) (ix2 k n) = V m c main_v30 (ix2 k n) := by
    blk_ext [iblk, win_idx t]
  exact e.trans (V_k m c _ _)

theorem wv_blk (t : Fin cfg0.N) (k : Fin 512) (n : Fin 1024) : (iblk m c 9 t : Vec Ideal S512x1024 .bf16) (ix2 k n) = at2 (X6 m c) k.val (n.val / 128 * 256 + (128 + n.val % 128)) := by
  have e : (iblk m c 9 t : Vec Ideal S512x1024 .bf16) (ix2 k n) = V m c main_v31 (ix2 k n) := by
    blk_ext [iblk, win_idx t]
  exact e.trans (V_v m c _ _)

end Cert.Kernel4Ideal.Hand

end
-- ==== Proof.UpPay.lean ====
/- The blocks a point leaves: its queries, keys and values, from the values it reads. -/
module

public import proofs.«01_k».proof.Proof.UpMath
public import proofs.«01_k».proof.Proof.Gen.Kernel4Ideal.Value

@[expose] public section

set_option maxRecDepth 16384

noncomputable section

namespace Cert.Kernel4Ideal.Hand

open Cert.Kernel4Ideal Cert.Kernel4Ideal.Gen Cert.InMath Cert.UpMath
open Idealize.ShloMosaic
open Idealize.ShloMosaic.TcCoe Idealize.ShloMosaic.Tactic
open Idealize.SL.Sem

/-- The queries' scale. -/
def bs : EReal := (((Real.sqrt 192 * Real.log 2)⁻¹ : ℝ) : EReal)

/-- The queries' entries. -/
def gQ (v5 v7 : FVec Ideal S512x128 .f32) (v10 : FVec Ideal S512x2048 .f32) (v13 : FVec Ideal S512x1024 .f32) (g r c : ℕ) : EReal :=
  if c % 256 < 128 then at2 v10 r (512 * g + c) * bs
  else (at2 v10 r (512 * g + c) * at2 v5 r (c % 256 - 128) + at2 v13 r ((2 * g + c / 256) * 128 + (c % 256 - 128)) * at2 v7 r (c % 256 - 128)) * bs

/-- The keys'. -/
def gK (v16 : FVec Ideal S512x1024 .f32) (v30 : FVec Ideal S512x128 .bf16) (g r c : ℕ) : EReal :=
  if c % 256 < 128 then at2 v16 r ((2 * g + c / 256) * 128 + c % 256) else at2 v30 r (c % 256 - 128)

section
variable (v5 v7 : FVec Ideal S512x128 .f32) (v10 : FVec Ideal S512x2048 .f32) (v13 v16 : FVec Ideal S512x1024 .f32) (v30 : FVec Ideal S512x128 .bf16)

theorem gQ_n (h g r c j : ℕ) (hj : j < 128) (hg : g = h / 2) (hc : c = h % 2 * 256 + j) : gQ v5 v7 v10 v13 g r c = at2 v10 r (256 * h + j) * bs := by
  unfold gQ
  rw [if_pos (by omega), show 512 * g + c = 256 * h + j by omega]

theorem gQ_r (h g r c j : ℕ) (hj : j < 128) (hg : g = h / 2) (hc : c = h % 2 * 256 + 128 + j) : gQ v5 v7 v10 v13 g r c
    = (at2 v10 r (256 * h + 128 + j) * at2 v5 r j + at2 v13 r (128 * h + j) * at2 v7 r j) * bs := by
  unfold gQ
  rw [if_neg (by omega), show 512 * g + c = 256 * h + 128 + j by omega, show c % 256 - 128 = j by omega, show (2 * g + c / 256) * 128 = 128 * h by omega]

theorem gK_n (h g r c j : ℕ) (hj : j < 128) (hg : g = h / 2) (hc : c = h % 2 * 256 + j) : gK v16 v30 g r c = at2 v16 r (128 * h + j) := by
  unfold gK
  rw [if_pos (by omega), show (2 * g + c / 256) * 128 + c % 256 = 128 * h + j by omega]

theorem gK_r (h g r c j : ℕ) (hj : j < 128) (hg : g = h / 2) (hc : c = h % 2 * 256 + 128 + j) : gK v16 v30 g r c = at2 v30 r j := by
  unfold gK
  rw [if_neg (by omega), show c % 256 - 128 = j by omega]

theorem qn0_at (a : Vec Ideal S512x512 .bf16) (b : Vec Ideal S512x2048 .bf16) (x : S1x512x128.Idx) : k0_pay16 (F := Ideal) (k0_pay15 (F := Ideal) a b) x = gQ v5 v7 (k0_pay10 (F := Ideal) a b) v13 ((r0_4.emb x) 0).val ((r0_4.emb x) 1).val ((r0_4.emb x) 2).val := by
  have h0 : (x 0).val < 1 := (x 0).isLt
  have h1 : (x 1).val < 512 := (x 1).isLt
  have h2 : (x 2).val < 128 := (x 2).isLt
  rw [show ((r0_4.emb x) 1).val = (x 1).val from (show 0 + 1 * (x 1).val = (x 1).val by omega)]
  refine Eq.trans ?_ (gQ_n v5 v7 (k0_pay10 (F := Ideal) a b) v13 0 _ _ _ (x 2).val h2 (show 0 + 1 * (x 0).val = _ by omega) (show 0 + 1 * (x 2).val = _ by omega)).symm
  rw [← at2_of (k0_pay10 (F := Ideal) a b) (ix2 (x 1) ⟨256 * 0 + (x 2).val, by omega⟩) (x 1).val (256 * 0 + (x 2).val) rfl rfl]
  unfold k0_pay16 k0_pay15
  generalize k0_pay10 (F := Ideal) a b = v
  pointwise
  rfl

theorem qr0_at (x : S1x512x128.Idx) : k0_pay17 (F := Ideal) v5 v7 v10 v13 x = gQ v5 v7 v10 v13 ((r0_5.emb x) 0).val ((r0_5.emb x) 1).val ((r0_5.emb x) 2).val := by
  have h0 : (x 0).val < 1 := (x 0).isLt
  have h1 : (x 1).val < 512 := (x 1).isLt
  have h2 : (x 2).val < 128 := (x 2).isLt
  rw [show ((r0_5.emb x) 1).val = (x 1).val from (show 0 + 1 * (x 1).val = (x 1).val by omega)]
  refine Eq.trans ?_ (gQ_r v5 v7 v10 v13 0 _ _ _ (x 2).val h2 (show 0 + 1 * (x 0).val = _ by omega) (show 128 + 1 * (x 2).val = _ by omega)).symm
  rw [← at2_of v10 (ix2 (x 1) ⟨256 * 0 + 128 + (x 2).val, by omega⟩) (x 1).val (256 * 0 + 128 + (x 2).val) rfl rfl, ← at2_of v5 (ix2 (x 1) (x 2)) (x 1).val (x 2).val rfl rfl, ← at2_of v13 (ix2 (x 1) ⟨128 * 0 + (x 2).val, by omega⟩) (x 1).val (128 * 0 + (x 2).val) rfl rfl, ← at2_of v7 (ix2 (x 1) (x 2)) (x 1).val (x 2).val rfl rfl]
  pointwise [k0_pay17]
  rfl

theorem kn0_at (x : S1x512x128.Idx) : k0_pay18 (F := Ideal) v16 x = gK v16 v30 ((r0_4.emb x) 0).val ((r0_4.emb x) 1).val ((r0_4.emb x) 2).val := by
  have h0 : (x 0).val < 1 := (x 0).isLt
  have h1 : (x 1).val < 512 := (x 1).isLt
  have h2 : (x 2).val < 128 := (x 2).isLt
  rw [show ((r0_4.emb x) 1).val = (x 1).val from (show 0 + 1 * (x 1).val = (x 1).val by omega)]
  refine Eq.trans ?_ (gK_n v16 v30 0 _ _ _ (x 2).val h2 (show 0 + 1 * (x 0).val = _ by omega) (show 0 + 1 * (x 2).val = _ by omega)).symm
  rw [← at2_of v16 (ix2 (x 1) ⟨128 * 0 + (x 2).val, by omega⟩) (x 1).val (128 * 0 + (x 2).val) rfl rfl]
  pointwise [k0_pay18]

theorem kr0_at (x : S1x512x128.Idx) : k0_pay19 (F := Ideal) v30 x = gK v16 v30 ((r0_5.emb x) 0).val ((r0_5.emb x) 1).val ((r0_5.emb x) 2).val := by
  have h0 : (x 0).val < 1 := (x 0).isLt
  have h1 : (x 1).val < 512 := (x 1).isLt
  have h2 : (x 2).val < 128 := (x 2).isLt
  rw [show ((r0_5.emb x) 1).val = (x 1).val from (show 0 + 1 * (x 1).val = (x 1).val by omega)]
  refine Eq.trans ?_ (gK_r v16 v30 0 _ _ _ (x 2).val h2 (show 0 + 1 * (x 0).val = _ by omega) (show 128 + 1 * (x 2).val = _ by omega)).symm
  rw [← at2_of v30 (ix2 (x 1) (x 2)) (x 1).val (x 2).val rfl rfl]
  pointwise [k0_pay19]

theorem qn1_at (x : S1x512x128.Idx) : k0_pay21 (F := Ideal) v10 x = gQ v5 v7 v10 v13 ((r0_7.emb x) 0).val ((r0_7.emb x) 1).val ((r0_7.emb x) 2).val := by
  have h0 : (x 0).val < 1 := (x 0).isLt
  have h1 : (x 1).val < 512 := (x 1).isLt
  have h2 : (x 2).val < 128 := (x 2).isLt
  rw [show ((r0_7.emb x) 1).val = (x 1).val from (show 0 + 1 * (x 1).val = (x 1).val by omega)]
  refine Eq.trans ?_ (gQ_n v5 v7 v10 v13 1 _ _ _ (x 2).val h2 (show 0 + 1 * (x 0).val = _ by omega) (show 256 + 1 * (x 2).val = _ by omega)).symm
  rw [← at2_of v10 (ix2 (x 1) ⟨256 * 1 + (x 2).val, by omega⟩) (x 1).val (256 * 1 + (x 2).val) rfl rfl]
  pointwise [k0_pay21]
  rfl

theorem qr1_at (x : S1x512x128.Idx) : k0_pay22 (F := Ideal) v5 v7 v10 v13 x = gQ v5 v7 v10 v13 ((r0_8.emb x) 0).val ((r0_8.emb x) 1).val ((r0_8.emb x) 2).val := by
  have h0 : (x 0).val < 1 := (x 0).isLt
  have h1 : (x 1).val < 512 := (x 1).isLt
  have h2 : (x 2).val < 128 := (x 2).isLt
  rw [show ((r0_8.emb x) 1).val = (x 1).val from (show 0 + 1 * (x 1).val = (x 1).val by omega)]
  refine Eq.trans ?_ (gQ_r v5 v7 v10 v13 1 _ _ _ (x 2).val h2 (show 0 + 1 * (x 0).val = _ by omega) (show 384 + 1 * (x 2).val = _ by omega)).symm
  rw [← at2_of v10 (ix2 (x 1) ⟨256 * 1 + 128 + (x 2).val, by omega⟩) (x 1).val (256 * 1 + 128 + (x 2).val) rfl rfl, ← at2_of v5 (ix2 (x 1) (x 2)) (x 1).val (x 2).val rfl rfl, ← at2_of v13 (ix2 (x 1) ⟨128 * 1 + (x 2).val, by omega⟩) (x 1).val (128 * 1 + (x 2).val) rfl rfl, ← at2_of v7 (ix2 (x 1) (x 2)) (x 1).val (x 2).val rfl rfl]
  pointwise [k0_pay22]
  rfl

theorem kn1_at (x : S1x512x128.Idx) : k0_pay23 (F := Ideal) v16 x = gK v16 v30 ((r0_7.emb x) 0).val ((r0_7.emb x) 1).val ((r0_7.emb x) 2).val := by
  have h0 : (x 0).val < 1 := (x 0).isLt
  have h1 : (x 1).val < 512 := (x 1).isLt
  have h2 : (x 2).val < 128 := (x 2).isLt
  rw [show ((r0_7.emb x) 1).val = (x 1).val from (show 0 + 1 * (x 1).val = (x 1).val by omega)]
  refine Eq.trans ?_ (gK_n v16 v30 1 _ _ _ (x 2).val h2 (show 0 + 1 * (x 0).val = _ by omega) (show 256 + 1 * (x 2).val = _ by omega)).symm
  rw [← at2_of v16 (ix2 (x 1) ⟨128 * 1 + (x 2).val, by omega⟩) (x 1).val (128 * 1 + (x 2).val) rfl rfl]
  pointwise [k0_pay23]

theorem kr1_at (x : S1x512x128.Idx) : k0_pay24 (F := Ideal) v30 x = gK v16 v30 ((r0_8.emb x) 0).val ((r0_8.emb x) 1).val ((r0_8.emb x) 2).val := by
  have h0 : (x 0).val < 1 := (x 0).isLt
  have h1 : (x 1).val < 512 := (x 1).isLt
  have h2 : (x 2).val < 128 := (x 2).isLt
  rw [show ((r0_8.emb x) 1).val = (x 1).val from (show 0 + 1 * (x 1).val = (x 1).val by omega)]
  refine Eq.trans ?_ (gK_r v16 v30 1 _ _ _ (x 2).val h2 (show 0 + 1 * (x 0).val = _ by omega) (show 384 + 1 * (x 2).val = _ by omega)).symm
  rw [← at2_of v30 (ix2 (x 1) (x 2)) (x 1).val (x 2).val rfl rfl]
  pointwise [k0_pay24]

theorem qn2_at (x : S1x512x128.Idx) : k0_pay26 (F := Ideal) v10 x = gQ v5 v7 v10 v13 ((r0_10.emb x) 0).val ((r0_10.emb x) 1).val ((r0_10.emb x) 2).val := by
  have h0 : (x 0).val < 1 := (x 0).isLt
  have h1 : (x 1).val < 512 := (x 1).isLt
  have h2 : (x 2).val < 128 := (x 2).isLt
  rw [show ((r0_10.emb x) 1).val = (x 1).val from (show 0 + 1 * (x 1).val = (x 1).val by omega)]
  refine Eq.trans ?_ (gQ_n v5 v7 v10 v13 2 _ _ _ (x 2).val h2 (show 1 + 1 * (x 0).val = _ by omega) (show 0 + 1 * (x 2).val = _ by omega)).symm
  rw [← at2_of v10 (ix2 (x 1) ⟨256 * 2 + (x 2).val, by omega⟩) (x 1).val (256 * 2 + (x 2).val) rfl rfl]
  pointwise [k0_pay26]
  rfl

theorem qr2_at (x : S1x512x128.Idx) : k0_pay28 (F := Ideal) (k0_pay27 (F := Ideal) v5 v7 v10 v13) x = gQ v5 v7 v10 v13 ((r0_11.emb x) 0).val ((r0_11.emb x) 1).val ((r0_11.emb x) 2).val := by
  have h0 : (x 0).val < 1 := (x 0).isLt
  have h1 : (x 1).val < 512 := (x 1).isLt
  have h2 : (x 2).val < 128 := (x 2).isLt
  rw [show ((r0_11.emb x) 1).val = (x 1).val from (show 0 + 1 * (x 1).val = (x 1).val by omega)]
  refine Eq.trans ?_ (gQ_r v5 v7 v10 v13 2 _ _ _ (x 2).val h2 (show 1 + 1 * (x 0).val = _ by omega) (show 128 + 1 * (x 2).val = _ by omega)).symm
  rw [← at2_of v10 (ix2 (x 1) ⟨256 * 2 + 128 + (x 2).val, by omega⟩) (x 1).val (256 * 2 + 128 + (x 2).val) rfl rfl, ← at2_of v5 (ix2 (x 1) (x 2)) (x 1).val (x 2).val rfl rfl, ← at2_of v13 (ix2 (x 1) ⟨128 * 2 + (x 2).val, by omega⟩) (x 1).val (128 * 2 + (x 2).val) rfl rfl, ← at2_of v7 (ix2 (x 1) (x 2)) (x 1).val (x 2).val rfl rfl]
  pointwise [k0_pay28, k0_pay27]
  rfl

theorem kn2_at (x : S1x512x128.Idx) : k0_pay29 (F := Ideal) v16 x = gK v16 v30 ((r0_10.emb x) 0).val ((r0_10.emb x) 1).val ((r0_10.emb x) 2).val := by
  have h0 : (x 0).val < 1 := (x 0).isLt
  have h1 : (x 1).val < 512 := (x 1).isLt
  have h2 : (x 2).val < 128 := (x 2).isLt
  rw [show ((r0_10.emb x) 1).val = (x 1).val from (show 0 + 1 * (x 1).val = (x 1).val by omega)]
  refine Eq.trans ?_ (gK_n v16 v30 2 _ _ _ (x 2).val h2 (show 1 + 1 * (x 0).val = _ by omega) (show 0 + 1 * (x 2).val = _ by omega)).symm
  rw [← at2_of v16 (ix2 (x 1) ⟨128 * 2 + (x 2).val, by omega⟩) (x 1).val (128 * 2 + (x 2).val) rfl rfl]
  pointwise [k0_pay29]

theorem kr2_at (x : S1x512x128.Idx) : k0_pay30 (F := Ideal) v30 x = gK v16 v30 ((r0_11.emb x) 0).val ((r0_11.emb x) 1).val ((r0_11.emb x) 2).val := by
  have h0 : (x 0).val < 1 := (x 0).isLt
  have h1 : (x 1).val < 512 := (x 1).isLt
  have h2 : (x 2).val < 128 := (x 2).isLt
  rw [show ((r0_11.emb x) 1).val = (x 1).val from (show 0 + 1 * (x 1).val = (x 1).val by omega)]
  refine Eq.trans ?_ (gK_r v16 v30 2 _ _ _ (x 2).val h2 (show 1 + 1 * (x 0).val = _ by omega) (show 128 + 1 * (x 2).val = _ by omega)).symm
  rw [← at2_of v30 (ix2 (x 1) (x 2)) (x 1).val (x 2).val rfl rfl]
  pointwise [k0_pay30]

theorem qn3_at (x : S1x512x128.Idx) : k0_pay32 (F := Ideal) v10 x = gQ v5 v7 v10 v13 ((r0_13.emb x) 0).val ((r0_13.emb x) 1).val ((r0_13.emb x) 2).val := by
  have h0 : (x 0).val < 1 := (x 0).isLt
  have h1 : (x 1).val < 512 := (x 1).isLt
  have h2 : (x 2).val < 128 := (x 2).isLt
  rw [show ((r0_13.emb x) 1).val = (x 1).val from (show 0 + 1 * (x 1).val = (x 1).val by omega)]
  refine Eq.trans ?_ (gQ_n v5 v7 v10 v13 3 _ _ _ (x 2).val h2 (show 1 + 1 * (x 0).val = _ by omega) (show 256 + 1 * (x 2).val = _ by omega)).symm
  rw [← at2_of v10 (ix2 (x 1) ⟨256 * 3 + (x 2).val, by omega⟩) (x 1).val (256 * 3 + (x 2).val) rfl rfl]
  pointwise [k0_pay32]
  rfl

theorem qr3_at (x : S1x512x128.Idx) : k0_pay33 (F := Ideal) v5 v7 v10 v13 x = gQ v5 v7 v10 v13 ((r0_14.emb x) 0).val ((r0_14.emb x) 1).val ((r0_14.emb x) 2).val := by
  have h0 : (x 0).val < 1 := (x 0).isLt
  have h1 : (x 1).val < 512 := (x 1).isLt
  have h2 : (x 2).val < 128 := (x 2).isLt
  rw [show ((r0_14.emb x) 1).val = (x 1).val from (show 0 + 1 * (x 1).val = (x 1).val by omega)]
  refine Eq.trans ?_ (gQ_r v5 v7 v10 v13 3 _ _ _ (x 2).val h2 (show 1 + 1 * (x 0).val = _ by omega) (show 384 + 1 * (x 2).val = _ by omega)).symm
  rw [← at2_of v10 (ix2 (x 1) ⟨256 * 3 + 128 + (x 2).val, by omega⟩) (x 1).val (256 * 3 + 128 + (x 2).val) rfl rfl, ← at2_of v5 (ix2 (x 1) (x 2)) (x 1).val (x 2).val rfl rfl, ← at2_of v13 (ix2 (x 1) ⟨128 * 3 + (x 2).val, by omega⟩) (x 1).val (128 * 3 + (x 2).val) rfl rfl, ← at2_of v7 (ix2 (x 1) (x 2)) (x 1).val (x 2).val rfl rfl]
  pointwise [k0_pay33]
  rfl

theorem kn3_at (x : S1x512x128.Idx) : k0_pay34 (F := Ideal) v16 x = gK v16 v30 ((r0_13.emb x) 0).val ((r0_13.emb x) 1).val ((r0_13.emb x) 2).val := by
  have h0 : (x 0).val < 1 := (x 0).isLt
  have h1 : (x 1).val < 512 := (x 1).isLt
  have h2 : (x 2).val < 128 := (x 2).isLt
  rw [show ((r0_13.emb x) 1).val = (x 1).val from (show 0 + 1 * (x 1).val = (x 1).val by omega)]
  refine Eq.trans ?_ (gK_n v16 v30 3 _ _ _ (x 2).val h2 (show 1 + 1 * (x 0).val = _ by omega) (show 256 + 1 * (x 2).val = _ by omega)).symm
  rw [← at2_of v16 (ix2 (x 1) ⟨128 * 3 + (x 2).val, by omega⟩) (x 1).val (128 * 3 + (x 2).val) rfl rfl]
  pointwise [k0_pay34]

theorem kr3_at (x : S1x512x128.Idx) : k0_pay35 (F := Ideal) v30 x = gK v16 v30 ((r0_14.emb x) 0).val ((r0_14.emb x) 1).val ((r0_14.emb x) 2).val := by
  have h0 : (x 0).val < 1 := (x 0).isLt
  have h1 : (x 1).val < 512 := (x 1).isLt
  have h2 : (x 2).val < 128 := (x 2).isLt
  rw [show ((r0_14.emb x) 1).val = (x 1).val from (show 0 + 1 * (x 1).val = (x 1).val by omega)]
  refine Eq.trans ?_ (gK_r v16 v30 3 _ _ _ (x 2).val h2 (show 1 + 1 * (x 0).val = _ by omega) (show 384 + 1 * (x 2).val = _ by omega)).symm
  rw [← at2_of v30 (ix2 (x 1) (x 2)) (x 1).val (x 2).val rfl rfl]
  pointwise [k0_pay35]

theorem qn4_at (x : S1x512x128.Idx) : k0_pay37 (F := Ideal) v10 x = gQ v5 v7 v10 v13 ((r0_16.emb x) 0).val ((r0_16.emb x) 1).val ((r0_16.emb x) 2).val := by
  have h0 : (x 0).val < 1 := (x 0).isLt
  have h1 : (x 1).val < 512 := (x 1).isLt
  have h2 : (x 2).val < 128 := (x 2).isLt
  rw [show ((r0_16.emb x) 1).val = (x 1).val from (show 0 + 1 * (x 1).val = (x 1).val by omega)]
  refine Eq.trans ?_ (gQ_n v5 v7 v10 v13 4 _ _ _ (x 2).val h2 (show 2 + 1 * (x 0).val = _ by omega) (show 0 + 1 * (x 2).val = _ by omega)).symm
  rw [← at2_of v10 (ix2 (x 1) ⟨256 * 4 + (x 2).val, by omega⟩) (x 1).val (256 * 4 + (x 2).val) rfl rfl]
  pointwise [k0_pay37]
  rfl

theorem qr4_at (x : S1x512x128.Idx) : k0_pay38 (F := Ideal) v5 v7 v10 v13 x = gQ v5 v7 v10 v13 ((r0_17.emb x) 0).val ((r0_17.emb x) 1).val ((r0_17.emb x) 2).val := by
  have h0 : (x 0).val < 1 := (x 0).isLt
  have h1 : (x 1).val < 512 := (x 1).isLt
  have h2 : (x 2).val < 128 := (x 2).isLt
  rw [show ((r0_17.emb x) 1).val = (x 1).val from (show 0 + 1 * (x 1).val = (x 1).val by omega)]
  refine Eq.trans ?_ (gQ_r v5 v7 v10 v13 4 _ _ _ (x 2).val h2 (show 2 + 1 * (x 0).val = _ by omega) (show 128 + 1 * (x 2).val = _ by omega)).symm
  rw [← at2_of v10 (ix2 (x 1) ⟨256 * 4 + 128 + (x 2).val, by omega⟩) (x 1).val (256 * 4 + 128 + (x 2).val) rfl rfl, ← at2_of v5 (ix2 (x 1) (x 2)) (x 1).val (x 2).val rfl rfl, ← at2_of v13 (ix2 (x 1) ⟨128 * 4 + (x 2).val, by omega⟩) (x 1).val (128 * 4 + (x 2).val) rfl rfl, ← at2_of v7 (ix2 (x 1) (x 2)) (x 1).val (x 2).val rfl rfl]
  pointwise [k0_pay38]
  rfl

theorem kn4_at (x : S1x512x128.Idx) : k0_pay39 (F := Ideal) v16 x = gK v16 v30 ((r0_16.emb x) 0).val ((r0_16.emb x) 1).val ((r0_16.emb x) 2).val := by
  have h0 : (x 0).val < 1 := (x 0).isLt
  have h1 : (x 1).val < 512 := (x 1).isLt
  have h2 : (x 2).val < 128 := (x 2).isLt
  rw [show ((r0_16.emb x) 1).val = (x 1).val from (show 0 + 1 * (x 1).val = (x 1).val by omega)]
  refine Eq.trans ?_ (gK_n v16 v30 4 _ _ _ (x 2).val h2 (show 2 + 1 * (x 0).val = _ by omega) (show 0 + 1 * (x 2).val = _ by omega)).symm
  rw [← at2_of v16 (ix2 (x 1) ⟨128 * 4 + (x 2).val, by omega⟩) (x 1).val (128 * 4 + (x 2).val) rfl rfl]
  pointwise [k0_pay39]

theorem kr4_at (x : S1x512x128.Idx) : k0_pay40 (F := Ideal) v30 x = gK v16 v30 ((r0_17.emb x) 0).val ((r0_17.emb x) 1).val ((r0_17.emb x) 2).val := by
  have h0 : (x 0).val < 1 := (x 0).isLt
  have h1 : (x 1).val < 512 := (x 1).isLt
  have h2 : (x 2).val < 128 := (x 2).isLt
  rw [show ((r0_17.emb x) 1).val = (x 1).val from (show 0 + 1 * (x 1).val = (x 1).val by omega)]
  refine Eq.trans ?_ (gK_r v16 v30 4 _ _ _ (x 2).val h2 (show 2 + 1 * (x 0).val = _ by omega) (show 128 + 1 * (x 2).val = _ by omega)).symm
  rw [← at2_of v30 (ix2 (x 1) (x 2)) (x 1).val (x 2).val rfl rfl]
  pointwise [k0_pay40]

theorem qn5_at (x : S1x512x128.Idx) : k0_pay42 (F := Ideal) v10 x = gQ v5 v7 v10 v13 ((r0_19.emb x) 0).val ((r0_19.emb x) 1).val ((r0_19.emb x) 2).val := by
  have h0 : (x 0).val < 1 := (x 0).isLt
  have h1 : (x 1).val < 512 := (x 1).isLt
  have h2 : (x 2).val < 128 := (x 2).isLt
  rw [show ((r0_19.emb x) 1).val = (x 1).val from (show 0 + 1 * (x 1).val = (x 1).val by omega)]
  refine Eq.trans ?_ (gQ_n v5 v7 v10 v13 5 _ _ _ (x 2).val h2 (show 2 + 1 * (x 0).val = _ by omega) (show 256 + 1 * (x 2).val = _ by omega)).symm
  rw [← at2_of v10 (ix2 (x 1) ⟨256 * 5 + (x 2).val, by omega⟩) (x 1).val (256 * 5 + (x 2).val) rfl rfl]
  pointwise [k0_pay42]
  rfl

theorem qr5_at (x : S1x512x128.Idx) : k0_pay43 (F := Ideal) v5 v7 v10 v13 x = gQ v5 v7 v10 v13 ((r0_20.emb x) 0).val ((r0_20.emb x) 1).val ((r0_20.emb x) 2).val := by
  have h0 : (x 0).val < 1 := (x 0).isLt
  have h1 : (x 1).val < 512 := (x 1).isLt
  have h2 : (x 2).val < 128 := (x 2).isLt
  rw [show ((r0_20.emb x) 1).val = (x 1).val from (show 0 + 1 * (x 1).val = (x 1).val by omega)]
  refine Eq.trans ?_ (gQ_r v5 v7 v10 v13 5 _ _ _ (x 2).val h2 (show 2 + 1 * (x 0).val = _ by omega) (show 384 + 1 * (x 2).val = _ by omega)).symm
  rw [← at2_of v10 (ix2 (x 1) ⟨256 * 5 + 128 + (x 2).val, by omega⟩) (x 1).val (256 * 5 + 128 + (x 2).val) rfl rfl, ← at2_of v5 (ix2 (x 1) (x 2)) (x 1).val (x 2).val rfl rfl, ← at2_of v13 (ix2 (x 1) ⟨128 * 5 + (x 2).val, by omega⟩) (x 1).val (128 * 5 + (x 2).val) rfl rfl, ← at2_of v7 (ix2 (x 1) (x 2)) (x 1).val (x 2).val rfl rfl]
  pointwise [k0_pay43]
  rfl

theorem kn5_at (x : S1x512x128.Idx) : k0_pay44 (F := Ideal) v16 x = gK v16 v30 ((r0_19.emb x) 0).val ((r0_19.emb x) 1).val ((r0_19.emb x) 2).val := by
  have h0 : (x 0).val < 1 := (x 0).isLt
  have h1 : (x 1).val < 512 := (x 1).isLt
  have h2 : (x 2).val < 128 := (x 2).isLt
  rw [show ((r0_19.emb x) 1).val = (x 1).val from (show 0 + 1 * (x 1).val = (x 1).val by omega)]
  refine Eq.trans ?_ (gK_n v16 v30 5 _ _ _ (x 2).val h2 (show 2 + 1 * (x 0).val = _ by omega) (show 256 + 1 * (x 2).val = _ by omega)).symm
  rw [← at2_of v16 (ix2 (x 1) ⟨128 * 5 + (x 2).val, by omega⟩) (x 1).val (128 * 5 + (x 2).val) rfl rfl]
  pointwise [k0_pay44]

theorem kr5_at (x : S1x512x128.Idx) : k0_pay45 (F := Ideal) v30 x = gK v16 v30 ((r0_20.emb x) 0).val ((r0_20.emb x) 1).val ((r0_20.emb x) 2).val := by
  have h0 : (x 0).val < 1 := (x 0).isLt
  have h1 : (x 1).val < 512 := (x 1).isLt
  have h2 : (x 2).val < 128 := (x 2).isLt
  rw [show ((r0_20.emb x) 1).val = (x 1).val from (show 0 + 1 * (x 1).val = (x 1).val by omega)]
  refine Eq.trans ?_ (gK_r v16 v30 5 _ _ _ (x 2).val h2 (show 2 + 1 * (x 0).val = _ by omega) (show 384 + 1 * (x 2).val = _ by omega)).symm
  rw [← at2_of v30 (ix2 (x 1) (x 2)) (x 1).val (x 2).val rfl rfl]
  pointwise [k0_pay45]

theorem qn6_at (x : S1x512x128.Idx) : k0_pay47 (F := Ideal) v10 x = gQ v5 v7 v10 v13 ((r0_22.emb x) 0).val ((r0_22.emb x) 1).val ((r0_22.emb x) 2).val := by
  have h0 : (x 0).val < 1 := (x 0).isLt
  have h1 : (x 1).val < 512 := (x 1).isLt
  have h2 : (x 2).val < 128 := (x 2).isLt
  rw [show ((r0_22.emb x) 1).val = (x 1).val from (show 0 + 1 * (x 1).val = (x 1).val by omega)]
  refine Eq.trans ?_ (gQ_n v5 v7 v10 v13 6 _ _ _ (x 2).val h2 (show 3 + 1 * (x 0).val = _ by omega) (show 0 + 1 * (x 2).val = _ by omega)).symm
  rw [← at2_of v10 (ix2 (x 1) ⟨256 * 6 + (x 2).val, by omega⟩) (x 1).val (256 * 6 + (x 2).val) rfl rfl]
  pointwise [k0_pay47]
  rfl

theorem qr6_at (x : S1x512x128.Idx) : k0_pay48 (F := Ideal) v5 v7 v10 v13 x = gQ v5 v7 v10 v13 ((r0_23.emb x) 0).val ((r0_23.emb x) 1).val ((r0_23.emb x) 2).val := by
  have h0 : (x 0).val < 1 := (x 0).isLt
  have h1 : (x 1).val < 512 := (x 1).isLt
  have h2 : (x 2).val < 128 := (x 2).isLt
  rw [show ((r0_23.emb x) 1).val = (x 1).val from (show 0 + 1 * (x 1).val = (x 1).val by omega)]
  refine Eq.trans ?_ (gQ_r v5 v7 v10 v13 6 _ _ _ (x 2).val h2 (show 3 + 1 * (x 0).val = _ by omega) (show 128 + 1 * (x 2).val = _ by omega)).symm
  rw [← at2_of v10 (ix2 (x 1) ⟨256 * 6 + 128 + (x 2).val, by omega⟩) (x 1).val (256 * 6 + 128 + (x 2).val) rfl rfl, ← at2_of v5 (ix2 (x 1) (x 2)) (x 1).val (x 2).val rfl rfl, ← at2_of v13 (ix2 (x 1) ⟨128 * 6 + (x 2).val, by omega⟩) (x 1).val (128 * 6 + (x 2).val) rfl rfl, ← at2_of v7 (ix2 (x 1) (x 2)) (x 1).val (x 2).val rfl rfl]
  pointwise [k0_pay48]
  rfl

theorem kn6_at (x : S1x512x128.Idx) : k0_pay49 (F := Ideal) v16 x = gK v16 v30 ((r0_22.emb x) 0).val ((r0_22.emb x) 1).val ((r0_22.emb x) 2).val := by
  have h0 : (x 0).val < 1 := (x 0).isLt
  have h1 : (x 1).val < 512 := (x 1).isLt
  have h2 : (x 2).val < 128 := (x 2).isLt
  rw [show ((r0_22.emb x) 1).val = (x 1).val from (show 0 + 1 * (x 1).val = (x 1).val by omega)]
  refine Eq.trans ?_ (gK_n v16 v30 6 _ _ _ (x 2).val h2 (show 3 + 1 * (x 0).val = _ by omega) (show 0 + 1 * (x 2).val = _ by omega)).symm
  rw [← at2_of v16 (ix2 (x 1) ⟨128 * 6 + (x 2).val, by omega⟩) (x 1).val (128 * 6 + (x 2).val) rfl rfl]
  pointwise [k0_pay49]

theorem kr6_at (x : S1x512x128.Idx) : k0_pay50 (F := Ideal) v30 x = gK v16 v30 ((r0_23.emb x) 0).val ((r0_23.emb x) 1).val ((r0_23.emb x) 2).val := by
  have h0 : (x 0).val < 1 := (x 0).isLt
  have h1 : (x 1).val < 512 := (x 1).isLt
  have h2 : (x 2).val < 128 := (x 2).isLt
  rw [show ((r0_23.emb x) 1).val = (x 1).val from (show 0 + 1 * (x 1).val = (x 1).val by omega)]
  refine Eq.trans ?_ (gK_r v16 v30 6 _ _ _ (x 2).val h2 (show 3 + 1 * (x 0).val = _ by omega) (show 128 + 1 * (x 2).val = _ by omega)).symm
  rw [← at2_of v30 (ix2 (x 1) (x 2)) (x 1).val (x 2).val rfl rfl]
  pointwise [k0_pay50]

theorem qn7_at (x : S1x512x128.Idx) : k0_pay1 (F := Ideal) v10 x = gQ v5 v7 v10 v13 ((r0_25.emb x) 0).val ((r0_25.emb x) 1).val ((r0_25.emb x) 2).val := by
  have h0 : (x 0).val < 1 := (x 0).isLt
  have h1 : (x 1).val < 512 := (x 1).isLt
  have h2 : (x 2).val < 128 := (x 2).isLt
  rw [show ((r0_25.emb x) 1).val = (x 1).val from (show 0 + 1 * (x 1).val = (x 1).val by omega)]
  refine Eq.trans ?_ (gQ_n v5 v7 v10 v13 7 _ _ _ (x 2).val h2 (show 3 + 1 * (x 0).val = _ by omega) (show 256 + 1 * (x 2).val = _ by omega)).symm
  rw [← at2_of v10 (ix2 (x 1) ⟨256 * 7 + (x 2).val, by omega⟩) (x 1).val (256 * 7 + (x 2).val) rfl rfl]
  pointwise [k0_pay1]
  rfl

theorem qr7_at (x : S1x512x128.Idx) : k0_pay2 (F := Ideal) v5 v7 v10 v13 x = gQ v5 v7 v10 v13 ((r0_26.emb x) 0).val ((r0_26.emb x) 1).val ((r0_26.emb x) 2).val := by
  have h0 : (x 0).val < 1 := (x 0).isLt
  have h1 : (x 1).val < 512 := (x 1).isLt
  have h2 : (x 2).val < 128 := (x 2).isLt
  rw [show ((r0_26.emb x) 1).val = (x 1).val from (show 0 + 1 * (x 1).val = (x 1).val by omega)]
  refine Eq.trans ?_ (gQ_r v5 v7 v10 v13 7 _ _ _ (x 2).val h2 (show 3 + 1 * (x 0).val = _ by omega) (show 384 + 1 * (x 2).val = _ by omega)).symm
  rw [← at2_of v10 (ix2 (x 1) ⟨256 * 7 + 128 + (x 2).val, by omega⟩) (x 1).val (256 * 7 + 128 + (x 2).val) rfl rfl, ← at2_of v5 (ix2 (x 1) (x 2)) (x 1).val (x 2).val rfl rfl, ← at2_of v13 (ix2 (x 1) ⟨128 * 7 + (x 2).val, by omega⟩) (x 1).val (128 * 7 + (x 2).val) rfl rfl, ← at2_of v7 (ix2 (x 1) (x 2)) (x 1).val (x 2).val rfl rfl]
  pointwise [k0_pay2]
  rfl

theorem kn7_at (x : S1x512x128.Idx) : k0_pay3 (F := Ideal) v16 x = gK v16 v30 ((r0_25.emb x) 0).val ((r0_25.emb x) 1).val ((r0_25.emb x) 2).val := by
  have h0 : (x 0).val < 1 := (x 0).isLt
  have h1 : (x 1).val < 512 := (x 1).isLt
  have h2 : (x 2).val < 128 := (x 2).isLt
  rw [show ((r0_25.emb x) 1).val = (x 1).val from (show 0 + 1 * (x 1).val = (x 1).val by omega)]
  refine Eq.trans ?_ (gK_n v16 v30 7 _ _ _ (x 2).val h2 (show 3 + 1 * (x 0).val = _ by omega) (show 256 + 1 * (x 2).val = _ by omega)).symm
  rw [← at2_of v16 (ix2 (x 1) ⟨128 * 7 + (x 2).val, by omega⟩) (x 1).val (128 * 7 + (x 2).val) rfl rfl]
  pointwise [k0_pay3]

theorem kr7_at (x : S1x512x128.Idx) : k0_pay4 (F := Ideal) v30 x = gK v16 v30 ((r0_26.emb x) 0).val ((r0_26.emb x) 1).val ((r0_26.emb x) 2).val := by
  have h0 : (x 0).val < 1 := (x 0).isLt
  have h1 : (x 1).val < 512 := (x 1).isLt
  have h2 : (x 2).val < 128 := (x 2).isLt
  rw [show ((r0_26.emb x) 1).val = (x 1).val from (show 0 + 1 * (x 1).val = (x 1).val by omega)]
  refine Eq.trans ?_ (gK_r v16 v30 7 _ _ _ (x 2).val h2 (show 3 + 1 * (x 0).val = _ by omega) (show 384 + 1 * (x 2).val = _ by omega)).symm
  rw [← at2_of v30 (ix2 (x 1) (x 2)) (x 1).val (x 2).val rfl rfl]
  pointwise [k0_pay4]

end

/-- What the body leaves in the queries' block. -/
theorem out10 (x0 x1 : Vec Ideal S512x512 .bf16) (x2 x3 : Vec Ideal S512x128 .bf16) (x4 x5 : Vec Ideal S512x128 .f32) (x6 : Vec Ideal S512x2048 .bf16) (x7 x8 x9 : Vec Ideal S512x1024 .bf16) (y : S4x512x512.Idx) : out0_10 (F := Ideal) x0 x1 x2 x3 x4 x5 x6 x7 x8 x9 y
    = gQ (k0_pay8 (F := Ideal) x4) (k0_pay9 (F := Ideal) x5) (k0_pay10 (F := Ideal) x0 x6) (k0_pay11 (F := Ideal) x0 x7) (y 0).val (y 1).val (y 2).val := by
  unfold_out out0_10
  rw [View.ld_unit_lit' _ x0 (by decide), View.ld_unit_lit' _ x4 (by decide), View.ld_unit_lit' _ x5 (by decide), View.ld_unit_lit' _ x6 (by decide), View.ld_unit_lit' _ x7 (by decide)]
  generalize k0_pay8 (F := Ideal) x4 = v5
  generalize k0_pay9 (F := Ideal) x5 = v7
  generalize k0_pay11 (F := Ideal) x0 x7 = v13
  refine View.canon_apply_of_pieces (Val := Elt Ideal) ((fun y => gQ v5 v7 (k0_pay10 (F := Ideal) x0 x6) v13 (y 0).val (y 1).val (y 2).val) : Vec Ideal S4x512x512 .bf16) _ ?_ y (cover0_10 _ _ _ _ _ _ _ _ _ _ _ _ _ _ _ _ y)
  intro pc hpc
  rcases List.mem_cons.mp hpc with rfl | hpc
  · exact fun x => qr7_at v5 v7 (k0_pay10 (F := Ideal) x0 x6) v13 x
  rcases List.mem_cons.mp hpc with rfl | hpc
  · exact fun x => qn7_at v5 v7 (k0_pay10 (F := Ideal) x0 x6) v13 x
  rcases List.mem_cons.mp hpc with rfl | hpc
  · exact fun x => qr6_at v5 v7 (k0_pay10 (F := Ideal) x0 x6) v13 x
  rcases List.mem_cons.mp hpc with rfl | hpc
  · exact fun x => qn6_at v5 v7 (k0_pay10 (F := Ideal) x0 x6) v13 x
  rcases List.mem_cons.mp hpc with rfl | hpc
  · exact fun x => qr5_at v5 v7 (k0_pay10 (F := Ideal) x0 x6) v13 x
  rcases List.mem_cons.mp hpc with rfl | hpc
  · exact fun x => qn5_at v5 v7 (k0_pay10 (F := Ideal) x0 x6) v13 x
  rcases List.mem_cons.mp hpc with rfl | hpc
  · exact fun x => qr4_at v5 v7 (k0_pay10 (F := Ideal) x0 x6) v13 x
  rcases List.mem_cons.mp hpc with rfl | hpc
  · exact fun x => qn4_at v5 v7 (k0_pay10 (F := Ideal) x0 x6) v13 x
  rcases List.mem_cons.mp hpc with rfl | hpc
  · exact fun x => qr3_at v5 v7 (k0_pay10 (F := Ideal) x0 x6) v13 x
  rcases List.mem_cons.mp hpc with rfl | hpc
  · exact fun x => qn3_at v5 v7 (k0_pay10 (F := Ideal) x0 x6) v13 x
  rcases List.mem_cons.mp hpc with rfl | hpc
  · exact fun x => qr2_at v5 v7 (k0_pay10 (F := Ideal) x0 x6) v13 x
  rcases List.mem_cons.mp hpc with rfl | hpc
  · exact fun x => qn2_at v5 v7 (k0_pay10 (F := Ideal) x0 x6) v13 x
  rcases List.mem_cons.mp hpc with rfl | hpc
  · exact fun x => qr1_at v5 v7 (k0_pay10 (F := Ideal) x0 x6) v13 x
  rcases List.mem_cons.mp hpc with rfl | hpc
  · exact fun x => qn1_at v5 v7 (k0_pay10 (F := Ideal) x0 x6) v13 x
  rcases List.mem_cons.mp hpc with rfl | hpc
  · exact fun x => qr0_at v5 v7 (k0_pay10 (F := Ideal) x0 x6) v13 x
  rcases List.mem_cons.mp hpc with rfl | hpc
  · exact fun x => qn0_at v5 v7 v13 x0 x6 x
  nomatch hpc

/-- And in the keys'. -/
theorem out11 (x0 x1 : Vec Ideal S512x512 .bf16) (x2 x3 : Vec Ideal S512x128 .bf16) (x4 x5 : Vec Ideal S512x128 .f32) (x6 : Vec Ideal S512x2048 .bf16) (x7 x8 x9 : Vec Ideal S512x1024 .bf16) (y : S4x512x512.Idx) : out0_11 (F := Ideal) x0 x1 x2 x3 x4 x5 x6 x7 x8 x9 y
    = gK (k0_pay12 (F := Ideal) x1 x8) (k0_pay14 (F := Ideal) x4 x5 x2 x3) (y 0).val (y 1).val (y 2).val := by
  unfold_out out0_11
  rw [View.ld_unit_lit' _ x1 (by decide), View.ld_unit_lit' _ x4 (by decide), View.ld_unit_lit' _ x5 (by decide), View.ld_unit_lit' _ x2 (by decide), View.ld_unit_lit' _ x3 (by decide), View.ld_unit_lit' _ x8 (by decide)]
  generalize k0_pay12 (F := Ideal) x1 x8 = v16
  generalize k0_pay14 (F := Ideal) x4 x5 x2 x3 = v30
  refine View.canon_apply_of_pieces (Val := Elt Ideal) ((fun y => gK v16 v30 (y 0).val (y 1).val (y 2).val) : Vec Ideal S4x512x512 .bf16) _ ?_ y (cover0_11 _ _ _ _ _ _ _ _ _ _ _ _ _ _ _ _ y)
  intro pc hpc
  rcases List.mem_cons.mp hpc with rfl | hpc
  · exact fun x => kr7_at v16 v30 x
  rcases List.mem_cons.mp hpc with rfl | hpc
  · exact fun x => kn7_at v16 v30 x
  rcases List.mem_cons.mp hpc with rfl | hpc
  · exact fun x => kr6_at v16 v30 x
  rcases List.mem_cons.mp hpc with rfl | hpc
  · exact fun x => kn6_at v16 v30 x
  rcases List.mem_cons.mp hpc with rfl | hpc
  · exact fun x => kr5_at v16 v30 x
  rcases List.mem_cons.mp hpc with rfl | hpc
  · exact fun x => kn5_at v16 v30 x
  rcases List.mem_cons.mp hpc with rfl | hpc
  · exact fun x => kr4_at v16 v30 x
  rcases List.mem_cons.mp hpc with rfl | hpc
  · exact fun x => kn4_at v16 v30 x
  rcases List.mem_cons.mp hpc with rfl | hpc
  · exact fun x => kr3_at v16 v30 x
  rcases List.mem_cons.mp hpc with rfl | hpc
  · exact fun x => kn3_at v16 v30 x
  rcases List.mem_cons.mp hpc with rfl | hpc
  · exact fun x => kr2_at v16 v30 x
  rcases List.mem_cons.mp hpc with rfl | hpc
  · exact fun x => kn2_at v16 v30 x
  rcases List.mem_cons.mp hpc with rfl | hpc
  · exact fun x => kr1_at v16 v30 x
  rcases List.mem_cons.mp hpc with rfl | hpc
  · exact fun x => kn1_at v16 v30 x
  rcases List.mem_cons.mp hpc with rfl | hpc
  · exact fun x => kr0_at v16 v30 x
  rcases List.mem_cons.mp hpc with rfl | hpc
  · exact fun x => kn0_at v16 v30 x
  nomatch hpc

/-- And in the values'. -/
theorem out12 (x0 x1 : Vec Ideal S512x512 .bf16) (x2 x3 : Vec Ideal S512x128 .bf16) (x4 x5 : Vec Ideal S512x128 .f32) (x6 : Vec Ideal S512x2048 .bf16) (x7 x8 x9 : Vec Ideal S512x1024 .bf16) (y : S4x512x256.Idx) : out0_12 (F := Ideal) x0 x1 x2 x3 x4 x5 x6 x7 x8 x9 y
    = at2 (k0_pay13 (F := Ideal) x1 x9) (y 1).val ((y 0).val * 256 + (y 2).val) := by
  unfold_out out0_12
  rw [View.ld_unit_lit' _ x1 (by decide), View.ld_unit_lit' _ x9 (by decide)]
  exact (Cert.Kernel4Ideal.Value.canon12_eq x1 x9 y).trans (at2_of (k0_pay13 (F := Ideal) x1 x9) _ _ _ rfl rfl)

theorem pay8_at (x : Vec Ideal S512x128 .f32) (i : S512x128.Idx) : k0_pay8 (F := Ideal) x i = x (ix2 (i 0) (i 1)) := by
  pointwise [k0_pay8]

theorem pay9_at (x : Vec Ideal S512x128 .f32) (i : S512x128.Idx) : k0_pay9 (F := Ideal) x i = x (ix2 (i 0) (i 1)) := by
  pointwise [k0_pay9]

theorem pay10_at (a : Vec Ideal S512x512 .bf16) (w : Vec Ideal S512x2048 .bf16) (r : Fin 512) (n : Fin 2048) :
    k0_pay10 (F := Ideal) a w (ix2 r n) = (∑ k : Fin 512, (a (ix2 r k) * w (ix2 k n) : EReal)) := by
  pointwise [k0_pay10, k0_pay6]

theorem pay11_at (a : Vec Ideal S512x512 .bf16) (w : Vec Ideal S512x1024 .bf16) (r : Fin 512) (n : Fin 1024) :
    k0_pay11 (F := Ideal) a w (ix2 r n) = (∑ k : Fin 512, (a (ix2 r k) * w (ix2 k n) : EReal)) := by
  pointwise [k0_pay11, k0_pay6]

theorem pay12_at (a : Vec Ideal S512x512 .bf16) (w : Vec Ideal S512x1024 .bf16) (r : Fin 512) (n : Fin 1024) :
    k0_pay12 (F := Ideal) a w (ix2 r n) = (∑ k : Fin 512, (a (ix2 r k) * w (ix2 k n) : EReal)) := by
  pointwise [k0_pay12, k0_pay7]

theorem pay13_at (a : Vec Ideal S512x512 .bf16) (w : Vec Ideal S512x1024 .bf16) (r : Fin 512) (n : Fin 1024) :
    k0_pay13 (F := Ideal) a w (ix2 r n) = (∑ k : Fin 512, (a (ix2 r k) * w (ix2 k n) : EReal)) := by
  pointwise [k0_pay13, k0_pay7]

theorem pay14_at (co si : Vec Ideal S512x128 .f32) (a b : Vec Ideal S512x128 .bf16) (r : Fin 512) (j : Fin 128) :
    k0_pay14 (F := Ideal) co si a b (ix2 r j) = (a (ix2 r j) * co (ix2 r j) + b (ix2 r j) * si (ix2 r j) : EReal) := by
  pointwise [k0_pay14, k0_pay8, k0_pay9]

end Cert.Kernel4Ideal.Hand

end
-- ==== Proof.UpInv.lean ====
/- The arrays of queries, keys and values that the kernel leaves. -/
module

public import proofs.«01_k».proof.Proof.UpBlk
public import proofs.«01_k».proof.Proof.UpPay
public import proofs.«01_k».proof.Proof.Gen.Kernel4Ideal.Frame
public import Idealize.ShloMosaic.Lib.VecWindow

@[expose] public section

set_option maxRecDepth 16384

noncomputable section

namespace Cert.Kernel4Ideal.Hand

open Cert.Kernel4Ideal Cert.Kernel4Ideal.Gen Cert.InMath Cert.UpMath
open Idealize.ShloMosaic
open Idealize.ShloMosaic.TcCoe Idealize.ShloMosaic.Tactic
open Idealize.SL.Sem

variable (m : (ℓ : Loc nD τ sig) → Buf (Elt Ideal) ℓ) (c : Dev nD)

theorem v10_at (t : Fin cfg0.N) (r n : ℕ) (hr : r < 512) (hn : n < 2048) : at2 (k0_pay10 (F := Ideal) (iblk m c 0 t) (iblk m c 6 t)) r n = qu (X0 m c) (X5 m c) (t.val * 512 + r) (s1 n) := by
  refine (at2_of (k0_pay10 (F := Ideal) (iblk m c 0 t) (iblk m c 6 t)) (ix2 ⟨r, hr⟩ ⟨n, hn⟩) r n rfl rfl).symm.trans ?_
  rw [pay10_at]
  refine Finset.sum_congr rfl fun k _ => ?_
  rw [x_blk, w1_blk]

theorem v13_at (t : Fin cfg0.N) (r n : ℕ) (hr : r < 512) (hn : n < 1024) : at2 (k0_pay11 (F := Ideal) (iblk m c 0 t) (iblk m c 7 t)) r n = qu (X0 m c) (X5 m c) (t.val * 512 + r) (s2 n) := by
  refine (at2_of (k0_pay11 (F := Ideal) (iblk m c 0 t) (iblk m c 7 t)) (ix2 ⟨r, hr⟩ ⟨n, hn⟩) r n rfl rfl).symm.trans ?_
  rw [pay11_at]
  refine Finset.sum_congr rfl fun k _ => ?_
  rw [x_blk, w2_blk]

theorem v16_at (t : Fin cfg0.N) (r n : ℕ) (hr : r < 512) (hn : n < 1024) : at2 (k0_pay12 (F := Ideal) (iblk m c 1 t) (iblk m c 8 t)) r n = ku (X1 m c) (X6 m c) (t.val * 512 + r) (n / 128 * 256 + n % 128) := by
  refine (at2_of (k0_pay12 (F := Ideal) (iblk m c 1 t) (iblk m c 8 t)) (ix2 ⟨r, hr⟩ ⟨n, hn⟩) r n rfl rfl).symm.trans ?_
  rw [pay12_at]
  refine Finset.sum_congr rfl fun k _ => ?_
  rw [y_blk, wk_blk]

theorem v20_at (t : Fin cfg0.N) (r n : ℕ) (hr : r < 512) (hn : n < 1024) : at2 (k0_pay13 (F := Ideal) (iblk m c 1 t) (iblk m c 9 t)) r n = ku (X1 m c) (X6 m c) (t.val * 512 + r) (n / 128 * 256 + (128 + n % 128)) := by
  refine (at2_of (k0_pay13 (F := Ideal) (iblk m c 1 t) (iblk m c 9 t)) (ix2 ⟨r, hr⟩ ⟨n, hn⟩) r n rfl rfl).symm.trans ?_
  rw [pay13_at]
  refine Finset.sum_congr rfl fun k _ => ?_
  rw [y_blk, wv_blk]

theorem v5_at (t : Fin cfg0.N) (r j : ℕ) (hr : r < 512) (hj : j < 128) : at2 (k0_pay8 (F := Ideal) (iblk m c 4 t)) r j = at2 (X3 m c) (t.val * 512 + r) (sc j) := by
  refine (at2_of (k0_pay8 (F := Ideal) (iblk m c 4 t)) (ix2 ⟨r, hr⟩ ⟨j, hj⟩) r j rfl rfl).symm.trans ?_
  refine (pay8_at (iblk m c 4 t) _).trans ?_
  exact co_blk m c t ⟨r, hr⟩ ⟨j, hj⟩

theorem v7_at (t : Fin cfg0.N) (r j : ℕ) (hr : r < 512) (hj : j < 128) : at2 (k0_pay9 (F := Ideal) (iblk m c 5 t)) r j = sgn (X4 m c) (t.val * 512 + r) j := by
  refine (at2_of (k0_pay9 (F := Ideal) (iblk m c 5 t)) (ix2 ⟨r, hr⟩ ⟨j, hj⟩) r j rfl rfl).symm.trans ?_
  refine (pay9_at (iblk m c 5 t) _).trans ?_
  exact si_blk m c t ⟨r, hr⟩ ⟨j, hj⟩

/-- The key's rotated part. -/
theorem v30_at (t : Fin cfg0.N) (r j : ℕ) (hr : r < 512) (hj : j < 128) : at2 (k0_pay14 (F := Ideal) (iblk m c 4 t) (iblk m c 5 t) (iblk m c 2 t) (iblk m c 3 t)) r j
    = rot (X3 m c) (X4 m c) (fun i => at2 (X2 m c) (t.val * 512 + r) i) (t.val * 512 + r) j := by
  refine (at2_of (k0_pay14 (F := Ideal) (iblk m c 4 t) (iblk m c 5 t) (iblk m c 2 t) (iblk m c 3 t)) (ix2 ⟨r, hr⟩ ⟨j, hj⟩) r j rfl rfl).symm.trans ?_
  rw [pay14_at, ka_blk, kb_blk, co_blk, si_blk]
  dsimp only
  refine rot_eq (X3 m c) (X4 m c) _ _ (fun i => at2 (X2 m c) (t.val * 512 + r) i) _ _ (fun _ => rfl) (fun h => ?_) (fun h => at2_out (X2 m c) _ _ (by omega)) (fun h => ?_)
  · unfold sk
    rw [if_pos h]
  · unfold sk
    rw [if_neg (by omega)]
    exact at2_out (X2 m c) _ _ (by omega)

/-- A point's queries. -/
theorem q_pt (t : Fin cfg0.N) (g r n : ℕ) (hg : g < 4) (hr : r < 512) (hn : n < 512) :
    gQ (k0_pay8 (F := Ideal) (iblk m c 4 t)) (k0_pay9 (F := Ideal) (iblk m c 5 t)) (k0_pay10 (F := Ideal) (iblk m c 0 t) (iblk m c 6 t)) (k0_pay11 (F := Ideal) (iblk m c 0 t) (iblk m c 7 t)) g r n
      = gq (X0 m c) (X3 m c) (X4 m c) (X5 m c) g (t.val * 512 + r) n := by
  unfold gQ gq
  by_cases h : n % 256 < 128
  · rw [if_pos h, if_pos h, v10_at m c t r _ hr (by omega), div_bdiv, show s1 (512 * g + n) = (2 * g + n / 256) * 192 + n % 256 from ?_]
    · rfl
    · unfold s1
      rw [if_pos (by omega)]
      omega
  rw [if_neg h, if_neg h, v10_at m c t r _ hr (by omega), v13_at m c t r _ hr (by omega), v5_at m c t r _ hr (by omega), v7_at m c t r _ hr (by omega)]
  rw [rot_eq (X3 m c) (X4 m c) _ _ (fun i => qu (X0 m c) (X5 m c) (t.val * 512 + r) ((2 * g + n / 256) * 192 + (128 + i))) (t.val * 512 + r) (n % 256 - 128)]
  · by_cases h' : n % 256 < 192
    · rw [if_pos h', div_bdiv]
      rfl
    · rw [if_neg h', rot_out _ _ _ _ _ (by omega), zero_mul]
  · intro h'
    refine congrArg (qu (X0 m c) (X5 m c) (t.val * 512 + r)) ?_
    unfold s1
    rw [if_pos (by omega)]
    omega
  · intro h'
    refine congrArg (qu (X0 m c) (X5 m c) (t.val * 512 + r)) ?_
    unfold s2
    rw [if_pos (by omega)]
    omega
  · intro h'
    refine qu_out (X0 m c) (X5 m c) _ _ ?_
    unfold s1
    rw [if_neg (by omega)]
  · intro h'
    refine qu_out (X0 m c) (X5 m c) _ _ ?_
    unfold s2
    rw [if_neg (by omega)]

/-- Its keys. -/
theorem k_pt (t : Fin cfg0.N) (g r n : ℕ) (hg : g < 4) (hr : r < 512) (hn : n < 512) :
    gK (k0_pay12 (F := Ideal) (iblk m c 1 t) (iblk m c 8 t)) (k0_pay14 (F := Ideal) (iblk m c 4 t) (iblk m c 5 t) (iblk m c 2 t) (iblk m c 3 t)) g r n
      = gk (X1 m c) (X2 m c) (X3 m c) (X4 m c) (X6 m c) g (t.val * 512 + r) n := by
  unfold gK gk
  by_cases h : n % 256 < 128
  · rw [if_pos h, if_pos h, v16_at m c t r _ hr (by omega)]
    exact congrArg (ku (X1 m c) (X6 m c) (t.val * 512 + r)) (by omega)
  rw [if_neg h, if_neg h, v30_at m c t r _ hr (by omega)]
  by_cases h' : n % 256 < 192
  · rw [if_pos h']
  · rw [if_neg h', rot_out _ _ _ _ _ (by omega)]

/-- Its values. -/
theorem v_pt (t : Fin cfg0.N) (g r n : ℕ) (hg : g < 4) (hr : r < 512) (hn : n < 256) :
    at2 (k0_pay13 (F := Ideal) (iblk m c 1 t) (iblk m c 9 t)) r (g * 256 + n) = gv (X1 m c) (X6 m c) g (t.val * 512 + r) n := by
  rw [v20_at m c t r _ hr (by omega)]
  unfold gv
  exact congrArg (ku (X1 m c) (X6 m c) (t.val * 512 + r)) (by omega)

/-- The queries, everywhere. -/
theorem final10 : (dats m 0 c).arrAt 10 cfg0.N = fun y : S4x32768x512.Idx => gq (X0 m c) (X3 m c) (X4 m c) (X5 m c) (y 0).val (y 1).val (y 2).val := by
  refine (dats m 0 c).arrAt_eq_of_covers 10 _ covers10 (fun t hflush y => ?_)
  blk_simp
  have h0 : (y 0).val < 4 := (y 0).isLt
  have h1 : (y 1).val < 512 := (y 1).isLt
  have h2 : (y 2).val < 512 := (y 2).isLt
  have key := q_pt m c t (y 0).val (y 1).val (y 2).val h0 h1 h2
  have w10 : (cfg0.win 10).index t = ![0, t.val, 0] := by
    obtain ⟨_, _, _, _, _, _, _, _, _, _, w10, w11, w12⟩ := win_idx t
    exact w10
  have e0 : (cfg0.win 10).index t 0 = 0 := by rw [w10]; rfl
  have e1 : (cfg0.win 10).index t 1 = t.val := by rw [w10]; rfl
  have e2 : (cfg0.win 10).index t 2 = 0 := by rw [w10]; rfl
  rw [after0_10]
  rw [e0, e1, e2, show 0 * 4 + (y 0).val = (y 0).val by omega, show 0 * 512 + (y 2).val = (y 2).val by omega]
  exact (out10 (iblk m c 0 t) (iblk m c 1 t) (iblk m c 2 t) (iblk m c 3 t) (iblk m c 4 t) (iblk m c 5 t) (iblk m c 6 t) (iblk m c 7 t) (iblk m c 8 t) (iblk m c 9 t) y).trans key

/-- The keys. -/
theorem final11 : (dats m 0 c).arrAt 11 cfg0.N = fun y : S4x32768x512.Idx => gk (X1 m c) (X2 m c) (X3 m c) (X4 m c) (X6 m c) (y 0).val (y 1).val (y 2).val := by
  refine (dats m 0 c).arrAt_eq_of_covers 11 _ covers11 (fun t hflush y => ?_)
  blk_simp
  have h0 : (y 0).val < 4 := (y 0).isLt
  have h1 : (y 1).val < 512 := (y 1).isLt
  have h2 : (y 2).val < 512 := (y 2).isLt
  have key := k_pt m c t (y 0).val (y 1).val (y 2).val h0 h1 h2
  have w11 : (cfg0.win 11).index t = ![0, t.val, 0] := by
    obtain ⟨_, _, _, _, _, _, _, _, _, _, w10, w11, w12⟩ := win_idx t
    exact w11
  have e0 : (cfg0.win 11).index t 0 = 0 := by rw [w11]; rfl
  have e1 : (cfg0.win 11).index t 1 = t.val := by rw [w11]; rfl
  have e2 : (cfg0.win 11).index t 2 = 0 := by rw [w11]; rfl
  rw [after0_11]
  rw [e0, e1, e2, show 0 * 4 + (y 0).val = (y 0).val by omega, show 0 * 512 + (y 2).val = (y 2).val by omega]
  exact (out11 (iblk m c 0 t) (iblk m c 1 t) (iblk m c 2 t) (iblk m c 3 t) (iblk m c 4 t) (iblk m c 5 t) (iblk m c 6 t) (iblk m c 7 t) (iblk m c 8 t) (iblk m c 9 t) y).trans key

/-- The values. -/
theorem final12 : (dats m 0 c).arrAt 12 cfg0.N = fun y : S4x32768x256.Idx => gv (X1 m c) (X6 m c) (y 0).val (y 1).val (y 2).val := by
  refine (dats m 0 c).arrAt_eq_of_covers 12 _ covers12 (fun t hflush y => ?_)
  blk_simp
  have h0 : (y 0).val < 4 := (y 0).isLt
  have h1 : (y 1).val < 512 := (y 1).isLt
  have h2 : (y 2).val < 256 := (y 2).isLt
  have key := v_pt m c t (y 0).val (y 1).val (y 2).val h0 h1 h2
  have w12 : (cfg0.win 12).index t = ![0, t.val, 0] := by
    obtain ⟨_, _, _, _, _, _, _, _, _, _, w10, w11, w12⟩ := win_idx t
    exact w12
  have e0 : (cfg0.win 12).index t 0 = 0 := by rw [w12]; rfl
  have e1 : (cfg0.win 12).index t 1 = t.val := by rw [w12]; rfl
  have e2 : (cfg0.win 12).index t 2 = 0 := by rw [w12]; rfl
  rw [after0_12]
  rw [e0, e1, e2, show 0 * 4 + (y 0).val = (y 0).val by omega, show 0 * 256 + (y 2).val = (y 2).val by omega]
  exact (out12 (iblk m c 0 t) (iblk m c 1 t) (iblk m c 2 t) (iblk m c 3 t) (iblk m c 4 t) (iblk m c 5 t) (iblk m c 6 t) (iblk m c 7 t) (iblk m c 8 t) (iblk m c 9 t) y).trans key

end Cert.Kernel4Ideal.Hand

end
-- ==== Proof.UpRef.lean ====
/- The reference's queries, keys and values, read element by element. -/
module

public import proofs.«01_k».proof.Proof.UpMath
public import proofs.«01_k».proof.Proof.Gen.Reference4Ideal.Read

@[expose] public section

set_option maxRecDepth 16384

noncomputable section

namespace Cert.Reference4Ideal.Hand

open Cert.Reference4Ideal Cert.Reference4Ideal.Gen Cert.Reference4Ideal.Read Cert.InMath Cert.UpMath
open Idealize.ShloMosaic Idealize.ShloMosaic.TcCoe Idealize.ShloMosaic.Tactic

variable (x0 x1 : S32768x512.Idx → EReal) (x2 : S32768x64.Idx → EReal) (x3 x4 : S32768x32.Idx → EReal) (x5 : S512x1536.Idx → EReal) (x6 : S512x2048.Idx → EReal)

theorem cos_at (i : S32768x1x32.Idx) : val_main_v0 (F := Ideal) x3 i = at2 x3 (i 0).val (i 2).val := by
  rw [val_main_v0_apply]
  exact at2_of x3 _ _ _ rfl rfl

theorem sin_at (i : S32768x1x32.Idx) : val_main_v1 (F := Ideal) x4 i = at2 x4 (i 0).val (i 2).val := by
  rw [val_main_v1_apply]
  exact at2_of x4 _ _ _ rfl rfl

/-- A query of a head, before the rotation. -/
theorem q_at (i : S32768x8x192.Idx) : val_main_v3 (F := Ideal) x0 x5 i = qu x0 x5 (i 0).val ((i 1).val * 192 + (i 2).val) := by
  have h1 : (i 1).val < 8 := (i 1).isLt
  have h2 : (i 2).val < 192 := (i 2).isLt
  rw [val_main_v3_apply, val_main_v2_apply]
  unfold qu
  refine Finset.sum_congr rfl fun k _ => ?_
  refine congrArg₂ (fun a b : EReal => a * b) (at2_of x0 _ _ _ ?_ rfl) (at2_of x5 _ _ _ rfl ?_)
  · show (((i 0).val * 8 + (i 1).val) * 192 + (i 2).val) / 1536 = _
    omega
  · show (((i 0).val * 8 + (i 1).val) * 192 + (i 2).val) % 1536 = _
    omega

/-- A key or a value of a head. -/
theorem kv_at (i : S32768x8x256.Idx) : val_main_v20 (F := Ideal) x1 x6 i = ku x1 x6 (i 0).val ((i 1).val * 256 + (i 2).val) := by
  have h1 : (i 1).val < 8 := (i 1).isLt
  have h2 : (i 2).val < 256 := (i 2).isLt
  rw [val_main_v20_apply, val_main_v19_apply]
  unfold ku
  refine Finset.sum_congr rfl fun k _ => ?_
  refine congrArg₂ (fun a b : EReal => a * b) (at2_of x1 _ _ _ ?_ rfl) (at2_of x6 _ _ _ rfl ?_)
  · show (((i 0).val * 8 + (i 1).val) * 256 + (i 2).val) / 2048 = _
    omega
  · show (((i 0).val * 8 + (i 1).val) * 256 + (i 2).val) % 2048 = _
    omega

theorem q6_at (i : S32768x8x32.Idx) : val_main_v6 (F := Ideal) x0 x5 i = qu x0 x5 (i 0).val ((i 1).val * 192 + (128 + (i 2).val)) := by
  rw [val_main_v6_apply, val_main_v5_apply, q_at]

theorem q7_at (i : S32768x8x32.Idx) : val_main_v7 (F := Ideal) x0 x5 i = qu x0 x5 (i 0).val ((i 1).val * 192 + (128 + (32 + (i 2).val))) := by
  rw [val_main_v7_apply, val_main_v5_apply, q_at]

theorem v12_at (i : S32768x8x32.Idx) : val_main_v12 (F := Ideal) x0 x3 x4 x5 i
    = qu x0 x5 (i 0).val ((i 1).val * 192 + (128 + (i 2).val)) * at2 x3 (i 0).val (i 2).val - qu x0 x5 (i 0).val ((i 1).val * 192 + (128 + (32 + (i 2).val))) * at2 x4 (i 0).val (i 2).val := by
  rw [val_main_v12_apply, val_main_v9_apply, val_main_v11_apply, val_main_v8_apply, val_main_v10_apply, q6_at, q7_at, cos_at, sin_at]
  rfl

theorem v17_at (i : S32768x8x32.Idx) : val_main_v17 (F := Ideal) x0 x3 x4 x5 i
    = qu x0 x5 (i 0).val ((i 1).val * 192 + (128 + (i 2).val)) * at2 x4 (i 0).val (i 2).val + qu x0 x5 (i 0).val ((i 1).val * 192 + (128 + (32 + (i 2).val))) * at2 x3 (i 0).val (i 2).val := by
  rw [val_main_v17_apply, val_main_v14_apply, val_main_v16_apply, val_main_v13_apply, val_main_v15_apply, q6_at, q7_at, cos_at, sin_at]
  rfl

/-- The rotated part of a query. -/
theorem v18_at (r : Fin 32768) (h : Fin 8) (j : Fin 64) : val_main_v18 (F := Ideal) x0 x3 x4 x5 (ix3 r h j)
    = rot x3 x4 (fun i => qu x0 x5 r.val (h.val * 192 + (128 + i))) r.val j.val := by
  unfold val_main_v18
  have key12 := v12_at x0 x3 x4 x5
  have key17 := v17_at x0 x3 x4 x5
  generalize val_main_v12 (F := Ideal) x0 x3 x4 x5 = a at key12
  generalize val_main_v17 (F := Ideal) x0 x3 x4 x5 = b at key17
  pointwise
  unfold rot
  have hj := j.isLt
  by_cases c : j.val < 32
  · rw [dif_pos (by omega), if_pos c, key12]
    rfl
  · rw [dif_neg (by omega), if_neg c, if_pos hj, key17]
    show qu x0 x5 r.val (h.val * 192 + (128 + (j.val - 32))) * at2 x4 r.val (j.val - 32) + qu x0 x5 r.val (h.val * 192 + (128 + (32 + (j.val - 32)))) * at2 x3 r.val (j.val - 32) = _
    rw [show 32 + (j.val - 32) = j.val by omega]

theorem k24_at (i : S32768x1x32.Idx) : val_main_v24 (F := Ideal) x2 i = at2 x2 (i 0).val (i 2).val := by
  rw [val_main_v24_apply, val_main_v23_apply]
  exact at2_of x2 _ _ _ rfl rfl

theorem k25_at (i : S32768x1x32.Idx) : val_main_v25 (F := Ideal) x2 i = at2 x2 (i 0).val (32 + (i 2).val) := by
  rw [val_main_v25_apply, val_main_v23_apply]
  exact at2_of x2 _ _ _ rfl rfl

theorem v28_at (i : S32768x1x32.Idx) : val_main_v28 (F := Ideal) x2 x3 x4 i
    = at2 x2 (i 0).val (i 2).val * at2 x3 (i 0).val (i 2).val - at2 x2 (i 0).val (32 + (i 2).val) * at2 x4 (i 0).val (i 2).val := by
  rw [val_main_v28_apply, val_main_v26_apply, val_main_v27_apply, k24_at, k25_at, cos_at, sin_at]
  rfl

theorem v31_at (i : S32768x1x32.Idx) : val_main_v31 (F := Ideal) x2 x3 x4 i
    = at2 x2 (i 0).val (i 2).val * at2 x4 (i 0).val (i 2).val + at2 x2 (i 0).val (32 + (i 2).val) * at2 x3 (i 0).val (i 2).val := by
  rw [val_main_v31_apply, val_main_v29_apply, val_main_v30_apply, k24_at, k25_at, cos_at, sin_at]
  rfl

/-- The rotated part of the keys. -/
theorem v32_at (r : Fin 32768) (h : Fin 1) (j : Fin 64) : val_main_v32 (F := Ideal) x2 x3 x4 (ix3 r h j)
    = rot x3 x4 (fun i => at2 x2 r.val i) r.val j.val := by
  unfold val_main_v32
  have key28 := v28_at x2 x3 x4
  have key31 := v31_at x2 x3 x4
  generalize val_main_v28 (F := Ideal) x2 x3 x4 = a at key28
  generalize val_main_v31 (F := Ideal) x2 x3 x4 = b at key31
  pointwise
  unfold rot
  have hj := j.isLt
  by_cases c : j.val < 32
  · rw [dif_pos (by omega), if_pos c, key28]
    rfl
  · rw [dif_neg (by omega), if_neg c, if_pos hj, key31]
    show at2 x2 r.val (j.val - 32) * at2 x4 r.val (j.val - 32) + at2 x2 r.val (32 + (j.val - 32)) * at2 x3 r.val (j.val - 32) = _
    rw [show 32 + (j.val - 32) = j.val by omega]

theorem v39_at (i : S32768x8x128.Idx) : val_main_v39 (F := Ideal) x0 x5 i = Ideal.div (qu x0 x5 (i 0).val ((i 1).val * 192 + (i 2).val)) bdiv := by
  rw [val_main_v39_apply, val_main_v4_apply, q_at, val_main_v38_apply, val_main_v37_apply, val_main_v36_apply, val_main_v34_apply, val_main_v35_apply, val_main_cst_apply, val_main_cst_0_apply]
  rfl

theorem v45_at (i : S32768x8x64.Idx) : val_main_v45 (F := Ideal) x0 x3 x4 x5 i
    = Ideal.div (rot x3 x4 (fun k => qu x0 x5 (i 0).val ((i 1).val * 192 + (128 + k))) (i 0).val (i 2).val) bdiv := by
  have e : i = ix3 (i 0) (i 1) (i 2) := funext fun a => by match a with | ⟨0, _⟩ => rfl | ⟨1, _⟩ => rfl | ⟨2, _⟩ => rfl
  have key : val_main_v18 (F := Ideal) x0 x3 x4 x5 i = rot x3 x4 (fun k => qu x0 x5 (i 0).val ((i 1).val * 192 + (128 + k))) (i 0).val (i 2).val :=
    (congrArg (val_main_v18 (F := Ideal) x0 x3 x4 x5) e).trans (v18_at x0 x3 x4 x5 (i 0) (i 1) (i 2))
  rw [val_main_v45_apply, val_main_v44_apply, val_main_v43_apply, val_main_v42_apply, val_main_v40_apply, val_main_v41_apply, val_main_cst_1_apply, val_main_cst_2_apply]
  rw [key]
  rfl

theorem v46_at (i : S32768x8x64.Idx) : val_main_v46 (F := Ideal) i = (0 : EReal) := by
  rw [val_main_v46_apply, val_main_cst_3_apply]
  exact zero_bits

theorem v47_at (r : Fin 32768) (h : Fin 8) (j : Fin 256) : val_main_v47 (F := Ideal) x0 x3 x4 x5 (ix3 r h j)
    = if j.val < 128 then Ideal.div (qu x0 x5 r.val (h.val * 192 + j.val)) bdiv
      else if j.val < 192 then Ideal.div (rot x3 x4 (fun i => qu x0 x5 r.val (h.val * 192 + (128 + i))) r.val (j.val - 128)) bdiv else 0 := by
  unfold val_main_v47
  have key39 := v39_at x0 x5
  have key45 := v45_at x0 x3 x4 x5
  have key46 := v46_at
  generalize val_main_v39 (F := Ideal) x0 x5 = a at key39
  generalize val_main_v45 (F := Ideal) x0 x3 x4 x5 = b at key45
  generalize val_main_v46 (F := Ideal) = d at key46
  pointwise
  by_cases c : j.val < 128
  · rw [dif_pos (by omega), if_pos c, key39]
    rfl
  by_cases c' : j.val < 192
  · rw [dif_neg (by omega), dif_pos (by omega), if_neg c, if_pos c', key45]
    rfl
  · rw [dif_neg (by omega), dif_neg (by omega), if_neg c, if_neg c', key46]

theorem v21_at (i : S32768x8x128.Idx) : val_main_v21 (F := Ideal) x1 x6 i = ku x1 x6 (i 0).val ((i 1).val * 256 + (i 2).val) := by
  rw [val_main_v21_apply, kv_at]

theorem v22_at (i : S32768x8x128.Idx) : val_main_v22 (F := Ideal) x1 x6 i = ku x1 x6 (i 0).val ((i 1).val * 256 + (128 + (i 2).val)) := by
  rw [val_main_v22_apply, kv_at]

theorem v33_at (i : S32768x8x64.Idx) : val_main_v33 (F := Ideal) x2 x3 x4 i = rot x3 x4 (fun k => at2 x2 (i 0).val k) (i 0).val (i 2).val := by
  have e : idx_main_v33 i = ix3 (i 0) 0 (i 2) := funext fun a => by match a with | ⟨0, _⟩ => rfl | ⟨1, _⟩ => rfl | ⟨2, _⟩ => rfl
  rw [val_main_v33_apply]
  exact (congrArg (val_main_v32 (F := Ideal) x2 x3 x4) e).trans (v32_at x2 x3 x4 (i 0) 0 (i 2))

theorem v50_at (r : Fin 32768) (h : Fin 8) (j : Fin 256) : val_main_v50 (F := Ideal) x1 x2 x3 x4 x6 (ix3 r h j)
    = if j.val < 128 then ku x1 x6 r.val (h.val * 256 + j.val)
      else if j.val < 192 then rot x3 x4 (fun i => at2 x2 r.val i) r.val (j.val - 128) else 0 := by
  unfold val_main_v50
  have key21 := v21_at x1 x6
  have key33 := v33_at x2 x3 x4
  have key46 := v46_at
  generalize val_main_v21 (F := Ideal) x1 x6 = a at key21
  generalize val_main_v33 (F := Ideal) x2 x3 x4 = b at key33
  generalize val_main_v46 (F := Ideal) = d at key46
  pointwise
  by_cases c : j.val < 128
  · rw [dif_pos (by omega), if_pos c, key21]
    rfl
  by_cases c' : j.val < 192
  · rw [dif_neg (by omega), dif_pos (by omega), if_neg c, if_pos c', key33]
    rfl
  · rw [dif_neg (by omega), dif_neg (by omega), if_neg c, if_neg c', key46]

/-- The queries, at a group, a row and a column. -/
theorem res_q (g : Fin 4) (r : Fin 32768) (n : Fin 512) : val_main_v55 (F := Ideal) x0 x3 x4 x5 (ix3 g r n) = gq x0 x3 x4 x5 g.val r.val n.val := by
  have hg := g.isLt
  have hr := r.isLt
  have hn := n.isLt
  rw [val_main_v55_apply, val_main_v49_apply, val_main_v48_apply]
  have e : idx_main_v48 (idx_main_v49 (ix3 g r n)) = ix3 r ⟨2 * g.val + n.val / 256, by omega⟩ ⟨n.val % 256, by omega⟩ := by
    refine funext fun a => Fin.ext ?_
    match a with
    | ⟨0, _⟩ => show ((r.val * 4 + g.val) * 512 + n.val) / 2048 = r.val; omega
    | ⟨1, _⟩ => show ((r.val * 4 + g.val) * 512 + n.val) / 256 % 8 = 2 * g.val + n.val / 256; omega
    | ⟨2, _⟩ => show ((r.val * 4 + g.val) * 512 + n.val) % 256 = n.val % 256; omega
  rw [e]
  exact v47_at x0 x3 x4 x5 _ _ _

/-- The keys. -/
theorem res_k (g : Fin 4) (r : Fin 32768) (n : Fin 512) : val_main_v56 (F := Ideal) x1 x2 x3 x4 x6 (ix3 g r n) = gk x1 x2 x3 x4 x6 g.val r.val n.val := by
  have hg := g.isLt
  have hr := r.isLt
  have hn := n.isLt
  rw [val_main_v56_apply, val_main_v52_apply, val_main_v51_apply]
  have e : idx_main_v51 (idx_main_v52 (ix3 g r n)) = ix3 r ⟨2 * g.val + n.val / 256, by omega⟩ ⟨n.val % 256, by omega⟩ := by
    refine funext fun a => Fin.ext ?_
    match a with
    | ⟨0, _⟩ => show ((r.val * 4 + g.val) * 512 + n.val) / 2048 = r.val; omega
    | ⟨1, _⟩ => show ((r.val * 4 + g.val) * 512 + n.val) / 256 % 8 = 2 * g.val + n.val / 256; omega
    | ⟨2, _⟩ => show ((r.val * 4 + g.val) * 512 + n.val) % 256 = n.val % 256; omega
  rw [e]
  exact v50_at x1 x2 x3 x4 x6 _ _ _

/-- The values. -/
theorem res_v (g : Fin 4) (r : Fin 32768) (n : Fin 256) : val_main_v57 (F := Ideal) x1 x6 (ix3 g r n) = gv x1 x6 g.val r.val n.val := by
  have hg := g.isLt
  have hr := r.isLt
  have hn := n.isLt
  rw [val_main_v57_apply, val_main_v54_apply, val_main_v53_apply]
  have e : idx_main_v53 (idx_main_v54 (ix3 g r n)) = ix3 r ⟨2 * g.val + n.val / 128, by omega⟩ ⟨n.val % 128, by omega⟩ := by
    refine funext fun a => Fin.ext ?_
    match a with
    | ⟨0, _⟩ => show ((r.val * 4 + g.val) * 256 + n.val) / 1024 = r.val; omega
    | ⟨1, _⟩ => show ((r.val * 4 + g.val) * 256 + n.val) / 128 % 8 = 2 * g.val + n.val / 128; omega
    | ⟨2, _⟩ => show ((r.val * 4 + g.val) * 256 + n.val) % 128 = n.val % 128; omega
  rw [e]
  exact v22_at x1 x6 _

end Cert.Reference4Ideal.Hand

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Launch
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.FlashDat
public import proofs.«01_k».proof.Proof.KFlashDat
public import proofs.«01_k».proof.Proof.FlashInv
public import proofs.«01_k».proof.Proof.FlashRef
public import proofs.«01_k».proof.Proof.FlashPre
public import proofs.«01_k».proof.Proof.InInv
public import proofs.«01_k».proof.Proof.InRef
public import proofs.«01_k».proof.Proof.OutInv
public import proofs.«01_k».proof.Proof.OutRef
public import proofs.«01_k».proof.Proof.UpInv
public import proofs.«01_k».proof.Proof.UpRef
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxHeartbeats 2000000 in
/-- The reference runs, leaves its arguments as they were and every semaphore counter at zero. -/
theorem reference_frame : @Cert.quiescent_ReferenceIdeal Cert.ReferenceIdeal.Gen.facts := by
  intro m g _
  exact θ_run_and (Q₂ := fun r => r.2.sem = fun _ => 0)
    ((θ_run _ _ _).mono (fun _ h c => (h c).2) (Cert.ReferenceIdeal.Value.run m g))
    ((θ_run _ _ _).mono (fun r _ => sem_eq_zero_of_no_sems rfl r.2) (Cert.ReferenceIdeal.Value.run m g))

/-- The projection's reference likewise. -/
theorem reference2_frame : @Cert.quiescent_Reference2Ideal Cert.Reference2Ideal.Gen.facts := by
  intro m g _
  exact θ_run_and (Q₂ := fun r => r.2.sem = fun _ => 0)
    ((θ_run _ _ _).mono (fun _ h c => (h c).2) (Cert.Reference2Ideal.Value.run m g))
    ((θ_run _ _ _).mono (fun r _ => sem_eq_zero_of_no_sems rfl r.2) (Cert.Reference2Ideal.Value.run m g))

/-- The output projection's reference likewise. -/
theorem reference3_frame : @Cert.quiescent_Reference3Ideal Cert.Reference3Ideal.Gen.facts := by
  intro m g _
  exact θ_run_and (Q₂ := fun r => r.2.sem = fun _ => 0)
    ((θ_run _ _ _).mono (fun _ h c => (h c).2.2) (Cert.Reference3Ideal.Value.run m g))
    ((θ_run _ _ _).mono (fun r _ => sem_eq_zero_of_no_sems rfl r.2) (Cert.Reference3Ideal.Value.run m g))

/-- The up-projection's reference likewise. -/
theorem reference4_frame : @Cert.quiescent_Reference4Ideal Cert.Reference4Ideal.Gen.facts := by
  intro m g _
  exact θ_run_and (Q₂ := fun r => r.2.sem = fun _ => 0)
    ((θ_run _ _ _).mono (fun _ h c => (h c).2.2.2) (Cert.Reference4Ideal.Value.run m g))
    ((θ_run _ _ _).mono (fun r _ => sem_eq_zero_of_no_sems rfl r.2) (Cert.Reference4Ideal.Value.run m g))

/-- The attention's kernel and reference end with the same array, for finite queries and keys. -/
theorem flash_algebraic : @Cert.algebraic_KernelIdeal_ReferenceIdeal_pre_finite_qk Cert.KernelIdeal.Gen.facts Cert.ReferenceIdeal.Gen.facts Cert.Pre_finite_qk.pre_facts := by
  letI := Cert.Pre_finite_qk.pre_facts
  intro m g m' g' hpre hagree
  have hnum := fun c => Cert.Pre_finite_qk.nums _ _ _ (hpre c)
  refine ⟨fun c => fun y : Cert.KernelIdeal.S32768x1024.Idx => Cert.KernelIdeal.Hand.G m c (y 0).val (y 1).val, ?_, ?_⟩
  · run_from Cert.KernelIdeal.Hand.run_main m g
    exact Cert.KernelIdeal.Hand.final3 m c (hnum c).1 (hnum c).2
  · run_from Cert.ReferenceIdeal.Value.run m' g'
    obtain ⟨e0, e1, e2⟩ := hagree c
    rw [Cert.ReferenceIdeal.Read.val_main_v27_eq, e0, e1, e2]
    funext y
    exact Cert.ReferenceIdeal.Hand.ref_at _ _ _ (hnum c).1 (hnum c).2 y

/-- The projection's kernel and reference end with the same array. -/
theorem proj_algebraic : @Cert.algebraic_Kernel2Ideal_Reference2Ideal Cert.Kernel2Ideal.Gen.facts Cert.Reference2Ideal.Gen.facts := by
  intro m g m' g' _ hagree
  refine ⟨fun c => fun y : Cert.Kernel2Ideal.S32768x8704.Idx => Cert.InMath.gin (Cert.Kernel2Ideal.Hand.X0 m c) (Cert.Kernel2Ideal.Hand.X1 m c) (Cert.Kernel2Ideal.Hand.X2 m c)
    (Cert.Kernel2Ideal.Hand.X3 m c) (Cert.Kernel2Ideal.Hand.X4 m c) (Cert.Kernel2Ideal.Hand.X5 m c) ((y 0).val / 4096) ((y 0).val % 4096) (y 1).val, ?_, ?_⟩
  · run_from Cert.Kernel2Ideal.Value.run_blocks m g
    exact Cert.Kernel2Ideal.Hand.final7' m c
  · run_from Cert.Reference2Ideal.Value.run m' g'
    obtain ⟨e0, e1, e2, e3, e4, e5⟩ := hagree c
    rw [Cert.Reference2Ideal.Read.val_main_v76_eq, e0, e1, e2, e3, e4, e5]
    funext y
    have ey : y = ix2 (y 0) (y 1) := funext fun a => by match a with | ⟨0, _⟩ => rfl | ⟨1, _⟩ => rfl
    exact (congrArg _ ey).trans (Cert.Reference2Ideal.Hand.res_at _ _ _ _ _ _ (y 0) (y 1))

/-- The output projection's kernel and reference end with the same two arrays. -/
theorem out_algebraic : @Cert.algebraic_Kernel3Ideal_Reference3Ideal Cert.Kernel3Ideal.Gen.facts Cert.Reference3Ideal.Gen.facts := by
  intro m g m' g' _ hagree
  refine ⟨fun c => fun y : Cert.Kernel3Ideal.S32768x2048.Idx => Cert.OutMath.gx (Cert.Kernel3Ideal.Hand.X0 m c) (Cert.Kernel3Ideal.Hand.X1 m c) (Cert.Kernel3Ideal.Hand.X2 m c) (Cert.Kernel3Ideal.Hand.X3 m c) (Cert.Kernel3Ideal.Hand.X4 m c) (Cert.Kernel3Ideal.Hand.X5 m c) (Cert.Kernel3Ideal.Hand.X6 m c) (Cert.Kernel3Ideal.Hand.X7 m c) (Cert.Kernel3Ideal.Hand.X8 m c) (Cert.Kernel3Ideal.Hand.X9 m c) ((y 0).val / 4096) ((y 0).val % 4096) (y 1).val,
    fun c => fun y : Cert.Kernel3Ideal.S32768x2048.Idx => Cert.OutMath.gh (Cert.Kernel3Ideal.Hand.X0 m c) (Cert.Kernel3Ideal.Hand.X1 m c) (Cert.Kernel3Ideal.Hand.X2 m c) (Cert.Kernel3Ideal.Hand.X3 m c) (Cert.Kernel3Ideal.Hand.X4 m c) (Cert.Kernel3Ideal.Hand.X5 m c) (Cert.Kernel3Ideal.Hand.X6 m c) (Cert.Kernel3Ideal.Hand.X7 m c) (Cert.Kernel3Ideal.Hand.X8 m c) (Cert.Kernel3Ideal.Hand.X9 m c) ((y 0).val / 4096) ((y 0).val % 4096) (y 1).val, ?_, ?_⟩
  · run_from Cert.Kernel3Ideal.Value.run_blocks m g
    · exact Cert.Kernel3Ideal.Hand.final13' m c
    · exact Cert.Kernel3Ideal.Hand.final14' m c
  · run_from Cert.Reference3Ideal.Value.run m' g'
    · obtain ⟨e0, e1, e2, e3, e4, e5, e6, e7, e8, e9⟩ := hagree c
      rw [Cert.Reference3Ideal.Read.val_main_v56_eq, e0, e1, e2, e3, e4, e5, e6, e7, e8, e9]
      funext y
      have ey : y = ix2 (y 0) (y 1) := funext fun a => by match a with | ⟨0, _⟩ => rfl | ⟨1, _⟩ => rfl
      exact (congrArg _ ey).trans (Cert.Reference3Ideal.Hand.res_x _ _ _ _ _ _ _ _ _ _ (y 0) (y 1))
    · obtain ⟨e0, e1, e2, e3, e4, e5, e6, e7, e8, e9⟩ := hagree c
      rw [Cert.Reference3Ideal.Read.val_main_v58_eq, e0, e1, e2, e3, e4, e5, e6, e7, e8, e9]
      funext y
      have ey : y = ix2 (y 0) (y 1) := funext fun a => by match a with | ⟨0, _⟩ => rfl | ⟨1, _⟩ => rfl
      exact (congrArg _ ey).trans (Cert.Reference3Ideal.Hand.res_h _ _ _ _ _ _ _ _ _ _ (y 0) (y 1))

set_option maxHeartbeats 4000000 in
/-- The up-projections' kernel and reference end with the same queries, keys and values. -/
theorem up_algebraic : @Cert.algebraic_Kernel4Ideal_Reference4Ideal Cert.Kernel4Ideal.Gen.facts Cert.Reference4Ideal.Gen.facts := by
  intro m g m' g' _ hagree
  refine ⟨fun c => fun y : Cert.Kernel4Ideal.S4x32768x512.Idx => Cert.UpMath.gq (Cert.Kernel4Ideal.Hand.X0 m c) (Cert.Kernel4Ideal.Hand.X3 m c) (Cert.Kernel4Ideal.Hand.X4 m c) (Cert.Kernel4Ideal.Hand.X5 m c) (y 0).val (y 1).val (y 2).val,
    fun c => fun y : Cert.Kernel4Ideal.S4x32768x512.Idx => Cert.UpMath.gk (Cert.Kernel4Ideal.Hand.X1 m c) (Cert.Kernel4Ideal.Hand.X2 m c) (Cert.Kernel4Ideal.Hand.X3 m c) (Cert.Kernel4Ideal.Hand.X4 m c) (Cert.Kernel4Ideal.Hand.X6 m c) (y 0).val (y 1).val (y 2).val,
    fun c => fun y : Cert.Kernel4Ideal.S4x32768x256.Idx => Cert.UpMath.gv (Cert.Kernel4Ideal.Hand.X1 m c) (Cert.Kernel4Ideal.Hand.X6 m c) (y 0).val (y 1).val (y 2).val, ?_, ?_⟩
  · run_from Cert.Kernel4Ideal.Value.run_blocks m g
    · exact Cert.Kernel4Ideal.Hand.final10 m c
    · exact Cert.Kernel4Ideal.Hand.final11 m c
    · exact Cert.Kernel4Ideal.Hand.final12 m c
  · run_from Cert.Reference4Ideal.Value.run m' g'
    · obtain ⟨e0, e1, e2, e3, e4, e5, e6⟩ := hagree c
      refine (Cert.Reference4Ideal.Read.val_main_v55_eq _ _ _ _).trans ?_
      simp only [e0, e3, e4, e5]
      funext y
      have ey : y = ix3 (y 0) (y 1) (y 2) := funext fun a => by match a with | ⟨0, _⟩ => rfl | ⟨1, _⟩ => rfl | ⟨2, _⟩ => rfl
      exact (congrArg _ ey).trans (Cert.Reference4Ideal.Hand.res_q _ _ _ _ (y 0) (y 1) (y 2))
    · obtain ⟨e0, e1, e2, e3, e4, e5, e6⟩ := hagree c
      refine (Cert.Reference4Ideal.Read.val_main_v56_eq _ _ _ _ _).trans ?_
      simp only [e1, e2, e3, e4, e6]
      funext y
      have ey : y = ix3 (y 0) (y 1) (y 2) := funext fun a => by match a with | ⟨0, _⟩ => rfl | ⟨1, _⟩ => rfl | ⟨2, _⟩ => rfl
      exact (congrArg _ ey).trans (Cert.Reference4Ideal.Hand.res_k _ _ _ _ _ (y 0) (y 1) (y 2))
    · obtain ⟨e0, e1, e2, e3, e4, e5, e6⟩ := hagree c
      refine (Cert.Reference4Ideal.Read.val_main_v57_eq _ _).trans ?_
      funext y
      have ey : y = ix3 (y 0) (y 1) (y 2) := funext fun a => by match a with | ⟨0, _⟩ => rfl | ⟨1, _⟩ => rfl | ⟨2, _⟩ => rfl
      exact (congrArg _ ey).trans (Cert.Reference4Ideal.Hand.res_v _ _ (y 0) (y 1) (y 2))

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_qk.pre_facts,
    fun m g _ => Cert.Kernel.Hand.frame m g, fun m g _ => Cert.KernelIdeal.Hand.frame m g,
    fun m g _ => Cert.KernelIdeal.Hand.frame m g, reference_frame, fun m g _ => reference_frame m g trivial,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    IdealRules.named_const.statement Cert.KernelIdeal.κ "mask" .f32 0xF149F2CA#32 ⊥ rfl, flash_algebraic,
    IdealRules.named_const.statement Cert.Kernel2Ideal.κ "qscale" .f32 0x3E0293EE#32 ((((Real.sqrt 128) * (Real.log 2))⁻¹ : ℝ) : EReal) rfl, proj_algebraic,
    trivial, out_algebraic,
    IdealRules.named_const.statement Cert.Kernel4Ideal.κ "bscale" .f32 0x3DD53B95#32 ((((Real.sqrt 192) * (Real.log 2))⁻¹ : ℝ) : EReal) rfl, up_algebraic⟩

end Cert.Proof

end
